-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_ProjT (m : (ℓ : Loc Cert.ProjT.nD Cert.ProjT.τ Cert.ProjT.sig) → Buf (Elt Bits) ℓ) : Prop :=
  True

def Pre_ProjTIdeal (m : (ℓ : Loc Cert.ProjTIdeal.nD Cert.ProjTIdeal.τ Cert.ProjTIdeal.sig) → Buf (Elt Ideal) ℓ) : Prop :=
  True

def Pre_ProjTRefIdeal (m : (ℓ : Loc Cert.ProjTRefIdeal.nD Cert.ProjTRefIdeal.τ Cert.ProjTRefIdeal.sig) → Buf (Elt Ideal) ℓ) : Prop :=
  True

def Pre_FfnNext (m : (ℓ : Loc Cert.FfnNext.nD Cert.FfnNext.τ Cert.FfnNext.sig) → Buf (Elt Bits) ℓ) : Prop :=
  True

def Pre_FfnNextIdeal (m : (ℓ : Loc Cert.FfnNextIdeal.nD Cert.FfnNextIdeal.τ Cert.FfnNextIdeal.sig) → Buf (Elt Ideal) ℓ) : Prop :=
  True

def Pre_FfnNextRefIdeal (m : (ℓ : Loc Cert.FfnNextRefIdeal.nD Cert.FfnNextRefIdeal.τ Cert.FfnNextRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def quiescent_ProjT [hProjT : Cert.ProjT.Facts] : Prop :=
  ∀ (m : (ℓ : Loc Cert.ProjT.nD Cert.ProjT.τ Cert.ProjT.sig) → Buf (Elt Bits) ℓ) (g : Dev Cert.ProjT.nD → PrngReg), Pre_ProjT m →
    θ_run (Cert.ProjT.defs (F := Bits)) (onTc (τ := Cert.ProjT.τ) (Cert.ProjT.main (F := Bits))) ⟨m, fun _ => 0, g⟩ (fun r => (∀ c : Dev Cert.ProjT.nD,
      r.2.mem ((c.tc : Thread Cert.ProjT.nD Cert.ProjT.τ).loc Cert.ProjT.main_arg0) = m ((c.tc : Thread Cert.ProjT.nD Cert.ProjT.τ).loc Cert.ProjT.main_arg0)
      ∧ r.2.mem ((c.tc : Thread Cert.ProjT.nD Cert.ProjT.τ).loc Cert.ProjT.main_arg1) = m ((c.tc : Thread Cert.ProjT.nD Cert.ProjT.τ).loc Cert.ProjT.main_arg1))
      ∧ r.2.sem = fun _ => 0)

def quiescent_ProjTIdeal [hProjTIdeal : Cert.ProjTIdeal.Facts] : Prop :=
  ∀ (m : (ℓ : Loc Cert.ProjTIdeal.nD Cert.ProjTIdeal.τ Cert.ProjTIdeal.sig) → Buf (Elt Ideal) ℓ) (g : Dev Cert.ProjTIdeal.nD → PrngReg), Pre_ProjTIdeal m →
    θ_run (Cert.ProjTIdeal.defs (F := Ideal)) (onTc (τ := Cert.ProjTIdeal.τ) (Cert.ProjTIdeal.main (F := Ideal))) ⟨m, fun _ => 0, g⟩ (fun r => (∀ c : Dev Cert.ProjTIdeal.nD,
      r.2.mem ((c.tc : Thread Cert.ProjTIdeal.nD Cert.ProjTIdeal.τ).loc Cert.ProjTIdeal.main_arg0) = m ((c.tc : Thread Cert.ProjTIdeal.nD Cert.ProjTIdeal.τ).loc Cert.ProjTIdeal.main_arg0)
      ∧ r.2.mem ((c.tc : Thread Cert.ProjTIdeal.nD Cert.ProjTIdeal.τ).loc Cert.ProjTIdeal.main_arg1) = m ((c.tc : Thread Cert.ProjTIdeal.nD Cert.ProjTIdeal.τ).loc Cert.ProjTIdeal.main_arg1))
      ∧ r.2.sem = fun _ => 0)

def quiescent_ProjTRefIdeal [hProjTRefIdeal : Cert.ProjTRefIdeal.Facts] : Prop :=
  ∀ (m : (ℓ : Loc Cert.ProjTRefIdeal.nD Cert.ProjTRefIdeal.τ Cert.ProjTRefIdeal.sig) → Buf (Elt Ideal) ℓ) (g : Dev Cert.ProjTRefIdeal.nD → PrngReg), Pre_ProjTRefIdeal m →
    θ_run (Cert.ProjTRefIdeal.defs (F := Ideal)) (onTc (τ := Cert.ProjTRefIdeal.τ) (Cert.ProjTRefIdeal.main (F := Ideal))) ⟨m, fun _ => 0, g⟩ (fun r => (∀ c : Dev Cert.ProjTRefIdeal.nD,
      r.2.mem ((c.tc : Thread Cert.ProjTRefIdeal.nD Cert.ProjTRefIdeal.τ).loc Cert.ProjTRefIdeal.main_arg0) = m ((c.tc : Thread Cert.ProjTRefIdeal.nD Cert.ProjTRefIdeal.τ).loc Cert.ProjTRefIdeal.main_arg0)
      ∧ r.2.mem ((c.tc : Thread Cert.ProjTRefIdeal.nD Cert.ProjTRefIdeal.τ).loc Cert.ProjTRefIdeal.main_arg1) = m ((c.tc : Thread Cert.ProjTRefIdeal.nD Cert.ProjTRefIdeal.τ).loc Cert.ProjTRefIdeal.main_arg1))
      ∧ r.2.sem = fun _ => 0)

def quiescent_FfnNext [hFfnNext : Cert.FfnNext.Facts] : Prop :=
  ∀ (m : (ℓ : Loc Cert.FfnNext.nD Cert.FfnNext.τ Cert.FfnNext.sig) → Buf (Elt Bits) ℓ) (g : Dev Cert.FfnNext.nD → PrngReg), Pre_FfnNext m →
    θ_run (Cert.FfnNext.defs (F := Bits)) (onTc (τ := Cert.FfnNext.τ) (Cert.FfnNext.main (F := Bits))) ⟨m, fun _ => 0, g⟩ (fun r => (∀ c : Dev Cert.FfnNext.nD,
      r.2.mem ((c.tc : Thread Cert.FfnNext.nD Cert.FfnNext.τ).loc Cert.FfnNext.main_arg0) = m ((c.tc : Thread Cert.FfnNext.nD Cert.FfnNext.τ).loc Cert.FfnNext.main_arg0)
      ∧ r.2.mem ((c.tc : Thread Cert.FfnNext.nD Cert.FfnNext.τ).loc Cert.FfnNext.main_arg1) = m ((c.tc : Thread Cert.FfnNext.nD Cert.FfnNext.τ).loc Cert.FfnNext.main_arg1)
      ∧ r.2.mem ((c.tc : Thread Cert.FfnNext.nD Cert.FfnNext.τ).loc Cert.FfnNext.main_arg2) = m ((c.tc : Thread Cert.FfnNext.nD Cert.FfnNext.τ).loc Cert.FfnNext.main_arg2)
      ∧ r.2.mem ((c.tc : Thread Cert.FfnNext.nD Cert.FfnNext.τ).loc Cert.FfnNext.main_arg3) = m ((c.tc : Thread Cert.FfnNext.nD Cert.FfnNext.τ).loc Cert.FfnNext.main_arg3)
      ∧ r.2.mem ((c.tc : Thread Cert.FfnNext.nD Cert.FfnNext.τ).loc Cert.FfnNext.main_arg4) = m ((c.tc : Thread Cert.FfnNext.nD Cert.FfnNext.τ).loc Cert.FfnNext.main_arg4)
      ∧ r.2.mem ((c.tc : Thread Cert.FfnNext.nD Cert.FfnNext.τ).loc Cert.FfnNext.main_arg5) = m ((c.tc : Thread Cert.FfnNext.nD Cert.FfnNext.τ).loc Cert.FfnNext.main_arg5))
      ∧ r.2.sem = fun _ => 0)

def quiescent_FfnNextIdeal [hFfnNextIdeal : Cert.FfnNextIdeal.Facts] : Prop :=
  ∀ (m : (ℓ : Loc Cert.FfnNextIdeal.nD Cert.FfnNextIdeal.τ Cert.FfnNextIdeal.sig) → Buf (Elt Ideal) ℓ) (g : Dev Cert.FfnNextIdeal.nD → PrngReg), Pre_FfnNextIdeal m →
    θ_run (Cert.FfnNextIdeal.defs (F := Ideal)) (onTc (τ := Cert.FfnNextIdeal.τ) (Cert.FfnNextIdeal.main (F := Ideal))) ⟨m, fun _ => 0, g⟩ (fun r => (∀ c : Dev Cert.FfnNextIdeal.nD,
      r.2.mem ((c.tc : Thread Cert.FfnNextIdeal.nD Cert.FfnNextIdeal.τ).loc Cert.FfnNextIdeal.main_arg0) = m ((c.tc : Thread Cert.FfnNextIdeal.nD Cert.FfnNextIdeal.τ).loc Cert.FfnNextIdeal.main_arg0)
      ∧ r.2.mem ((c.tc : Thread Cert.FfnNextIdeal.nD Cert.FfnNextIdeal.τ).loc Cert.FfnNextIdeal.main_arg1) = m ((c.tc : Thread Cert.FfnNextIdeal.nD Cert.FfnNextIdeal.τ).loc Cert.FfnNextIdeal.main_arg1)
      ∧ r.2.mem ((c.tc : Thread Cert.FfnNextIdeal.nD Cert.FfnNextIdeal.τ).loc Cert.FfnNextIdeal.main_arg2) = m ((c.tc : Thread Cert.FfnNextIdeal.nD Cert.FfnNextIdeal.τ).loc Cert.FfnNextIdeal.main_arg2)
      ∧ r.2.mem ((c.tc : Thread Cert.FfnNextIdeal.nD Cert.FfnNextIdeal.τ).loc Cert.FfnNextIdeal.main_arg3) = m ((c.tc : Thread Cert.FfnNextIdeal.nD Cert.FfnNextIdeal.τ).loc Cert.FfnNextIdeal.main_arg3)
      ∧ r.2.mem ((c.tc : Thread Cert.FfnNextIdeal.nD Cert.FfnNextIdeal.τ).loc Cert.FfnNextIdeal.main_arg4) = m ((c.tc : Thread Cert.FfnNextIdeal.nD Cert.FfnNextIdeal.τ).loc Cert.FfnNextIdeal.main_arg4)
      ∧ r.2.mem ((c.tc : Thread Cert.FfnNextIdeal.nD Cert.FfnNextIdeal.τ).loc Cert.FfnNextIdeal.main_arg5) = m ((c.tc : Thread Cert.FfnNextIdeal.nD Cert.FfnNextIdeal.τ).loc Cert.FfnNextIdeal.main_arg5))
      ∧ r.2.sem = fun _ => 0)

def quiescent_FfnNextRefIdeal [hFfnNextRefIdeal : Cert.FfnNextRefIdeal.Facts] : Prop :=
  ∀ (m : (ℓ : Loc Cert.FfnNextRefIdeal.nD Cert.FfnNextRefIdeal.τ Cert.FfnNextRefIdeal.sig) → Buf (Elt Ideal) ℓ) (g : Dev Cert.FfnNextRefIdeal.nD → PrngReg), Pre_FfnNextRefIdeal m →
    θ_run (Cert.FfnNextRefIdeal.defs (F := Ideal)) (onTc (τ := Cert.FfnNextRefIdeal.τ) (Cert.FfnNextRefIdeal.main (F := Ideal))) ⟨m, fun _ => 0, g⟩ (fun r => (∀ c : Dev Cert.FfnNextRefIdeal.nD,
      r.2.mem ((c.tc : Thread Cert.FfnNextRefIdeal.nD Cert.FfnNextRefIdeal.τ).loc Cert.FfnNextRefIdeal.main_arg0) = m ((c.tc : Thread Cert.FfnNextRefIdeal.nD Cert.FfnNextRefIdeal.τ).loc Cert.FfnNextRefIdeal.main_arg0)
      ∧ r.2.mem ((c.tc : Thread Cert.FfnNextRefIdeal.nD Cert.FfnNextRefIdeal.τ).loc Cert.FfnNextRefIdeal.main_arg1) = m ((c.tc : Thread Cert.FfnNextRefIdeal.nD Cert.FfnNextRefIdeal.τ).loc Cert.FfnNextRefIdeal.main_arg1)
      ∧ r.2.mem ((c.tc : Thread Cert.FfnNextRefIdeal.nD Cert.FfnNextRefIdeal.τ).loc Cert.FfnNextRefIdeal.main_arg2) = m ((c.tc : Thread Cert.FfnNextRefIdeal.nD Cert.FfnNextRefIdeal.τ).loc Cert.FfnNextRefIdeal.main_arg2)
      ∧ r.2.mem ((c.tc : Thread Cert.FfnNextRefIdeal.nD Cert.FfnNextRefIdeal.τ).loc Cert.FfnNextRefIdeal.main_arg3) = m ((c.tc : Thread Cert.FfnNextRefIdeal.nD Cert.FfnNextRefIdeal.τ).loc Cert.FfnNextRefIdeal.main_arg3)
      ∧ r.2.mem ((c.tc : Thread Cert.FfnNextRefIdeal.nD Cert.FfnNextRefIdeal.τ).loc Cert.FfnNextRefIdeal.main_arg4) = m ((c.tc : Thread Cert.FfnNextRefIdeal.nD Cert.FfnNextRefIdeal.τ).loc Cert.FfnNextRefIdeal.main_arg4)
      ∧ r.2.mem ((c.tc : Thread Cert.FfnNextRefIdeal.nD Cert.FfnNextRefIdeal.τ).loc Cert.FfnNextRefIdeal.main_arg5) = m ((c.tc : Thread Cert.FfnNextRefIdeal.nD Cert.FfnNextRefIdeal.τ).loc Cert.FfnNextRefIdeal.main_arg5))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v9)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v9) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v43) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v7)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v7) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v53) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v16_0)) (v1 : (c : Dev Cert.ProjIdeal.nD) → Buf (Elt Ideal) ((c.tc : Thread Cert.ProjIdeal.nD Cert.ProjIdeal.τ).loc Cert.ProjIdeal.main_v16_1)) (v2 : (c : Dev Cert.ProjIdeal.nD) → Buf (Elt Ideal) ((c.tc : Thread Cert.ProjIdeal.nD Cert.ProjIdeal.τ).loc Cert.ProjIdeal.main_v16_2)) (v3 : (c : Dev Cert.ProjIdeal.nD) → Buf (Elt Ideal) ((c.tc : Thread Cert.ProjIdeal.nD Cert.ProjIdeal.τ).loc Cert.ProjIdeal.main_v16_3)) (v4 : (c : Dev Cert.ProjIdeal.nD) → Buf (Elt Ideal) ((c.tc : Thread Cert.ProjIdeal.nD Cert.ProjIdeal.τ).loc Cert.ProjIdeal.main_v16_4)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v16_0) = v0 c
          ∧ r.2.mem ((c.tc : Thread Cert.ProjIdeal.nD Cert.ProjIdeal.τ).loc Cert.ProjIdeal.main_v16_1) = v1 c
          ∧ r.2.mem ((c.tc : Thread Cert.ProjIdeal.nD Cert.ProjIdeal.τ).loc Cert.ProjIdeal.main_v16_2) = v2 c
          ∧ r.2.mem ((c.tc : Thread Cert.ProjIdeal.nD Cert.ProjIdeal.τ).loc Cert.ProjIdeal.main_v16_3) = v3 c
          ∧ r.2.mem ((c.tc : Thread Cert.ProjIdeal.nD Cert.ProjIdeal.τ).loc Cert.ProjIdeal.main_v16_4) = v4 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v25) = v0 c
          ∧ r.2.mem ((c.tc : Thread Cert.ProjRefIdeal.nD Cert.ProjRefIdeal.τ).loc Cert.ProjRefIdeal.main_v67) = v1 c
          ∧ r.2.mem ((c.tc : Thread Cert.ProjRefIdeal.nD Cert.ProjRefIdeal.τ).loc Cert.ProjRefIdeal.main_v68) = v2 c
          ∧ r.2.mem ((c.tc : Thread Cert.ProjRefIdeal.nD Cert.ProjRefIdeal.τ).loc Cert.ProjRefIdeal.main_v78) = v3 c
          ∧ r.2.mem ((c.tc : Thread Cert.ProjRefIdeal.nD Cert.ProjRefIdeal.τ).loc Cert.ProjRefIdeal.main_v79) = v4 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4))

def preserves_ProjT_ProjTIdeal : Prop :=
  True

def algebraic_ProjTIdeal_ProjTRefIdeal [hProjTIdeal : Cert.ProjTIdeal.Facts] [hProjTRefIdeal : Cert.ProjTRefIdeal.Facts] : Prop :=
  ∀ (m : (ℓ : Loc Cert.ProjTIdeal.nD Cert.ProjTIdeal.τ Cert.ProjTIdeal.sig) → Buf (Elt Ideal) ℓ) (g : Dev Cert.ProjTIdeal.nD → PrngReg)
    (m' : (ℓ : Loc Cert.ProjTRefIdeal.nD Cert.ProjTRefIdeal.τ Cert.ProjTRefIdeal.sig) → Buf (Elt Ideal) ℓ) (g' : Dev Cert.ProjTRefIdeal.nD → PrngReg), Pre_ProjTIdeal m →
    (∀ c : Dev Cert.ProjTIdeal.nD,
      m' ((c.tc : Thread Cert.ProjTRefIdeal.nD Cert.ProjTRefIdeal.τ).loc Cert.ProjTRefIdeal.main_arg0) = m ((c.tc : Thread Cert.ProjTIdeal.nD Cert.ProjTIdeal.τ).loc Cert.ProjTIdeal.main_arg0)
      ∧ m' ((c.tc : Thread Cert.ProjTRefIdeal.nD Cert.ProjTRefIdeal.τ).loc Cert.ProjTRefIdeal.main_arg1) = m ((c.tc : Thread Cert.ProjTIdeal.nD Cert.ProjTIdeal.τ).loc Cert.ProjTIdeal.main_arg1)) →
    ∃ (v0 : (c : Dev Cert.ProjTIdeal.nD) → Buf (Elt Ideal) ((c.tc : Thread Cert.ProjTIdeal.nD Cert.ProjTIdeal.τ).loc Cert.ProjTIdeal.main_v12_0)) (v1 : (c : Dev Cert.ProjTIdeal.nD) → Buf (Elt Ideal) ((c.tc : Thread Cert.ProjTIdeal.nD Cert.ProjTIdeal.τ).loc Cert.ProjTIdeal.main_v12_1)) (v2 : (c : Dev Cert.ProjTIdeal.nD) → Buf (Elt Ideal) ((c.tc : Thread Cert.ProjTIdeal.nD Cert.ProjTIdeal.τ).loc Cert.ProjTIdeal.main_v12_2)) (v3 : (c : Dev Cert.ProjTIdeal.nD) → Buf (Elt Ideal) ((c.tc : Thread Cert.ProjTIdeal.nD Cert.ProjTIdeal.τ).loc Cert.ProjTIdeal.main_v12_3)),
      θ_run (Cert.ProjTIdeal.defs (F := Ideal)) (onTc (τ := Cert.ProjTIdeal.τ) (Cert.ProjTIdeal.main (F := Ideal))) ⟨m, fun _ => 0, g⟩ (fun r => ∀ c : Dev Cert.ProjTIdeal.nD,
          r.2.mem ((c.tc : Thread Cert.ProjTIdeal.nD Cert.ProjTIdeal.τ).loc Cert.ProjTIdeal.main_v12_0) = v0 c
          ∧ r.2.mem ((c.tc : Thread Cert.ProjTIdeal.nD Cert.ProjTIdeal.τ).loc Cert.ProjTIdeal.main_v12_1) = v1 c
          ∧ r.2.mem ((c.tc : Thread Cert.ProjTIdeal.nD Cert.ProjTIdeal.τ).loc Cert.ProjTIdeal.main_v12_2) = v2 c
          ∧ r.2.mem ((c.tc : Thread Cert.ProjTIdeal.nD Cert.ProjTIdeal.τ).loc Cert.ProjTIdeal.main_v12_3) = v3 c
          ∧ r.2.mem ((c.tc : Thread Cert.ProjTIdeal.nD Cert.ProjTIdeal.τ).loc Cert.ProjTIdeal.main_arg0) = m ((c.tc : Thread Cert.ProjTIdeal.nD Cert.ProjTIdeal.τ).loc Cert.ProjTIdeal.main_arg0)
          ∧ r.2.mem ((c.tc : Thread Cert.ProjTIdeal.nD Cert.ProjTIdeal.τ).loc Cert.ProjTIdeal.main_arg1) = m ((c.tc : Thread Cert.ProjTIdeal.nD Cert.ProjTIdeal.τ).loc Cert.ProjTIdeal.main_arg1))
      ∧ θ_run (Cert.ProjTRefIdeal.defs (F := Ideal)) (onTc (τ := Cert.ProjTRefIdeal.τ) (Cert.ProjTRefIdeal.main (F := Ideal))) ⟨m', fun _ => 0, g'⟩ (fun r => ∀ c : Dev Cert.ProjTRefIdeal.nD,
          r.2.mem ((c.tc : Thread Cert.ProjTRefIdeal.nD Cert.ProjTRefIdeal.τ).loc Cert.ProjTRefIdeal.main_v17) = v0 c
          ∧ r.2.mem ((c.tc : Thread Cert.ProjTRefIdeal.nD Cert.ProjTRefIdeal.τ).loc Cert.ProjTRefIdeal.main_v19) = v1 c
          ∧ r.2.mem ((c.tc : Thread Cert.ProjTRefIdeal.nD Cert.ProjTRefIdeal.τ).loc Cert.ProjTRefIdeal.main_v21) = v2 c
          ∧ r.2.mem ((c.tc : Thread Cert.ProjTRefIdeal.nD Cert.ProjTRefIdeal.τ).loc Cert.ProjTRefIdeal.main_v22) = v3 c
          ∧ r.2.mem ((c.tc : Thread Cert.ProjTRefIdeal.nD Cert.ProjTRefIdeal.τ).loc Cert.ProjTRefIdeal.main_arg0) = m' ((c.tc : Thread Cert.ProjTRefIdeal.nD Cert.ProjTRefIdeal.τ).loc Cert.ProjTRefIdeal.main_arg0)
          ∧ r.2.mem ((c.tc : Thread Cert.ProjTRefIdeal.nD Cert.ProjTRefIdeal.τ).loc Cert.ProjTRefIdeal.main_arg1) = m' ((c.tc : Thread Cert.ProjTRefIdeal.nD Cert.ProjTRefIdeal.τ).loc Cert.ProjTRefIdeal.main_arg1))

def preserves_FfnNext_FfnNextIdeal : Prop :=
  True

def algebraic_FfnNextIdeal_FfnNextRefIdeal [hFfnNextIdeal : Cert.FfnNextIdeal.Facts] [hFfnNextRefIdeal : Cert.FfnNextRefIdeal.Facts] : Prop :=
  ∀ (m : (ℓ : Loc Cert.FfnNextIdeal.nD Cert.FfnNextIdeal.τ Cert.FfnNextIdeal.sig) → Buf (Elt Ideal) ℓ) (g : Dev Cert.FfnNextIdeal.nD → PrngReg)
    (m' : (ℓ : Loc Cert.FfnNextRefIdeal.nD Cert.FfnNextRefIdeal.τ Cert.FfnNextRefIdeal.sig) → Buf (Elt Ideal) ℓ) (g' : Dev Cert.FfnNextRefIdeal.nD → PrngReg), Pre_FfnNextIdeal m →
    (∀ c : Dev Cert.FfnNextIdeal.nD,
      m' ((c.tc : Thread Cert.FfnNextRefIdeal.nD Cert.FfnNextRefIdeal.τ).loc Cert.FfnNextRefIdeal.main_arg0) = m ((c.tc : Thread Cert.FfnNextIdeal.nD Cert.FfnNextIdeal.τ).loc Cert.FfnNextIdeal.main_arg0)
      ∧ m' ((c.tc : Thread Cert.FfnNextRefIdeal.nD Cert.FfnNextRefIdeal.τ).loc Cert.FfnNextRefIdeal.main_arg1) = m ((c.tc : Thread Cert.FfnNextIdeal.nD Cert.FfnNextIdeal.τ).loc Cert.FfnNextIdeal.main_arg1)
      ∧ m' ((c.tc : Thread Cert.FfnNextRefIdeal.nD Cert.FfnNextRefIdeal.τ).loc Cert.FfnNextRefIdeal.main_arg2) = m ((c.tc : Thread Cert.FfnNextIdeal.nD Cert.FfnNextIdeal.τ).loc Cert.FfnNextIdeal.main_arg2)
      ∧ m' ((c.tc : Thread Cert.FfnNextRefIdeal.nD Cert.FfnNextRefIdeal.τ).loc Cert.FfnNextRefIdeal.main_arg3) = m ((c.tc : Thread Cert.FfnNextIdeal.nD Cert.FfnNextIdeal.τ).loc Cert.FfnNextIdeal.main_arg3)
      ∧ m' ((c.tc : Thread Cert.FfnNextRefIdeal.nD Cert.FfnNextRefIdeal.τ).loc Cert.FfnNextRefIdeal.main_arg4) = m ((c.tc : Thread Cert.FfnNextIdeal.nD Cert.FfnNextIdeal.τ).loc Cert.FfnNextIdeal.main_arg4)
      ∧ m' ((c.tc : Thread Cert.FfnNextRefIdeal.nD Cert.FfnNextRefIdeal.τ).loc Cert.FfnNextRefIdeal.main_arg5) = m ((c.tc : Thread Cert.FfnNextIdeal.nD Cert.FfnNextIdeal.τ).loc Cert.FfnNextIdeal.main_arg5)) →
    ∃ (v0 : (c : Dev Cert.FfnNextIdeal.nD) → Buf (Elt Ideal) ((c.tc : Thread Cert.FfnNextIdeal.nD Cert.FfnNextIdeal.τ).loc Cert.FfnNextIdeal.main_v12_0)) (v1 : (c : Dev Cert.FfnNextIdeal.nD) → Buf (Elt Ideal) ((c.tc : Thread Cert.FfnNextIdeal.nD Cert.FfnNextIdeal.τ).loc Cert.FfnNextIdeal.main_v12_1)),
      θ_run (Cert.FfnNextIdeal.defs (F := Ideal)) (onTc (τ := Cert.FfnNextIdeal.τ) (Cert.FfnNextIdeal.main (F := Ideal))) ⟨m, fun _ => 0, g⟩ (fun r => ∀ c : Dev Cert.FfnNextIdeal.nD,
          r.2.mem ((c.tc : Thread Cert.FfnNextIdeal.nD Cert.FfnNextIdeal.τ).loc Cert.FfnNextIdeal.main_v12_0) = v0 c
          ∧ r.2.mem ((c.tc : Thread Cert.FfnNextIdeal.nD Cert.FfnNextIdeal.τ).loc Cert.FfnNextIdeal.main_v12_1) = v1 c
          ∧ r.2.mem ((c.tc : Thread Cert.FfnNextIdeal.nD Cert.FfnNextIdeal.τ).loc Cert.FfnNextIdeal.main_arg0) = m ((c.tc : Thread Cert.FfnNextIdeal.nD Cert.FfnNextIdeal.τ).loc Cert.FfnNextIdeal.main_arg0)
          ∧ r.2.mem ((c.tc : Thread Cert.FfnNextIdeal.nD Cert.FfnNextIdeal.τ).loc Cert.FfnNextIdeal.main_arg1) = m ((c.tc : Thread Cert.FfnNextIdeal.nD Cert.FfnNextIdeal.τ).loc Cert.FfnNextIdeal.main_arg1)
          ∧ r.2.mem ((c.tc : Thread Cert.FfnNextIdeal.nD Cert.FfnNextIdeal.τ).loc Cert.FfnNextIdeal.main_arg2) = m ((c.tc : Thread Cert.FfnNextIdeal.nD Cert.FfnNextIdeal.τ).loc Cert.FfnNextIdeal.main_arg2)
          ∧ r.2.mem ((c.tc : Thread Cert.FfnNextIdeal.nD Cert.FfnNextIdeal.τ).loc Cert.FfnNextIdeal.main_arg3) = m ((c.tc : Thread Cert.FfnNextIdeal.nD Cert.FfnNextIdeal.τ).loc Cert.FfnNextIdeal.main_arg3)
          ∧ r.2.mem ((c.tc : Thread Cert.FfnNextIdeal.nD Cert.FfnNextIdeal.τ).loc Cert.FfnNextIdeal.main_arg4) = m ((c.tc : Thread Cert.FfnNextIdeal.nD Cert.FfnNextIdeal.τ).loc Cert.FfnNextIdeal.main_arg4)
          ∧ r.2.mem ((c.tc : Thread Cert.FfnNextIdeal.nD Cert.FfnNextIdeal.τ).loc Cert.FfnNextIdeal.main_arg5) = m ((c.tc : Thread Cert.FfnNextIdeal.nD Cert.FfnNextIdeal.τ).loc Cert.FfnNextIdeal.main_arg5))
      ∧ θ_run (Cert.FfnNextRefIdeal.defs (F := Ideal)) (onTc (τ := Cert.FfnNextRefIdeal.τ) (Cert.FfnNextRefIdeal.main (F := Ideal))) ⟨m', fun _ => 0, g'⟩ (fun r => ∀ c : Dev Cert.FfnNextRefIdeal.nD,
          r.2.mem ((c.tc : Thread Cert.FfnNextRefIdeal.nD Cert.FfnNextRefIdeal.τ).loc Cert.FfnNextRefIdeal.main_v43) = v0 c
          ∧ r.2.mem ((c.tc : Thread Cert.FfnNextRefIdeal.nD Cert.FfnNextRefIdeal.τ).loc Cert.FfnNextRefIdeal.main_v59) = v1 c
          ∧ r.2.mem ((c.tc : Thread Cert.FfnNextRefIdeal.nD Cert.FfnNextRefIdeal.τ).loc Cert.FfnNextRefIdeal.main_arg0) = m' ((c.tc : Thread Cert.FfnNextRefIdeal.nD Cert.FfnNextRefIdeal.τ).loc Cert.FfnNextRefIdeal.main_arg0)
          ∧ r.2.mem ((c.tc : Thread Cert.FfnNextRefIdeal.nD Cert.FfnNextRefIdeal.τ).loc Cert.FfnNextRefIdeal.main_arg1) = m' ((c.tc : Thread Cert.FfnNextRefIdeal.nD Cert.FfnNextRefIdeal.τ).loc Cert.FfnNextRefIdeal.main_arg1)
          ∧ r.2.mem ((c.tc : Thread Cert.FfnNextRefIdeal.nD Cert.FfnNextRefIdeal.τ).loc Cert.FfnNextRefIdeal.main_arg2) = m' ((c.tc : Thread Cert.FfnNextRefIdeal.nD Cert.FfnNextRefIdeal.τ).loc Cert.FfnNextRefIdeal.main_arg2)
          ∧ r.2.mem ((c.tc : Thread Cert.FfnNextRefIdeal.nD Cert.FfnNextRefIdeal.τ).loc Cert.FfnNextRefIdeal.main_arg3) = m' ((c.tc : Thread Cert.FfnNextRefIdeal.nD Cert.FfnNextRefIdeal.τ).loc Cert.FfnNextRefIdeal.main_arg3)
          ∧ r.2.mem ((c.tc : Thread Cert.FfnNextRefIdeal.nD Cert.FfnNextRefIdeal.τ).loc Cert.FfnNextRefIdeal.main_arg4) = m' ((c.tc : Thread Cert.FfnNextRefIdeal.nD Cert.FfnNextRefIdeal.τ).loc Cert.FfnNextRefIdeal.main_arg4)
          ∧ r.2.mem ((c.tc : Thread Cert.FfnNextRefIdeal.nD Cert.FfnNextRefIdeal.τ).loc Cert.FfnNextRefIdeal.main_arg5) = m' ((c.tc : Thread Cert.FfnNextRefIdeal.nD Cert.FfnNextRefIdeal.τ).loc Cert.FfnNextRefIdeal.main_arg5))

def Claim : Prop :=
  ∃ (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hProj : Cert.Proj.Facts) (hProjIdeal : Cert.ProjIdeal.Facts) (hProjRefIdeal : Cert.ProjRefIdeal.Facts) (hProjT : Cert.ProjT.Facts) (hProjTIdeal : Cert.ProjTIdeal.Facts) (hProjTRefIdeal : Cert.ProjTRefIdeal.Facts) (hFfnNext : Cert.FfnNext.Facts) (hFfnNextIdeal : Cert.FfnNextIdeal.Facts) (hFfnNextRefIdeal : Cert.FfnNextRefIdeal.Facts),
    quiescent_Ffn (hFfn := hFfn)
    ∧ quiescent_FfnIdeal (hFfnIdeal := hFfnIdeal)
    ∧ quiescent_FfnRefIdeal (hFfnRefIdeal := hFfnRefIdeal)
    ∧ quiescent_Merge (hMerge := hMerge)
    ∧ quiescent_MergeIdeal (hMergeIdeal := hMergeIdeal)
    ∧ quiescent_MergeRefIdeal (hMergeRefIdeal := hMergeRefIdeal)
    ∧ quiescent_Proj (hProj := hProj)
    ∧ quiescent_ProjIdeal (hProjIdeal := hProjIdeal)
    ∧ quiescent_ProjRefIdeal (hProjRefIdeal := hProjRefIdeal)
    ∧ quiescent_ProjT (hProjT := hProjT)
    ∧ quiescent_ProjTIdeal (hProjTIdeal := hProjTIdeal)
    ∧ quiescent_ProjTRefIdeal (hProjTRefIdeal := hProjTRefIdeal)
    ∧ quiescent_FfnNext (hFfnNext := hFfnNext)
    ∧ quiescent_FfnNextIdeal (hFfnNextIdeal := hFfnNextIdeal)
    ∧ quiescent_FfnNextRefIdeal (hFfnNextRefIdeal := hFfnNextRefIdeal)
    ∧ preserves_Ffn_FfnIdeal
    ∧ algebraic_FfnIdeal_FfnRefIdeal (hFfnIdeal := hFfnIdeal) (hFfnRefIdeal := hFfnRefIdeal)
    ∧ preserves_Merge_MergeIdeal
    ∧ algebraic_MergeIdeal_MergeRefIdeal (hMergeIdeal := hMergeIdeal) (hMergeRefIdeal := hMergeRefIdeal)
    ∧ preserves_Proj_ProjIdeal
    ∧ algebraic_ProjIdeal_ProjRefIdeal (hProjIdeal := hProjIdeal) (hProjRefIdeal := hProjRefIdeal)
    ∧ preserves_ProjT_ProjTIdeal
    ∧ algebraic_ProjTIdeal_ProjTRefIdeal (hProjTIdeal := hProjTIdeal) (hProjTRefIdeal := hProjTRefIdeal)
    ∧ preserves_FfnNext_FfnNextIdeal
    ∧ algebraic_FfnNextIdeal_FfnNextRefIdeal (hFfnNextIdeal := hFfnNextIdeal) (hFfnNextRefIdeal := hFfnNextRefIdeal)
-- ==== Ffn.lean ====
abbrev S4x4096x2048 : Shape := ⟨3, ![4, 4096, 2048]⟩
abbrev S2x2048 : Shape := ⟨2, ![2, 2048]⟩
abbrev S2x2048x11264 : Shape := ⟨3, ![2, 2048, 11264]⟩
abbrev S2x5632x2048 : Shape := ⟨3, ![2, 5632, 2048]⟩
abbrev S16384x2048 : Shape := ⟨2, ![16384, 2048]⟩
abbrev S1x2048 : Shape := ⟨2, ![1, 2048]⟩
abbrev S2048 : Shape := ⟨1, ![2048]⟩
abbrev S512x2048 : Shape := ⟨2, ![512, 2048]⟩
abbrev S1x2048x512 : Shape := ⟨3, ![1, 2048, 512]⟩
abbrev S1x512x2048 : Shape := ⟨3, ![1, 512, 2048]⟩
abbrev S512 : Shape := ⟨1, ![512]⟩
abbrev S512x1 : Shape := ⟨2, ![512, 1]⟩
abbrev S1x2048x256 : Shape := ⟨3, ![1, 2048, 256]⟩
abbrev S2048x256 : Shape := ⟨2, ![2048, 256]⟩
abbrev S512x256 : Shape := ⟨2, ![512, 256]⟩
abbrev S512x512 : Shape := ⟨2, ![512, 512]⟩

abbrev nBuf : Space → Nat
  | .hbm => 15
  | .vmem => 14
  | .smem => 0
  | _ => 0

abbrev bufTy : (tb : Table) → Fin (tcTables nBuf tb) → BufTy
  | .hbm, ⟨0, _⟩ => ⟨S4x4096x2048, .f32⟩
  | .hbm, ⟨1, _⟩ => ⟨S2x2048, .f32⟩
  | .hbm, ⟨2, _⟩ => ⟨S2x2048, .f32⟩
  | .hbm, ⟨3, _⟩ => ⟨S2x2048x11264, .f32⟩
  | .hbm, ⟨4, _⟩ => ⟨S2x5632x2048, .f32⟩
  | .hbm, ⟨5, _⟩ => ⟨S16384x2048, .f32⟩
  | .hbm, ⟨6, _⟩ => ⟨S1x2048, .f32⟩
  | .hbm, ⟨7, _⟩ => ⟨S2048, .f32⟩
  | .hbm, ⟨8, _⟩ => ⟨S1x2048, .f32⟩
  | .hbm, ⟨9, _⟩ => ⟨S2048, .f32⟩
  | .hbm, ⟨10, _⟩ => ⟨S2x2048x11264, .bf16⟩
  | .hbm, ⟨11, _⟩ => ⟨S2x5632x2048, .bf16⟩
  | .hbm, ⟨12, _⟩ => ⟨S1x2048, .f32⟩
  | .hbm, ⟨13, _⟩ => ⟨S1x2048, .f32⟩
  | .hbm, ⟨14, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x512x2048, .bf16⟩
  | .local _ .vmem, ⟨9, _⟩ => ⟨S1x512x2048, .bf16⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v33 : BitVec 1 := Scalar.cmpi .eq arg1 c10_i32
  let v34 : BitVec 32 := Scalar.extui v33
  let c0_i32_24 : BitVec 32 := 0#32
  let v35 : BitVec 1 := Scalar.cmpi .ne v34 c0_i32_24
  v35

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c1_i32 : BitVec 32 := 1#32
  let c0_i32 : BitVec 32 := 0#32
  let c0_i32_0 : BitVec 32 := 0#32
  ![c1_i32.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnRefIdeal.lean ====
abbrev S4x4096x2048 : Shape := ⟨3, ![4, 4096, 2048]⟩
abbrev S2x2048 : Shape := ⟨2, ![2, 2048]⟩
abbrev S2x2048x11264 : Shape := ⟨3, ![2, 2048, 11264]⟩
abbrev S2x5632x2048 : Shape := ⟨3, ![2, 5632, 2048]⟩
abbrev S16384x2048 : Shape := ⟨2, ![16384, 2048]⟩
abbrev S1x2048 : Shape := ⟨2, ![1, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048x11264 : Shape := ⟨3, ![1, 2048, 11264]⟩
abbrev S2048x11264 : Shape := ⟨2, ![2048, 11264]⟩
abbrev S1x5632x2048 : Shape := ⟨3, ![1, 5632, 2048]⟩
abbrev S5632x2048 : Shape := ⟨2, ![5632, 2048]⟩
abbrev S16384x11264 : Shape := ⟨2, ![16384, 11264]⟩
abbrev S16384x5632 : Shape := ⟨2, ![16384, 5632]⟩

abbrev nBuf : Space → Nat
  | .hbm => 64
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2x2048, .f32⟩
  | .hbm, ⟨2, _⟩ => ⟨S2x2048, .f32⟩
  | .hbm, ⟨3, _⟩ => ⟨S2x2048x11264, .f32⟩
  | .hbm, ⟨4, _⟩ => ⟨S2x5632x2048, .f32⟩
  | .hbm, ⟨5, _⟩ => ⟨S16384x2048, .f32⟩
  | .hbm, ⟨6, _⟩ => ⟨S1x2048, .f32⟩
  | .hbm, ⟨7, _⟩ => ⟨S2048, .f32⟩
  | .hbm, ⟨8, _⟩ => ⟨S16384x2048, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x2048, .f32⟩
  | .hbm, ⟨20, _⟩ => ⟨S16384x2048, .f32⟩
  | .hbm, ⟨21, _⟩ => ⟨S1x2048, .f32⟩
  | .hbm, ⟨22, _⟩ => ⟨S16384x2048, .f32⟩
  | .hbm, ⟨23, _⟩ => ⟨S16384x2048, .f32⟩
  | .hbm, ⟨24, _⟩ => ⟨S1x2048x11264, .f32⟩
  | .hbm, ⟨25, _⟩ => ⟨S2048x11264, .f32⟩
  | .hbm, ⟨26, _⟩ => ⟨S1x5632x2048, .f32⟩
  | .hbm, ⟨27, _⟩ => ⟨S5632x2048, .f32⟩
  | .hbm, ⟨28, _⟩ => ⟨S16384x11264, .f32⟩
  | .hbm, ⟨29, _⟩ => ⟨S16384x5632, .f32⟩
  | .hbm, ⟨30, _⟩ => ⟨S16384x5632, .f32⟩
  | .hbm, ⟨31, _⟩ => ⟨S16384x5632, .f32⟩
  | .hbm, ⟨32, _⟩ => ⟨S16384x5632, .f32⟩
  | .hbm, ⟨33, _⟩ => ⟨S_, .f32⟩
  | .hbm, ⟨34, _⟩ => ⟨S16384x5632, .f32⟩
  | .hbm, ⟨35, _⟩ => ⟨S16384x5632, .f32⟩
  | .hbm, ⟨36, _⟩ => ⟨S_, .f32⟩
  | .hbm, ⟨37, _⟩ => ⟨S16384x5632, .f32⟩
  | .hbm, ⟨38, _⟩ => ⟨S16384x5632, .f32⟩
  | .hbm, ⟨39, _⟩ => ⟨S16384x5632, .f32⟩
  | .hbm, ⟨40, _⟩ => ⟨S16384x5632, .f32⟩
  | .hbm, ⟨41, _⟩ => ⟨S16384x2048, .f32⟩
  | .hbm, ⟨42, _⟩ => ⟨S1x2048, .f32⟩
  | .hbm, ⟨43, _⟩ => ⟨S2048, .f32⟩
  | .hbm, ⟨44, _⟩ => ⟨S16384x2048, .f32⟩
  | .hbm, ⟨45, _⟩ => ⟨S_, .f32⟩
  | .hbm, ⟨46, _⟩ => ⟨S16384, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S16384x1, .f32⟩
  | .hbm, ⟨55, _⟩ => ⟨S16384x2048, .f32⟩
  | .hbm, ⟨56, _⟩ => ⟨S16384x2048, .f32⟩
  | .hbm, ⟨57, _⟩ => ⟨S1x2048, .f32⟩
  | .hbm, ⟨58, _⟩ => ⟨S16384x2048, .f32⟩
  | .hbm, ⟨59, _⟩ => ⟨S16384x2048, .f32⟩
  | .hbm, ⟨60, _⟩ => ⟨S_, .f32⟩
  | .hbm, ⟨61, _⟩ => ⟨S16384x2048, .f32⟩
  | .hbm, ⟨62, _⟩ => ⟨S16384x2048, .f32⟩
  | .hbm, ⟨63, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_2 : Ref sig .tc := ⟨.hbm, 45, rfl⟩
abbrev main_v29 : Ref sig .tc := ⟨.hbm, 46, rfl⟩
abbrev main_v30 : Ref sig .tc := ⟨.hbm, 47, rfl⟩
abbrev main_cst_3 : Ref sig .tc := ⟨.hbm, 48, rfl⟩
abbrev main_v31 : Ref sig .tc := ⟨.hbm, 49, rfl⟩
abbrev main_v32 : Ref sig .tc := ⟨.hbm, 50, rfl⟩
abbrev main_cst_4 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_5 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩

abbrev nD : Nat := 1
abbrev τ : Topo := Topo.v7x

variable {F : FTy → Type} [FloatOps F]
-- ==== Merge.lean ====
abbrev S16384x2048 : Shape := ⟨2, ![16384, 2048]⟩
abbrev S16384x1024 : Shape := ⟨2, ![16384, 1024]⟩
abbrev S16384x4096 : Shape := ⟨2, ![16384, 4096]⟩
abbrev S2x8x128x128 : Shape := ⟨4, ![2, 8, 128, 128]⟩
abbrev S2x8x128 : Shape := ⟨3, ![2, 8, 128]⟩
abbrev S2x1024x2048 : Shape := ⟨3, ![2, 1024, 2048]⟩
abbrev S2x2048x2048 : Shape := ⟨3, ![2, 2048, 2048]⟩
abbrev S2x2048 : Shape := ⟨2, ![2, 2048]⟩
abbrev S2x8x128x1 : Shape := ⟨4, ![2, 8, 128, 1]⟩
abbrev S1x2048 : Shape := ⟨2, ![1, 2048]⟩
abbrev S2048 : Shape := ⟨1, ![2048]⟩
abbrev S256x2048 : Shape := ⟨2, ![256, 2048]⟩
abbrev S256x1024 : Shape := ⟨2, ![256, 1024]⟩
abbrev S256x4096 : Shape := ⟨2, ![256, 4096]⟩
abbrev S1x8x128x128 : Shape := ⟨4, ![1, 8, 128, 128]⟩
abbrev S1x8x128x1 : Shape := ⟨4, ![1, 8, 128, 1]⟩
abbrev S1x1024x2048 : Shape := ⟨3, ![1, 1024, 2048]⟩
abbrev S1x2048x2048 : Shape := ⟨3, ![1, 2048, 2048]⟩
abbrev S128x128 : Shape := ⟨2, ![128, 128]⟩
abbrev S1x1x128x128 : Shape := ⟨4, ![1, 1, 128, 128]⟩
abbrev S1x1x128x1 : Shape := ⟨4, ![1, 1, 128, 1]⟩
abbrev S128x1 : Shape := ⟨2, ![128, 1]⟩
abbrev S1024x2048 : Shape := ⟨2, ![1024, 2048]⟩
abbrev S2048x2048 : Shape := ⟨2, ![2048, 2048]⟩
abbrev S256 : Shape := ⟨1, ![256]⟩
abbrev S256x1 : Shape := ⟨2, ![256, 1]⟩

abbrev nBuf : Space → Nat
  | .hbm => 19
  | .vmem => 19
  | .smem => 0
  | _ => 0

abbrev bufTy : (tb : Table) → Fin (tcTables nBuf tb) → BufTy
  | .hbm, ⟨0, _⟩ => ⟨S16384x2048, .f32⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S16384x4096, .bf16⟩
  | .hbm, ⟨5, _⟩ => ⟨S2x8x128x128, .f32⟩
  | .hbm, ⟨6, _⟩ => ⟨S2x8x128, .f32⟩
  | .hbm, ⟨7, _⟩ => ⟨S2x1024x2048, .f32⟩
  | .hbm, ⟨8, _⟩ => ⟨S2x1024x2048, .f32⟩
  | .hbm, ⟨9, _⟩ => ⟨S2x2048x2048, .f32⟩
  | .hbm, ⟨10, _⟩ => ⟨S2x2048, .f32⟩
  | .hbm, ⟨11, _⟩ => ⟨S2x8x128x1, .f32⟩
  | .hbm, ⟨12, _⟩ => ⟨S2x1024x2048, .bf16⟩
  | .hbm, ⟨13, _⟩ => ⟨S2x1024x2048, .bf16⟩
  | .hbm, ⟨14, _⟩ => ⟨S2x2048x2048, .bf16⟩
  | .hbm, ⟨15, _⟩ => ⟨S1x2048, .f32⟩
  | .hbm, ⟨16, _⟩ => ⟨S2048, .f32⟩
  | .hbm, ⟨17, _⟩ => ⟨S1x2048, .f32⟩
  | .hbm, ⟨18, _⟩ => ⟨S16384x2048, .f32⟩
  | .local _ .vmem, ⟨0, _⟩ => ⟨S256x2048, .f32⟩
  | .local _ .vmem, ⟨1, _⟩ => ⟨S256x2048, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x4096, .bf16⟩
  | .local _ .vmem, ⟨9, _⟩ => ⟨S256x4096, .bf16⟩
  | .local _ .vmem, ⟨10, _⟩ => ⟨S1x8x128x128, .f32⟩
  | .local _ .vmem, ⟨11, _⟩ => ⟨S1x8x128x1, .f32⟩
  | .local _ .vmem, ⟨12, _⟩ => ⟨S1x1024x2048, .bf16⟩
  | .local _ .vmem, ⟨13, _⟩ => ⟨S1x1024x2048, .bf16⟩
  | .local _ .vmem, ⟨14, _⟩ => ⟨S1x2048x2048, .bf16⟩
  | .local _ .vmem, ⟨15, _⟩ => ⟨S1x2048, .f32⟩
  | .local _ .vmem, ⟨16, _⟩ => ⟨S256x2048, .f32⟩
  | .local _ .vmem, ⟨17, _⟩ => ⟨S256x2048, .f32⟩
  | .local _ .vmem, ⟨18, _⟩ => ⟨S256x1024, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x8x128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MergeRefIdeal.lean ====
abbrev S16384x2048 : Shape := ⟨2, ![16384, 2048]⟩
abbrev S16384x1024 : Shape := ⟨2, ![16384, 1024]⟩
abbrev S16384x4096 : Shape := ⟨2, ![16384, 4096]⟩
abbrev S2x8x128x128 : Shape := ⟨4, ![2, 8, 128, 128]⟩
abbrev S2x8x128 : Shape := ⟨3, ![2, 8, 128]⟩
abbrev S2x1024x2048 : Shape := ⟨3, ![2, 1024, 2048]⟩
abbrev S2x2048x2048 : Shape := ⟨3, ![2, 2048, 2048]⟩
abbrev S2x2048 : Shape := ⟨2, ![2, 2048]⟩
abbrev S_ : Shape := ⟨0, ![]⟩
abbrev S128x128 : Shape := ⟨2, ![128, 128]⟩
abbrev S1x128x128 : Shape := ⟨3, ![1, 128, 128]⟩
abbrev S1x8x128x128 : Shape := ⟨4, ![1, 8, 128, 128]⟩
abbrev S8x128x128 : Shape := ⟨3, ![8, 128, 128]⟩
abbrev S128x128x8x128 : Shape := ⟨4, ![128, 128, 8, 128]⟩
abbrev S8x128x128x128 : Shape := ⟨4, ![8, 128, 128, 128]⟩
abbrev S1x8x128 : Shape := ⟨3, ![1, 8, 128]⟩
abbrev S8x128 : Shape := ⟨2, ![8, 128]⟩
abbrev S128x8 : Shape := ⟨2, ![128, 8]⟩
abbrev S1x128x8x1 : Shape := ⟨4, ![1, 128, 8, 1]⟩
abbrev S1x1024x2048 : Shape := ⟨3, ![1, 1024, 2048]⟩
abbrev S1024x2048 : Shape := ⟨2, ![1024, 2048]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S16384 : Shape := ⟨1, ![16384]⟩
abbrev S16384x1 : Shape := ⟨2, ![16384, 1]⟩

abbrev nBuf : Space → Nat
  | .hbm => 79
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S16384x4096, .bf16⟩
  | .hbm, ⟨5, _⟩ => ⟨S2x8x128x128, .f32⟩
  | .hbm, ⟨6, _⟩ => ⟨S2x8x128, .f32⟩
  | .hbm, ⟨7, _⟩ => ⟨S2x1024x2048, .f32⟩
  | .hbm, ⟨8, _⟩ => ⟨S2x1024x2048, .f32⟩
  | .hbm, ⟨9, _⟩ => ⟨S2x2048x2048, .f32⟩
  | .hbm, ⟨10, _⟩ => ⟨S2x2048, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x4096, .f32⟩
  | .hbm, ⟨15, _⟩ => ⟨S_, .i1⟩
  | .hbm, ⟨16, _⟩ => ⟨S128x128, .i1⟩
  | .hbm, ⟨17, _⟩ => ⟨S128x128, .i32⟩
  | .hbm, ⟨18, _⟩ => ⟨S_, .i32⟩
  | .hbm, ⟨19, _⟩ => ⟨S128x128, .i32⟩
  | .hbm, ⟨20, _⟩ => ⟨S128x128, .i32⟩
  | .hbm, ⟨21, _⟩ => ⟨S128x128, .i32⟩
  | .hbm, ⟨22, _⟩ => ⟨S128x128, .i1⟩
  | .hbm, ⟨23, _⟩ => ⟨S_, .i1⟩
  | .hbm, ⟨24, _⟩ => ⟨S128x128, .i1⟩
  | .hbm, ⟨25, _⟩ => ⟨S128x128, .i1⟩
  | .hbm, ⟨26, _⟩ => ⟨S1x128x128, .i1⟩
  | .hbm, ⟨27, _⟩ => ⟨S1x8x128x128, .f32⟩
  | .hbm, ⟨28, _⟩ => ⟨S8x128x128, .f32⟩
  | .hbm, ⟨29, _⟩ => ⟨S1x8x128x128, .f32⟩
  | .hbm, ⟨30, _⟩ => ⟨S8x128x128, .f32⟩
  | .hbm, ⟨31, _⟩ => ⟨S_, .f32⟩
  | .hbm, ⟨32, _⟩ => ⟨S8x128x128, .f32⟩
  | .hbm, ⟨33, _⟩ => ⟨S8x128x128, .i1⟩
  | .hbm, ⟨34, _⟩ => ⟨S8x128x128, .f32⟩
  | .hbm, ⟨35, _⟩ => ⟨S128x128x8x128, .f32⟩
  | .hbm, ⟨36, _⟩ => ⟨S8x128x128x128, .f32⟩
  | .hbm, ⟨37, _⟩ => ⟨S128x128x8x128, .f32⟩
  | .hbm, ⟨38, _⟩ => ⟨S1x8x128, .f32⟩
  | .hbm, ⟨39, _⟩ => ⟨S8x128, .f32⟩
  | .hbm, ⟨40, _⟩ => ⟨S128x8, .f32⟩
  | .hbm, ⟨41, _⟩ => ⟨S1x128x8x1, .f32⟩
  | .hbm, ⟨42, _⟩ => ⟨S128x128x8x128, .f32⟩
  | .hbm, ⟨43, _⟩ => ⟨S128x128x8x128, .f32⟩
  | .hbm, ⟨44, _⟩ => ⟨S16384x1024, .f32⟩
  | .hbm, ⟨45, _⟩ => ⟨S16384x1024, .f32⟩
  | .hbm, ⟨46, _⟩ => ⟨S16384x2048, .f32⟩
  | .hbm, ⟨47, _⟩ => ⟨S16384x2048, .f32⟩
  | .hbm, ⟨48, _⟩ => ⟨S1x1024x2048, .f32⟩
  | .hbm, ⟨49, _⟩ => ⟨S1024x2048, .f32⟩
  | .hbm, ⟨50, _⟩ => ⟨S16384x2048, .f32⟩
  | .hbm, ⟨51, _⟩ => ⟨S16384x2048, .f32⟩
  | .hbm, ⟨52, _⟩ => ⟨S1x1024x2048, .f32⟩
  | .hbm, ⟨53, _⟩ => ⟨S1024x2048, .f32⟩
  | .hbm, ⟨54, _⟩ => ⟨S16384x2048, .f32⟩
  | .hbm, ⟨55, _⟩ => ⟨S16384x2048, .f32⟩
  | .hbm, ⟨56, _⟩ => ⟨S16384x2048, .f32⟩
  | .hbm, ⟨57, _⟩ => ⟨S1x2048x2048, .f32⟩
  | .hbm, ⟨58, _⟩ => ⟨S2048x2048, .f32⟩
  | .hbm, ⟨59, _⟩ => ⟨S16384x2048, .f32⟩
  | .hbm, ⟨60, _⟩ => ⟨S1x2048, .f32⟩
  | .hbm, ⟨61, _⟩ => ⟨S2048, .f32⟩
  | .hbm, ⟨62, _⟩ => ⟨S16384x2048, .f32⟩
  | .hbm, ⟨63, _⟩ => ⟨S_, .f32⟩
  | .hbm, ⟨64, _⟩ => ⟨S16384, .f32⟩
  | .hbm, ⟨65, _⟩ => ⟨S16384x1, .f32⟩
  | .hbm, ⟨66, _⟩ => ⟨S_, .f32⟩
  | .hbm, ⟨67, _⟩ => ⟨S16384x1, .f32⟩
  | .hbm, ⟨68, _⟩ => ⟨S16384x1, .f32⟩
  | .hbm, ⟨69, _⟩ => ⟨S_, .f32⟩
  | .hbm, ⟨70, _⟩ => ⟨S16384x1, .f32⟩
  | .hbm, ⟨71, _⟩ => ⟨S16384x1, .f32⟩
  | .hbm, ⟨72, _⟩ => ⟨S16384x1, .f32⟩
  | .hbm, ⟨73, _⟩ => ⟨S16384x2048, .f32⟩
  | .hbm, ⟨74, _⟩ => ⟨S16384x2048, .f32⟩
  | .hbm, ⟨75, _⟩ => ⟨S1x2048, .f32⟩
  | .hbm, ⟨76, _⟩ => ⟨S16384x2048, .f32⟩
  | .hbm, ⟨77, _⟩ => ⟨S16384x2048, .f32⟩
  | .hbm, ⟨78, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_call0_v0 : Ref sig .tc := ⟨.hbm, 17, rfl⟩
abbrev main_call0_c : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_c_0 : Ref sig .tc := ⟨.hbm, 23, rfl⟩
abbrev main_call0_v5 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_call1_v0 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_0 : Ref sig .tc := ⟨.hbm, 63, rfl⟩
abbrev main_v41 : Ref sig .tc := ⟨.hbm, 64, rfl⟩
abbrev main_v42 : Ref sig .tc := ⟨.hbm, 65, rfl⟩
abbrev main_cst_1 : Ref sig .tc := ⟨.hbm, 66, rfl⟩
abbrev main_v43 : Ref sig .tc := ⟨.hbm, 67, rfl⟩
abbrev main_v44 : Ref sig .tc := ⟨.hbm, 68, rfl⟩
abbrev main_cst_2 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩

abbrev nD : Nat := 1
abbrev τ : Topo := Topo.v7x

variable {F : FTy → Type} [FloatOps F]
-- ==== Proj.lean ====
abbrev S16384x2048 : Shape := ⟨2, ![16384, 2048]⟩
abbrev S2x2048x6224 : Shape := ⟨3, ![2, 2048, 6224]⟩
abbrev S2x2048x4096 : Shape := ⟨3, ![2, 2048, 4096]⟩
abbrev S2x1024 : Shape := ⟨2, ![2, 1024]⟩
abbrev S2x2048x1024 : Shape := ⟨3, ![2, 2048, 1024]⟩
abbrev S2x2048x3072 : Shape := ⟨3, ![2, 2048, 3072]⟩
abbrev S2x2048x64 : Shape := ⟨3, ![2, 2048, 64]⟩
abbrev S1x1024 : Shape := ⟨2, ![1, 1024]⟩
abbrev S1024 : Shape := ⟨1, ![1024]⟩
abbrev S16384x1024 : Shape := ⟨2, ![16384, 1024]⟩
abbrev S16384x4096 : Shape := ⟨2, ![16384, 4096]⟩
abbrev S16384x64 : Shape := ⟨2, ![16384, 64]⟩
abbrev S1024x2048 : Shape := ⟨2, ![1024, 2048]⟩
abbrev S1x2048x1024 : Shape := ⟨3, ![1, 2048, 1024]⟩
abbrev S1x2048x64 : Shape := ⟨3, ![1, 2048, 64]⟩
abbrev S1024x1024 : Shape := ⟨2, ![1024, 1024]⟩
abbrev S1024x64 : Shape := ⟨2, ![1024, 64]⟩
abbrev S2048x64 : Shape := ⟨2, ![2048, 64]⟩
abbrev S1x2048x256 : Shape := ⟨3, ![1, 2048, 256]⟩
abbrev S2048x256 : Shape := ⟨2, ![2048, 256]⟩
abbrev S1024x256 : Shape := ⟨2, ![1024, 256]⟩
abbrev S1024x1 : Shape := ⟨2, ![1024, 1]⟩

abbrev nBuf : Space → Nat
  | .hbm => 26
  | .vmem => 20
  | .smem => 0
  | _ => 0

abbrev bufTy : (tb : Table) → Fin (tcTables nBuf tb) → BufTy
  | .hbm, ⟨0, _⟩ => ⟨S16384x2048, .bf16⟩
  | .hbm, ⟨1, _⟩ => ⟨S2x2048x6224, .f32⟩
  | .hbm, ⟨2, _⟩ => ⟨S2x2048x4096, .f32⟩
  | .hbm, ⟨3, _⟩ => ⟨S2x1024, .f32⟩
  | .hbm, ⟨4, _⟩ => ⟨S2x1024, .f32⟩
  | .hbm, ⟨5, _⟩ => ⟨S2x2048x1024, .f32⟩
  | .hbm, ⟨6, _⟩ => ⟨S2x2048x1024, .bf16⟩
  | .hbm, ⟨7, _⟩ => ⟨S2x2048x1024, .f32⟩
  | .hbm, ⟨8, _⟩ => ⟨S2x2048x1024, .bf16⟩
  | .hbm, ⟨9, _⟩ => ⟨S2x2048x1024, .f32⟩
  | .hbm, ⟨10, _⟩ => ⟨S2x2048x1024, .bf16⟩
  | .hbm, ⟨11, _⟩ => ⟨S2x2048x3072, .bf16⟩
  | .hbm, ⟨12, _⟩ => ⟨S2x2048x64, .f32⟩
  | .hbm, ⟨13, _⟩ => ⟨S2x2048x64, .bf16⟩
  | .hbm, ⟨14, _⟩ => ⟨S2x2048x4096, .bf16⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S1x1024, .f32⟩
  | .hbm, ⟨21, _⟩ => ⟨S16384x1024, .bf16⟩
  | .hbm, ⟨22, _⟩ => ⟨S16384x1024, .bf16⟩
  | .hbm, ⟨23, _⟩ => ⟨S16384x1024, .bf16⟩
  | .hbm, ⟨24, _⟩ => ⟨S16384x4096, .bf16⟩
  | .hbm, ⟨25, _⟩ => ⟨S16384x64, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x64, .bf16⟩
  | .local _ .vmem, ⟨5, _⟩ => ⟨S1x2048x1024, .bf16⟩
  | .local _ .vmem, ⟨6, _⟩ => ⟨S1x2048x1024, .bf16⟩
  | .local _ .vmem, ⟨7, _⟩ => ⟨S1x1024, .f32⟩
  | .local _ .vmem, ⟨8, _⟩ => ⟨S1x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x64, .bf16⟩
  | .local _ .vmem, ⟨18, _⟩ => ⟨S1024x64, .bf16⟩
  | .local _ .vmem, ⟨19, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16_0 : Ref sig .tc := ⟨.hbm, 21, rfl⟩
abbrev main_v16_1 : Ref sig .tc := ⟨.hbm, 22, rfl⟩
abbrev main_v16_2 : Ref sig .tc := ⟨.hbm, 23, rfl⟩
abbrev main_v16_3 : Ref sig .tc := ⟨.hbm, 24, rfl⟩
abbrev main_v16_4 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![16, 7], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c2_i32 : BitVec 32 := 2#32
  let v6 : BitVec 1 := Scalar.cmpi .eq arg1 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg1 : BitVec 32 := BitVec.ofNat 32 (i 1).val
  let c3_i32 : BitVec 32 := 3#32
  let v9 : BitVec 1 := Scalar.cmpi .sge arg1 c3_i32
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg1 c1_i32
  let c1_i32_0 : BitVec 32 := 1#32
  let c2_i32 : BitVec 32 := 2#32
  let v1 : BitVec 32 := Scalar.select v0 c1_i32_0 c2_i32
  let c0_i32 : BitVec 32 := 0#32
  let v2 : BitVec 1 := Scalar.cmpi .eq arg1 c0_i32
  let c0_i32_1 : BitVec 32 := 0#32
  let v3 : BitVec 32 := Scalar.select v2 c0_i32_1 v1
  let c0_i32_2 : BitVec 32 := 0#32
  let c0_i32_3 : BitVec 32 := 0#32
  let c0_i32_4 : BitVec 32 := 0#32
  ![c0_i32_2.toNat, c0_i32_3.toNat, v3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, c0_i32_1.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let v1 : BitVec 32 := Scalar.maxsi v0 c0_i32
  let c0_i32_0 : BitVec 32 := 0#32
  ![arg0.toNat, v1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x2048x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x64 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ProjRefIdeal.lean ====
abbrev S16384x2048 : Shape := ⟨2, ![16384, 2048]⟩
abbrev S2x2048x6224 : Shape := ⟨3, ![2, 2048, 6224]⟩
abbrev S2x2048x4096 : Shape := ⟨3, ![2, 2048, 4096]⟩
abbrev S2x1024 : Shape := ⟨2, ![2, 1024]⟩
abbrev S1x2048x6224 : Shape := ⟨3, ![1, 2048, 6224]⟩
abbrev S2048x6224 : Shape := ⟨2, ![2048, 6224]⟩
abbrev S16384x6224 : Shape := ⟨2, ![16384, 6224]⟩
abbrev S16384x1024 : Shape := ⟨2, ![16384, 1024]⟩
abbrev S16384x64 : Shape := ⟨2, ![16384, 64]⟩
abbrev S16384x16 : Shape := ⟨2, ![16384, 16]⟩
abbrev S_ : Shape := ⟨0, ![]⟩
abbrev S1x1024 : Shape := ⟨2, ![1, 1024]⟩
abbrev S1024 : Shape := ⟨1, ![1024]⟩
abbrev S16384 : Shape := ⟨1, ![16384]⟩
abbrev S16384x1 : Shape := ⟨2, ![16384, 1]⟩
abbrev S1x2048x4096 : Shape := ⟨3, ![1, 2048, 4096]⟩
abbrev S2048x4096 : Shape := ⟨2, ![2048, 4096]⟩
abbrev S16384x4096 : Shape := ⟨2, ![16384, 4096]⟩

abbrev nBuf : Space → Nat
  | .hbm => 100
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x2048x6224, .f32⟩
  | .hbm, ⟨2, _⟩ => ⟨S2x2048x4096, .f32⟩
  | .hbm, ⟨3, _⟩ => ⟨S2x1024, .f32⟩
  | .hbm, ⟨4, _⟩ => ⟨S2x1024, .f32⟩
  | .hbm, ⟨5, _⟩ => ⟨S16384x2048, .f32⟩
  | .hbm, ⟨6, _⟩ => ⟨S1x2048x6224, .f32⟩
  | .hbm, ⟨7, _⟩ => ⟨S2048x6224, .f32⟩
  | .hbm, ⟨8, _⟩ => ⟨S16384x6224, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S16384x64, .f32⟩
  | .hbm, ⟨16, _⟩ => ⟨S16384x16, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .bf16⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S_, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S16384x1024, .f32⟩
  | .hbm, ⟨47, _⟩ => ⟨S16384x1024, .f32⟩
  | .hbm, ⟨48, _⟩ => ⟨S_, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S1x1024, .f32⟩
  | .hbm, ⟨53, _⟩ => ⟨S1024, .f32⟩
  | .hbm, ⟨54, _⟩ => ⟨S1x1024, .f32⟩
  | .hbm, ⟨55, _⟩ => ⟨S1024, .f32⟩
  | .hbm, ⟨56, _⟩ => ⟨S_, .f32⟩
  | .hbm, ⟨57, _⟩ => ⟨S16384, .f32⟩
  | .hbm, ⟨58, _⟩ => ⟨S16384x1, .f32⟩
  | .hbm, ⟨59, _⟩ => ⟨S_, .f32⟩
  | .hbm, ⟨60, _⟩ => ⟨S16384x1, .f32⟩
  | .hbm, ⟨61, _⟩ => ⟨S16384x1, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S_, .f32⟩
  | .hbm, ⟨66, _⟩ => ⟨S16384, .f32⟩
  | .hbm, ⟨67, _⟩ => ⟨S16384x1, .f32⟩
  | .hbm, ⟨68, _⟩ => ⟨S_, .f32⟩
  | .hbm, ⟨69, _⟩ => ⟨S16384x1, .f32⟩
  | .hbm, ⟨70, _⟩ => ⟨S16384x1, .f32⟩
  | .hbm, ⟨71, _⟩ => ⟨S16384x1024, .f32⟩
  | .hbm, ⟨72, _⟩ => ⟨S16384x1024, .f32⟩
  | .hbm, ⟨73, _⟩ => ⟨S_, .f32⟩
  | .hbm, ⟨74, _⟩ => ⟨S16384x1, .f32⟩
  | .hbm, ⟨75, _⟩ => ⟨S16384x1, .f32⟩
  | .hbm, ⟨76, _⟩ => ⟨S16384x1, .f32⟩
  | .hbm, ⟨77, _⟩ => ⟨S16384x1024, .f32⟩
  | .hbm, ⟨78, _⟩ => ⟨S16384x1024, .f32⟩
  | .hbm, ⟨79, _⟩ => ⟨S1x1024, .f32⟩
  | .hbm, ⟨80, _⟩ => ⟨S16384x1024, .f32⟩
  | .hbm, ⟨81, _⟩ => ⟨S16384x1024, .f32⟩
  | .hbm, ⟨82, _⟩ => ⟨S1x1024, .f32⟩
  | .hbm, ⟨83, _⟩ => ⟨S16384x1024, .f32⟩
  | .hbm, ⟨84, _⟩ => ⟨S16384x1024, .f32⟩
  | .hbm, ⟨85, _⟩ => ⟨S16384x1024, .bf16⟩
  | .hbm, ⟨86, _⟩ => ⟨S16384x1024, .bf16⟩
  | .hbm, ⟨87, _⟩ => ⟨S1x2048x4096, .f32⟩
  | .hbm, ⟨88, _⟩ => ⟨S2048x4096, .f32⟩
  | .hbm, ⟨89, _⟩ => ⟨S16384x4096, .f32⟩
  | .hbm, ⟨90, _⟩ => ⟨S16384x4096, .f32⟩
  | .hbm, ⟨91, _⟩ => ⟨S16384x4096, .f32⟩
  | .hbm, ⟨92, _⟩ => ⟨S_, .f32⟩
  | .hbm, ⟨93, _⟩ => ⟨S16384x4096, .f32⟩
  | .hbm, ⟨94, _⟩ => ⟨S16384x4096, .f32⟩
  | .hbm, ⟨95, _⟩ => ⟨S_, .f32⟩
  | .hbm, ⟨96, _⟩ => ⟨S16384x4096, .f32⟩
  | .hbm, ⟨97, _⟩ => ⟨S16384x4096, .f32⟩
  | .hbm, ⟨98, _⟩ => ⟨S16384x4096, .bf16⟩
  | .hbm, ⟨99, _⟩ => ⟨S16384x64, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_7 : Ref sig .tc := ⟨.hbm, 56, rfl⟩
abbrev main_v43 : Ref sig .tc := ⟨.hbm, 57, rfl⟩
abbrev main_v44 : Ref sig .tc := ⟨.hbm, 58, rfl⟩
abbrev main_cst_8 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_9 : Ref sig .tc := ⟨.hbm, 65, rfl⟩
abbrev main_v50 : Ref sig .tc := ⟨.hbm, 66, rfl⟩
abbrev main_v51 : Ref sig .tc := ⟨.hbm, 67, rfl⟩
abbrev main_cst_10 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_11 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_cst_12 : Ref sig .tc := ⟨.hbm, 92, rfl⟩
abbrev main_v74 : Ref sig .tc := ⟨.hbm, 93, rfl⟩
abbrev main_v75 : Ref sig .tc := ⟨.hbm, 94, rfl⟩
abbrev main_cst_13 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩

abbrev nD : Nat := 1
abbrev τ : Topo := Topo.v7x

variable {F : FTy → Type} [FloatOps F]
-- ==== ProjT.lean ====
abbrev S16384x2048 : Shape := ⟨2, ![16384, 2048]⟩
abbrev S2x2048x6224 : Shape := ⟨3, ![2, 2048, 6224]⟩
abbrev S2x2048x1024 : Shape := ⟨3, ![2, 2048, 1024]⟩
abbrev S2x2048x3072 : Shape := ⟨3, ![2, 2048, 3072]⟩
abbrev S2x3072x2048 : Shape := ⟨3, ![2, 3072, 2048]⟩
abbrev S2x2048x16 : Shape := ⟨3, ![2, 2048, 16]⟩
abbrev S2x16x2048 : Shape := ⟨3, ![2, 16, 2048]⟩
abbrev S4x4096x2048 : Shape := ⟨3, ![4, 4096, 2048]⟩
abbrev S4x1024x4096 : Shape := ⟨3, ![4, 1024, 4096]⟩
abbrev S4x16x1024x256 : Shape := ⟨4, ![4, 16, 1024, 256]⟩
abbrev S4x16x4096 : Shape := ⟨3, ![4, 16, 4096]⟩
abbrev S1x1024x2048 : Shape := ⟨3, ![1, 1024, 2048]⟩
abbrev S1x16x2048 : Shape := ⟨3, ![1, 16, 2048]⟩
abbrev S1x1024x1024 : Shape := ⟨3, ![1, 1024, 1024]⟩
abbrev S1x4x1024x256 : Shape := ⟨4, ![1, 4, 1024, 256]⟩
abbrev S1x16x1024 : Shape := ⟨3, ![1, 16, 1024]⟩
abbrev S16x2048 : Shape := ⟨2, ![16, 2048]⟩
abbrev S1024x2048 : Shape := ⟨2, ![1024, 2048]⟩
abbrev S16x1024 : Shape := ⟨2, ![16, 1024]⟩
abbrev S1x256x2048 : Shape := ⟨3, ![1, 256, 2048]⟩
abbrev S256x2048 : Shape := ⟨2, ![256, 2048]⟩
abbrev S256x1024 : Shape := ⟨2, ![256, 1024]⟩
abbrev S1x256x1024 : Shape := ⟨3, ![1, 256, 1024]⟩
abbrev S256x256 : Shape := ⟨2, ![256, 256]⟩
abbrev S1x1x256x256 : Shape := ⟨4, ![1, 1, 256, 256]⟩

abbrev nBuf : Space → Nat
  | .hbm => 18
  | .vmem => 13
  | .smem => 0
  | _ => 0

abbrev bufTy : (tb : Table) → Fin (tcTables nBuf tb) → BufTy
  | .hbm, ⟨0, _⟩ => ⟨S16384x2048, .bf16⟩
  | .hbm, ⟨1, _⟩ => ⟨S2x2048x6224, .f32⟩
  | .hbm, ⟨2, _⟩ => ⟨S2x2048x1024, .f32⟩
  | .hbm, ⟨3, _⟩ => ⟨S2x2048x1024, .bf16⟩
  | .hbm, ⟨4, _⟩ => ⟨S2x2048x1024, .f32⟩
  | .hbm, ⟨5, _⟩ => ⟨S2x2048x1024, .bf16⟩
  | .hbm, ⟨6, _⟩ => ⟨S2x2048x1024, .f32⟩
  | .hbm, ⟨7, _⟩ => ⟨S2x2048x1024, .bf16⟩
  | .hbm, ⟨8, _⟩ => ⟨S2x2048x3072, .bf16⟩
  | .hbm, ⟨9, _⟩ => ⟨S2x3072x2048, .bf16⟩
  | .hbm, ⟨10, _⟩ => ⟨S2x2048x16, .f32⟩
  | .hbm, ⟨11, _⟩ => ⟨S2x2048x16, .bf16⟩
  | .hbm, ⟨12, _⟩ => ⟨S2x16x2048, .bf16⟩
  | .hbm, ⟨13, _⟩ => ⟨S4x4096x2048, .bf16⟩
  | .hbm, ⟨14, _⟩ => ⟨S4x1024x4096, .bf16⟩
  | .hbm, ⟨15, _⟩ => ⟨S4x16x1024x256, .bf16⟩
  | .hbm, ⟨16, _⟩ => ⟨S4x1024x4096, .bf16⟩
  | .hbm, ⟨17, _⟩ => ⟨S4x16x4096, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1x16x2048, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x4x1024x256, .bf16⟩
  | .local _ .vmem, ⟨8, _⟩ => ⟨S1x4x1024x256, .bf16⟩
  | .local _ .vmem, ⟨9, _⟩ => ⟨S1x1024x1024, .bf16⟩
  | .local _ .vmem, ⟨10, _⟩ => ⟨S1x1024x1024, .bf16⟩
  | .local _ .vmem, ⟨11, _⟩ => ⟨S1x16x1024, .f32⟩
  | .local _ .vmem, ⟨12, _⟩ => ⟨S1x16x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12_0 : Ref sig .tc := ⟨.hbm, 14, rfl⟩
abbrev main_v12_1 : Ref sig .tc := ⟨.hbm, 15, rfl⟩
abbrev main_v12_2 : Ref sig .tc := ⟨.hbm, 16, rfl⟩
abbrev main_v12_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![4, 4, 3], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c1_i32 : BitVec 32 := 1#32
  let v3 : BitVec 1 := Scalar.cmpi .eq arg2 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg2 : BitVec 32 := BitVec.ofNat 32 (i 2).val
  let c2_i32 : BitVec 32 := 2#32
  let v6 : BitVec 1 := Scalar.cmpi .eq arg2 c2_i32
  let v7 : BitVec 32 := Scalar.extui v6
  let c0_i32_2 : BitVec 32 := 0#32
  let v8 : BitVec 1 := Scalar.cmpi .ne v7 c0_i32_2
  v8

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S1x16x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x4x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x16x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== ProjTRefIdeal.lean ====
abbrev S16384x2048 : Shape := ⟨2, ![16384, 2048]⟩
abbrev S2x2048x6224 : Shape := ⟨3, ![2, 2048, 6224]⟩
abbrev S4x4096x2048 : Shape := ⟨3, ![4, 4096, 2048]⟩
abbrev S1x2048x6224 : Shape := ⟨3, ![1, 2048, 6224]⟩
abbrev S2048x6224 : Shape := ⟨2, ![2048, 6224]⟩
abbrev S4x4096x6224 : Shape := ⟨3, ![4, 4096, 6224]⟩
abbrev S4x4096x1024 : Shape := ⟨3, ![4, 4096, 1024]⟩
abbrev S4x4096x64 : Shape := ⟨3, ![4, 4096, 64]⟩
abbrev S4x4096x16 : Shape := ⟨3, ![4, 4096, 16]⟩
abbrev S_ : Shape := ⟨0, ![]⟩
abbrev S4x16x256x1024 : Shape := ⟨4, ![4, 16, 256, 1024]⟩
abbrev S4x1024x4096 : Shape := ⟨3, ![4, 1024, 4096]⟩
abbrev S4x16x1024x256 : Shape := ⟨4, ![4, 16, 1024, 256]⟩
abbrev S4x16x4096 : Shape := ⟨3, ![4, 16, 4096]⟩

abbrev nBuf : Space → Nat
  | .hbm => 26
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x2048x6224, .f32⟩
  | .hbm, ⟨2, _⟩ => ⟨S16384x2048, .f32⟩
  | .hbm, ⟨3, _⟩ => ⟨S4x4096x2048, .f32⟩
  | .hbm, ⟨4, _⟩ => ⟨S1x2048x6224, .f32⟩
  | .hbm, ⟨5, _⟩ => ⟨S2048x6224, .f32⟩
  | .hbm, ⟨6, _⟩ => ⟨S4x4096x6224, .f32⟩
  | .hbm, ⟨7, _⟩ => ⟨S4x4096x1024, .f32⟩
  | .hbm, ⟨8, _⟩ => ⟨S4x4096x1024, .f32⟩
  | .hbm, ⟨9, _⟩ => ⟨S4x4096x1024, .f32⟩
  | .hbm, ⟨10, _⟩ => ⟨S4x4096x1024, .f32⟩
  | .hbm, ⟨11, _⟩ => ⟨S4x4096x1024, .f32⟩
  | .hbm, ⟨12, _⟩ => ⟨S4x4096x1024, .f32⟩
  | .hbm, ⟨13, _⟩ => ⟨S4x4096x64, .f32⟩
  | .hbm, ⟨14, _⟩ => ⟨S4x4096x16, .f32⟩
  | .hbm, ⟨15, _⟩ => ⟨S_, .f32⟩
  | .hbm, ⟨16, _⟩ => ⟨S4x4096x1024, .f32⟩
  | .hbm, ⟨17, _⟩ => ⟨S4x4096x1024, .f32⟩
  | .hbm, ⟨18, _⟩ => ⟨S4x16x256x1024, .f32⟩
  | .hbm, ⟨19, _⟩ => ⟨S4x1024x4096, .f32⟩
  | .hbm, ⟨20, _⟩ => ⟨S4x1024x4096, .bf16⟩
  | .hbm, ⟨21, _⟩ => ⟨S4x16x1024x256, .f32⟩
  | .hbm, ⟨22, _⟩ => ⟨S4x16x1024x256, .bf16⟩
  | .hbm, ⟨23, _⟩ => ⟨S4x1024x4096, .f32⟩
  | .hbm, ⟨24, _⟩ => ⟨S4x1024x4096, .bf16⟩
  | .hbm, ⟨25, _⟩ => ⟨S4x16x4096, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩

abbrev nD : Nat := 1
abbrev τ : Topo := Topo.v7x

variable {F : FTy → Type} [FloatOps F]
-- ==== FfnNext.lean ====
abbrev S4x4096x2048 : Shape := ⟨3, ![4, 4096, 2048]⟩
abbrev S2x2048 : Shape := ⟨2, ![2, 2048]⟩
abbrev S2x2048x11264 : Shape := ⟨3, ![2, 2048, 11264]⟩
abbrev S2x5632x2048 : Shape := ⟨3, ![2, 5632, 2048]⟩
abbrev S16384x2048 : Shape := ⟨2, ![16384, 2048]⟩
abbrev S1x2048 : Shape := ⟨2, ![1, 2048]⟩
abbrev S2048 : Shape := ⟨1, ![2048]⟩
abbrev S512x2048 : Shape := ⟨2, ![512, 2048]⟩
abbrev S1x2048x512 : Shape := ⟨3, ![1, 2048, 512]⟩
abbrev S1x512x2048 : Shape := ⟨3, ![1, 512, 2048]⟩
abbrev S512 : Shape := ⟨1, ![512]⟩
abbrev S512x1 : Shape := ⟨2, ![512, 1]⟩
abbrev S1x2048x256 : Shape := ⟨3, ![1, 2048, 256]⟩
abbrev S2048x256 : Shape := ⟨2, ![2048, 256]⟩
abbrev S512x256 : Shape := ⟨2, ![512, 256]⟩
abbrev S512x512 : Shape := ⟨2, ![512, 512]⟩

abbrev nBuf : Space → Nat
  | .hbm => 20
  | .vmem => 17
  | .smem => 0
  | _ => 0

abbrev bufTy : (tb : Table) → Fin (tcTables nBuf tb) → BufTy
  | .hbm, ⟨0, _⟩ => ⟨S4x4096x2048, .f32⟩
  | .hbm, ⟨1, _⟩ => ⟨S2x2048, .f32⟩
  | .hbm, ⟨2, _⟩ => ⟨S2x2048, .f32⟩
  | .hbm, ⟨3, _⟩ => ⟨S2x2048x11264, .f32⟩
  | .hbm, ⟨4, _⟩ => ⟨S2x5632x2048, .f32⟩
  | .hbm, ⟨5, _⟩ => ⟨S2x2048, .f32⟩
  | .hbm, ⟨6, _⟩ => ⟨S16384x2048, .f32⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S2048, .f32⟩
  | .hbm, ⟨11, _⟩ => ⟨S2x2048x11264, .bf16⟩
  | .hbm, ⟨12, _⟩ => ⟨S2x5632x2048, .bf16⟩
  | .hbm, ⟨13, _⟩ => ⟨S1x2048, .f32⟩
  | .hbm, ⟨14, _⟩ => ⟨S2048, .f32⟩
  | .hbm, ⟨15, _⟩ => ⟨S1x2048, .f32⟩
  | .hbm, ⟨16, _⟩ => ⟨S1x2048, .f32⟩
  | .hbm, ⟨17, _⟩ => ⟨S1x2048, .f32⟩
  | .hbm, ⟨18, _⟩ => ⟨S16384x2048, .f32⟩
  | .hbm, ⟨19, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x2048x512, .bf16⟩
  | .local _ .vmem, ⟨9, _⟩ => ⟨S1x512x2048, .bf16⟩
  | .local _ .vmem, ⟨10, _⟩ => ⟨S1x512x2048, .bf16⟩
  | .local _ .vmem, ⟨11, _⟩ => ⟨S512x2048, .f32⟩
  | .local _ .vmem, ⟨12, _⟩ => ⟨S512x2048, .f32⟩
  | .local _ .vmem, ⟨13, _⟩ => ⟨S512x2048, .bf16⟩
  | .local _ .vmem, ⟨14, _⟩ => ⟨S512x2048, .bf16⟩
  | .local _ .vmem, ⟨15, _⟩ => ⟨S512x2048, .bf16⟩
  | .local _ .vmem, ⟨16, _⟩ => ⟨S512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v33 : BitVec 1 := Scalar.cmpi .eq arg1 c10_i32
  let v34 : BitVec 32 := Scalar.extui v33
  let c0_i32_24 : BitVec 32 := 0#32
  let v35 : BitVec 1 := Scalar.cmpi .ne v34 c0_i32_24
  v35

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  let c0_i32_1 : BitVec 32 := 0#32
  ![c0_i32.toNat, c0_i32_0.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== FfnNextRefIdeal.lean ====
abbrev S4x4096x2048 : Shape := ⟨3, ![4, 4096, 2048]⟩
abbrev S2x2048 : Shape := ⟨2, ![2, 2048]⟩
abbrev S2x2048x11264 : Shape := ⟨3, ![2, 2048, 11264]⟩
abbrev S2x5632x2048 : Shape := ⟨3, ![2, 5632, 2048]⟩
abbrev S16384x2048 : Shape := ⟨2, ![16384, 2048]⟩
abbrev S1x2048 : Shape := ⟨2, ![1, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048x11264 : Shape := ⟨3, ![1, 2048, 11264]⟩
abbrev S2048x11264 : Shape := ⟨2, ![2048, 11264]⟩
abbrev S1x5632x2048 : Shape := ⟨3, ![1, 5632, 2048]⟩
abbrev S5632x2048 : Shape := ⟨2, ![5632, 2048]⟩
abbrev S16384x11264 : Shape := ⟨2, ![16384, 11264]⟩
abbrev S16384x5632 : Shape := ⟨2, ![16384, 5632]⟩

abbrev nBuf : Space → Nat
  | .hbm => 84
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2x2048, .f32⟩
  | .hbm, ⟨2, _⟩ => ⟨S2x2048, .f32⟩
  | .hbm, ⟨3, _⟩ => ⟨S2x2048x11264, .f32⟩
  | .hbm, ⟨4, _⟩ => ⟨S2x5632x2048, .f32⟩
  | .hbm, ⟨5, _⟩ => ⟨S2x2048, .f32⟩
  | .hbm, ⟨6, _⟩ => ⟨S16384x2048, .f32⟩
  | .hbm, ⟨7, _⟩ => ⟨S1x2048, .f32⟩
  | .hbm, ⟨8, _⟩ => ⟨S2048, .f32⟩
  | .hbm, ⟨9, _⟩ => ⟨S16384x2048, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x2048, .f32⟩
  | .hbm, ⟨21, _⟩ => ⟨S16384x2048, .f32⟩
  | .hbm, ⟨22, _⟩ => ⟨S1x2048, .f32⟩
  | .hbm, ⟨23, _⟩ => ⟨S16384x2048, .f32⟩
  | .hbm, ⟨24, _⟩ => ⟨S16384x2048, .f32⟩
  | .hbm, ⟨25, _⟩ => ⟨S1x2048x11264, .f32⟩
  | .hbm, ⟨26, _⟩ => ⟨S2048x11264, .f32⟩
  | .hbm, ⟨27, _⟩ => ⟨S1x5632x2048, .f32⟩
  | .hbm, ⟨28, _⟩ => ⟨S5632x2048, .f32⟩
  | .hbm, ⟨29, _⟩ => ⟨S16384x11264, .f32⟩
  | .hbm, ⟨30, _⟩ => ⟨S16384x5632, .f32⟩
  | .hbm, ⟨31, _⟩ => ⟨S16384x5632, .f32⟩
  | .hbm, ⟨32, _⟩ => ⟨S16384x5632, .f32⟩
  | .hbm, ⟨33, _⟩ => ⟨S16384x5632, .f32⟩
  | .hbm, ⟨34, _⟩ => ⟨S_, .f32⟩
  | .hbm, ⟨35, _⟩ => ⟨S16384x5632, .f32⟩
  | .hbm, ⟨36, _⟩ => ⟨S16384x5632, .f32⟩
  | .hbm, ⟨37, _⟩ => ⟨S_, .f32⟩
  | .hbm, ⟨38, _⟩ => ⟨S16384x5632, .f32⟩
  | .hbm, ⟨39, _⟩ => ⟨S16384x5632, .f32⟩
  | .hbm, ⟨40, _⟩ => ⟨S16384x5632, .f32⟩
  | .hbm, ⟨41, _⟩ => ⟨S16384x5632, .f32⟩
  | .hbm, ⟨42, _⟩ => ⟨S16384x2048, .f32⟩
  | .hbm, ⟨43, _⟩ => ⟨S1x2048, .f32⟩
  | .hbm, ⟨44, _⟩ => ⟨S2048, .f32⟩
  | .hbm, ⟨45, _⟩ => ⟨S16384x2048, .f32⟩
  | .hbm, ⟨46, _⟩ => ⟨S_, .f32⟩
  | .hbm, ⟨47, _⟩ => ⟨S16384, .f32⟩
  | .hbm, ⟨48, _⟩ => ⟨S16384x1, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S_, .f32⟩
  | .hbm, ⟨53, _⟩ => ⟨S16384x1, .f32⟩
  | .hbm, ⟨54, _⟩ => ⟨S16384x1, .f32⟩
  | .hbm, ⟨55, _⟩ => ⟨S16384x1, .f32⟩
  | .hbm, ⟨56, _⟩ => ⟨S16384x2048, .f32⟩
  | .hbm, ⟨57, _⟩ => ⟨S16384x2048, .f32⟩
  | .hbm, ⟨58, _⟩ => ⟨S1x2048, .f32⟩
  | .hbm, ⟨59, _⟩ => ⟨S16384x2048, .f32⟩
  | .hbm, ⟨60, _⟩ => ⟨S16384x2048, .f32⟩
  | .hbm, ⟨61, _⟩ => ⟨S_, .f32⟩
  | .hbm, ⟨62, _⟩ => ⟨S16384x2048, .f32⟩
  | .hbm, ⟨63, _⟩ => ⟨S16384x2048, .f32⟩
  | .hbm, ⟨64, _⟩ => ⟨S16384x2048, .f32⟩
  | .hbm, ⟨65, _⟩ => ⟨S1x2048, .f32⟩
  | .hbm, ⟨66, _⟩ => ⟨S2048, .f32⟩
  | .hbm, ⟨67, _⟩ => ⟨S16384x2048, .f32⟩
  | .hbm, ⟨68, _⟩ => ⟨S_, .f32⟩
  | .hbm, ⟨69, _⟩ => ⟨S16384, .f32⟩
  | .hbm, ⟨70, _⟩ => ⟨S16384x1, .f32⟩
  | .hbm, ⟨71, _⟩ => ⟨S_, .f32⟩
  | .hbm, ⟨72, _⟩ => ⟨S16384x1, .f32⟩
  | .hbm, ⟨73, _⟩ => ⟨S16384x1, .f32⟩
  | .hbm, ⟨74, _⟩ => ⟨S_, .f32⟩
  | .hbm, ⟨75, _⟩ => ⟨S16384x1, .f32⟩
  | .hbm, ⟨76, _⟩ => ⟨S16384x1, .f32⟩
  | .hbm, ⟨77, _⟩ => ⟨S16384x1, .f32⟩
  | .hbm, ⟨78, _⟩ => ⟨S16384x2048, .f32⟩
  | .hbm, ⟨79, _⟩ => ⟨S16384x2048, .f32⟩
  | .hbm, ⟨80, _⟩ => ⟨S1x2048, .f32⟩
  | .hbm, ⟨81, _⟩ => ⟨S16384x2048, .f32⟩
  | .hbm, ⟨82, _⟩ => ⟨S16384x2048, .f32⟩
  | .hbm, ⟨83, _⟩ => ⟨S16384x2048, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_2 : Ref sig .tc := ⟨.hbm, 46, rfl⟩
abbrev main_v29 : Ref sig .tc := ⟨.hbm, 47, rfl⟩
abbrev main_v30 : Ref sig .tc := ⟨.hbm, 48, rfl⟩
abbrev main_cst_3 : Ref sig .tc := ⟨.hbm, 49, rfl⟩
abbrev main_v31 : Ref sig .tc := ⟨.hbm, 50, rfl⟩
abbrev main_v32 : Ref sig .tc := ⟨.hbm, 51, rfl⟩
abbrev main_cst_4 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_5 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_6 : Ref sig .tc := ⟨.hbm, 68, rfl⟩
abbrev main_v47 : Ref sig .tc := ⟨.hbm, 69, rfl⟩
abbrev main_v48 : Ref sig .tc := ⟨.hbm, 70, rfl⟩
abbrev main_cst_7 : Ref sig .tc := ⟨.hbm, 71, rfl⟩
abbrev main_v49 : Ref sig .tc := ⟨.hbm, 72, rfl⟩
abbrev main_v50 : Ref sig .tc := ⟨.hbm, 73, rfl⟩
abbrev main_cst_8 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩

abbrev nD : Nat := 1
abbrev τ : Topo := Topo.v7x

variable {F : FTy → Type} [FloatOps F]
-- ==== Proof.Maths.lean ====
/-
  The row mathematics the programs share, over the extended reals: the root-mean-square norm of a row of 2048 numbers, the
  gated product of a feed-forward layer, and a sum over 5632 features taken 512 at a time.
-/
module

public import Idealize.ShloMosaic.PureOps.Ideal
public import Idealize.ShloMosaic.Lib.ValueIdxCore
public import Mathlib.Algebra.BigOperators.Fin

@[expose] public section

noncomputable section

namespace Cert.Maths

open Idealize.ShloMosaic Idealize.ShloMosaic.ValueIdx

/-- The pattern of `1.0` denotes one. -/
theorem one_f32 : Ideal.ofBits .f32 0x3F800000#32 = 1 := by
  simp [Ideal.ofBits, Ideal.ieee, -EReal.coe_mul]; norm_num

/-- The pattern of `0.0` denotes zero. -/
theorem zero_f32 : Ideal.ofBits .f32 0x00000000#32 = 0 := by
  simp [Ideal.ofBits, Ideal.ieee]

/-- An array of rank two, read where both coordinates are known. -/
theorem at2 {α : Type} {n0 n1 : ℕ} (v : (⟨2, ![n0, n1]⟩ : Shape).Idx → α) {i : (⟨2, ![n0, n1]⟩ : Shape).Idx} (a : Fin n0)
    (b : Fin n1) (h0 : i 0 = a) (h1 : i 1 = b) : v i = v (ix2 a b) := by
  subst h0 h1
  exact congrArg v (eq_ix2 i)

/-- One over the root of a row's mean square plus the layer's epsilon: the row holds 2048 numbers. -/
def invRms (x : Fin 2048 → EReal) : EReal :=
  Ideal.rsqrt (Ideal.div (∑ j, x j * x j) (Ideal.ofBits .f32 0x45000000#32) + Ideal.ofBits .f32 0x358637BD#32)

/-- The row `x` divided by its root mean square and scaled by the row `g`. -/
def rms (x g : Fin 2048 → EReal) (k : Fin 2048) : EReal := x k * invRms x * g k

theorem invRms_def (x : Fin 2048 → EReal) : invRms x
    = Ideal.rsqrt (Ideal.div (∑ j, x j * x j) (Ideal.ofBits .f32 0x45000000#32) + Ideal.ofBits .f32 0x358637BD#32) := rfl
theorem rms_def (x g : Fin 2048 → EReal) (k : Fin 2048) : rms x g k = x k * invRms x * g k := rfl

/-- A gate `a` through `a * logistic a`, times the value `b`. -/
def swiglu (a b : EReal) : EReal := a * Ideal.logistic a * b

theorem swiglu_def (a b : EReal) : swiglu a b = a * Ideal.div 1 (1 + Ideal.exp (-a)) * b := rfl

/-- One half, as the programs spell it. -/
def half : EReal := Ideal.ofBits .f32 0x3F000000#32

theorem half_def : half = Ideal.ofBits .f32 0x3F000000#32 := rfl

/-- Feature `F` of the feed-forward layer's hidden row, for a normed row `h` and the input weights' columns. -/
def hidden (h : Fin 2048 → EReal) (wa wb : Fin 2048 → Fin 5632 → EReal) (f : Fin 5632) : EReal :=
  swiglu (∑ k, h k * wa k f) (∑ k, h k * wb k f)

theorem hidden_def (h : Fin 2048 → EReal) (wa wb : Fin 2048 → Fin 5632 → EReal) (f : Fin 5632) :
    hidden h wa wb f = swiglu (∑ k, h k * wa k f) (∑ k, h k * wb k f) := rfl

/-- The feed-forward layer's output row: the hidden row times the output weights. -/
def ffnRow (h : Fin 2048 → EReal) (wa wb : Fin 2048 → Fin 5632 → EReal) (wo : Fin 5632 → Fin 2048 → EReal)
    (c : Fin 2048) : EReal :=
  ∑ f, hidden h wa wb f * wo f c

/-- Half a step of the residual stream: the row `x` plus half the normed feed-forward row. -/
def ffnStep (x gpre gpost : Fin 2048 → EReal) (wa wb : Fin 2048 → Fin 5632 → EReal) (wo : Fin 5632 → Fin 2048 → EReal)
    (c : Fin 2048) : EReal :=
  x c + half * rms (ffnRow (rms x gpre) wa wb wo) gpost c

/-- A sum over 5632 terms is the sum over its first 512·n, taken 512 at a time, once `n` is 11. -/
theorem sum_blocks (f : ℕ → EReal) (n : ℕ) :
    ∑ k : Fin (n * 512), f k.val = ∑ j ∈ Finset.range n, ∑ r : Fin 512, f (512 * j + r.val) := by
  induction n with
  | zero => simp
  | succ n ih =>
    rw [Finset.sum_range_succ, ← ih, Fin.sum_univ_eq_sum_range (fun k => f k), Fin.sum_univ_eq_sum_range (fun k => f k),
      Nat.succ_mul, Finset.sum_range_add, Fin.sum_univ_eq_sum_range (fun r => f (512 * n + r)), Nat.mul_comm n 512]

/-- The hidden feature numbered `F` times its output weight, for any natural number `F`. -/
def term (h : Fin 2048 → EReal) (wa wb : Fin 2048 → Fin 5632 → EReal) (wo : Fin 5632 → Fin 2048 → EReal)
    (c : Fin 2048) (F : ℕ) : EReal :=
  if hF : F < 5632 then hidden h wa wb ⟨F, hF⟩ * wo ⟨F, hF⟩ c else 0

theorem term_fin (h : Fin 2048 → EReal) (wa wb : Fin 2048 → Fin 5632 → EReal) (wo : Fin 5632 → Fin 2048 → EReal)
    (c : Fin 2048) (f : Fin 5632) : term h wa wb wo c f.val = hidden h wa wb f * wo f c := dif_pos f.isLt

/-- The feed-forward row, its features taken in eleven blocks of 512. -/
theorem ffnRow_blocks (h : Fin 2048 → EReal) (wa wb : Fin 2048 → Fin 5632 → EReal) (wo : Fin 5632 → Fin 2048 → EReal)
    (c : Fin 2048) :
    ffnRow h wa wb wo c = ∑ j ∈ Finset.range 11, ∑ r : Fin 512, term h wa wb wo c (512 * j + r.val) := by
  rw [← sum_blocks]
  exact Finset.sum_congr rfl fun f _ => (term_fin h wa wb wo c f).symm

end Cert.Maths

end
-- ==== Proof.FfnPayloads.lean ====
/-
  What the feed-forward kernel's stores are worth, read at one place: the normed input row, one block of 512 hidden
  features' contribution to the output row, and the closing residual half-step.
-/
module

public import proofs.«01_k».proof.Proof.Gen.FfnIdeal.Skeleton
public import proofs.«01_k».proof.Proof.Maths
public import Idealize.ShloMosaic.Lib.Pointwise

@[expose] public section

noncomputable section

namespace Cert.FfnIdeal.Payload

open Cert.FfnIdeal Cert.FfnIdeal.Gen Cert.Maths Idealize.ShloMosaic

/-- The stored normed input: row `r` of the block through the root-mean-square norm. -/
theorem normed_apply (x : Vec Ideal S512x2048 .f32) (g : Vec Ideal S1x2048 .f32) (r : Fin 512) (k : Fin 2048) :
    k0_pay3 (F := Ideal) x g (ix2 r k) = rms (fun j => x (ix2 r j)) (fun j => g (ix2 0 j)) k := by
  unfold_payloads
  pointwise [rms_def, invRms_def]

/-- The accumulator's reset. -/
theorem reset_apply (i : S512x2048.Idx) : k0_pay4 (F := Ideal) i = 0 := by
  unfold_payloads
  pointwise

/-- The closing half-step: the block's input row plus half the normed accumulated row. -/
theorem close_apply (x a : Vec Ideal S512x2048 .f32) (g : Vec Ideal S1x2048 .f32) (r : Fin 512) (k : Fin 2048) :
    k0_pay2 (F := Ideal) x a g (ix2 r k)
      = x (ix2 r k) + half * rms (fun j => a (ix2 r j)) (fun j => g (ix2 0 j)) k := by
  unfold_payloads
  pointwise [rms_def, invRms_def, half_def]
  ac_rfl

/-- One block of 512 hidden features added to the accumulator: the first 256 columns of the two input-weight blocks come
    in one pair of loads, the last 256 in another, and the joined hidden row meets the output-weight block. -/
theorem step_apply (h : Vec Ideal S512x2048 .bf16) (a0 b0 a1 b1 : Vec Ideal S1x2048x256 .bf16)
    (A B : Vec Ideal S1x2048x512 .bf16) (acc : Vec Ideal S512x2048 .f32) (w : Vec Ideal S1x512x2048 .bf16)
    (ha0 : ∀ k (f : Fin 256), a0 (ix3 0 k f) = A (ix3 0 k (f.castAdd 256)))
    (hb0 : ∀ k (f : Fin 256), b0 (ix3 0 k f) = B (ix3 0 k (f.castAdd 256)))
    (ha1 : ∀ k (f : Fin 256), a1 (ix3 0 k f) = A (ix3 0 k (f.natAdd 256)))
    (hb1 : ∀ k (f : Fin 256), b1 (ix3 0 k f) = B (ix3 0 k (f.natAdd 256))) (r : Fin 512) (c : Fin 2048) :
    k0_pay1 (k0_pay5 (F := Ideal) h a0 b0 a1 b1 acc w) (ix2 r c)
      = acc (ix2 r c) + ∑ f : Fin 512,
          swiglu (∑ k, h (ix2 r k) * A (ix3 0 k f)) (∑ k, h (ix2 r k) * B (ix3 0 k f)) * w (ix3 0 f c) := by
  rw [show (∑ f : Fin 512, swiglu (∑ k, h (ix2 r k) * A (ix3 0 k f)) (∑ k, h (ix2 r k) * B (ix3 0 k f)) * w (ix3 0 f c)) = _
    from Fin.sum_univ_add (a := 256) (b := 256) fun f : Fin (256 + 256) =>
      swiglu (∑ k, h (ix2 r k) * A (ix3 0 k f)) (∑ k, h (ix2 r k) * B (ix3 0 k f)) * w (ix3 0 f c)]
  unfold_payloads
  pointwise [dot_S512x2048_S2048x256_S512x256_1_0_0_1_n_n, dot_S512x512_S512x2048_S512x2048_1_0_0_1_n_n]
  simp only [ha0, hb0, ha1, hb1]
  rfl

end Cert.FfnIdeal.Payload

end
-- ==== Proof.FfnCases.lean ====
/-
  The feed-forward kernel's three cases: what the body leaves in its two scratch buffers and in the output block, as the
  named payloads of the blocks it was handed.
-/
module

public import proofs.«01_k».proof.Proof.Gen.FfnIdeal.Frame
public import proofs.«01_k».proof.Proof.FfnPayloads
public import Idealize.ShloMosaic.Lib.Pipeline.Value
public import Idealize.ShloMosaic.Lib.Tactic

@[expose] public section

noncomputable section

namespace Cert.FfnIdeal.Cases

open Cert.FfnIdeal Cert.FfnIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The first 256 columns of a weight block. -/
abbrev lo (x : Vec F S1x2048x512 .bf16) : Vec F S1x2048x256 .bf16 :=
  View.ld x (Rect.unit ![0, 0, 0] ![1, 2048, 256] inb_S1x2048x512_S1x2048x256_0_0_0)
/-- The last 256 columns of a weight block. -/
abbrev hi (x : Vec F S1x2048x512 .bf16) : Vec F S1x2048x256 .bf16 :=
  View.ld x (Rect.unit ![0, 0, 256] ![1, 2048, 256] inb_S1x2048x512_S1x2048x256_0_0_256)
/-- One block of hidden features added to the accumulator. -/
def step (h : Vec F S512x2048 .bf16) (x3 x4 : Vec F S1x2048x512 .bf16) (x5 : Vec F S1x512x2048 .bf16)
    (acc : Vec F S512x2048 .f32) : Vec F S512x2048 .f32 :=
  k0_pay1 (k0_pay5 h (lo x3) (lo x4) (hi x3) (hi x4) acc x5)

variable (c : Dev nD) (i : grid0.Coords) (a2 : Memref sig .tc .vmem S512x2048 .f32) (h2 : a2.IsWhole)
  (a3 : Memref sig .tc .vmem S1x2048 .f32) (h3 : a3.IsWhole) (a4 : Memref sig .tc .vmem S1x2048 .f32) (h4 : a4.IsWhole)
  (a5 : Memref sig .tc .vmem S1x2048x512 .bf16) (h5 : a5.IsWhole) (a6 : Memref sig .tc .vmem S1x2048x512 .bf16) (h6 : a6.IsWhole)
  (a7 : Memref sig .tc .vmem S1x512x2048 .bf16) (h7 : a7.IsWhole) (a8 : Memref sig .tc .vmem S512x2048 .f32) (h8 : a8.IsWhole)
  (a9 : Memref sig .tc .vmem S512x2048 .bf16) (h9 : a9.IsWhole) (a10 : Memref sig .tc .vmem S512x2048 .f32) (h10 : a10.IsWhole)
  (x0 : Vec F S512x2048 .f32) (x1 x2 : Vec F S1x2048 .f32) (x3 x4 : Vec F S1x2048x512 .bf16) (x5 : Vec F S1x512x2048 .bf16)
  (xs0 : Vec F S512x2048 .bf16) (xs1 : Vec F S512x2048 .f32)

/-- The first point of a row block stores the normed input rows. -/
theorem first_normed (hc0 : cond0_0 i) (hc1 : ¬cond0_1 i) :
    sout0_A_0 c i a2 h2 a3 h3 a4 h4 a5 h5 a6 h6 a7 h7 a8 h8 a9 h9 a10 h10 hc0 hc1 x0 x1 x2 x3 x4 x5 = k0_pay3 x0 x1 := by
  unfold sout0_A_0
  rw [View.read_writes_eq_canon _ _ _ (scover0_A_0 c i a2 h2 a3 h3 a4 h4 a5 h5 a6 h6 a7 h7 a8 h8 a9 h9 a10 h10 hc0 hc1 x0 x1 x2 x3 x4 x5)]
  unfold kernelRun0_A
  dsimp only
  sl_unfold_words
  rw [View.canon_unit_zero hz2]
  simp only [View.readAt_eq_ld, h2.read_unread, h3.read_unread, View.ld_unit_zero (S := S512x2048) hz2,
    View.ld_unit_zero (S := S1x2048) hz2]

/-- It adds its block of features to zero. -/
theorem first_acc (hc0 : cond0_0 i) (hc1 : ¬cond0_1 i) :
    sout0_A_1 c i a2 h2 a3 h3 a4 h4 a5 h5 a6 h6 a7 h7 a8 h8 a9 h9 a10 h10 hc0 hc1 x0 x1 x2 x3 x4 x5
      = step (k0_pay3 x0 x1) x3 x4 x5 (k0_pay4 (F := F)) := by
  unfold sout0_A_1
  rw [View.read_writes_eq_canon _ _ _ (scover0_A_1 c i a2 h2 a3 h3 a4 h4 a5 h5 a6 h6 a7 h7 a8 h8 a9 h9 a10 h10 hc0 hc1 x0 x1 x2 x3 x4 x5)]
  unfold kernelRun0_A
  dsimp only
  sl_unfold_words
  rw [View.canon_cons_unit_zero (S := S512x2048) hz2]
  simp only [View.readCov_unit_zero (S := S512x2048) _ hz2, View.readAt_eq_ld, h2.read_unread, h3.read_unread, h5.read_unread,
    h6.read_unread, h7.read_unread, View.ld_unit_zero (S := S512x2048) hz2, View.ld_unit_zero (S := S1x2048) hz2,
    View.ld_unit_zero (S := S1x512x2048) hz3]
  rfl

/-- A middle point adds its block of features to the accumulator. -/
theorem mid_acc (hc0 : ¬cond0_0 i) (hc1 : ¬cond0_1 i) :
    sout0_B_1 c i a2 h2 a3 h3 a4 h4 a5 h5 a6 h6 a7 h7 a8 h8 a9 h9 a10 h10 hc0 hc1 x0 x1 x2 x3 x4 x5 xs0 xs1
      = step xs0 x3 x4 x5 xs1 := by
  unfold sout0_B_1
  rw [View.read_writes_eq_canon _ _ _ (scover0_B_1 c i a2 h2 a3 h3 a4 h4 a5 h5 a6 h6 a7 h7 a8 h8 a9 h9 a10 h10 hc0 hc1 x0 x1 x2 x3 x4 x5 xs0 xs1)]
  unfold kernelRun0_B
  dsimp only
  sl_unfold_words
  rw [View.canon_unit_zero hz2]
  simp only [View.readAt_eq_ld, h5.read_unread, h6.read_unread, h7.read_unread, h9.read_unread, h10.read_unread,
    View.ld_unit_zero (S := S512x2048) hz2, View.ld_unit_zero (S := S1x512x2048) hz3]
  rfl

/-- So does the last point of a row block. -/
theorem last_acc (hc0 : ¬cond0_0 i) (hc1 : cond0_1 i) :
    sout0_C_1 c i a2 h2 a3 h3 a4 h4 a5 h5 a6 h6 a7 h7 a8 h8 a9 h9 a10 h10 hc0 hc1 x0 x1 x2 x3 x4 x5 xs0 xs1
      = step xs0 x3 x4 x5 xs1 := by
  unfold sout0_C_1
  rw [View.read_writes_eq_canon _ _ _ (scover0_C_1 c i a2 h2 a3 h3 a4 h4 a5 h5 a6 h6 a7 h7 a8 h8 a9 h9 a10 h10 hc0 hc1 x0 x1 x2 x3 x4 x5 xs0 xs1)]
  unfold kernelRun0_C
  dsimp only
  sl_unfold_words
  rw [View.canon_unit_zero hz2]
  simp only [View.readAt_eq_ld, h5.read_unread, h6.read_unread, h7.read_unread, h9.read_unread, h10.read_unread,
    View.ld_unit_zero (S := S512x2048) hz2, View.ld_unit_zero (S := S1x512x2048) hz3]
  rfl

/-- The last point writes the half-step off the finished accumulator. -/
theorem last_out (hc0 : ¬cond0_0 i) (hc1 : cond0_1 i) :
    out0_C_6 c i a2 h2 a3 h3 a4 h4 a5 h5 a6 h6 a7 h7 a8 h8 a9 h9 a10 h10 hc0 hc1 x0 x1 x2 x3 x4 x5 xs0 xs1
      = k0_pay2 x0 (step xs0 x3 x4 x5 xs1) x2 := by
  unfold out0_C_6
  rw [View.read_writes_eq_canon _ _ _ (cover0_C_6 c i a2 h2 a3 h3 a4 h4 a5 h5 a6 h6 a7 h7 a8 h8 a9 h9 a10 h10 hc0 hc1 x0 x1 x2 x3 x4 x5 xs0 xs1)]
  unfold kernelRun0_C
  dsimp only
  sl_unfold_words
  rw [View.canon_unit_zero hz2]
  simp only [View.readCov_unit_zero (S := S512x2048) _ hz2, View.readAt_eq_ld, h2.read_unread, h4.read_unread, h5.read_unread,
    h6.read_unread, h7.read_unread, h9.read_unread, h10.read_unread, View.ld_unit_zero (S := S512x2048) hz2,
    View.ld_unit_zero (S := S1x2048) hz2, View.ld_unit_zero (S := S1x512x2048) hz3]
  rfl

end Cert.FfnIdeal.Cases

end
-- ==== Proof.FfnBlocks.lean ====
/-
  The feed-forward kernel's input blocks, read at one place of the launched arrays.
-/
module

public import proofs.«01_k».proof.Proof.FfnCases
public import Idealize.ShloMosaic.Lib.Claim
public import Idealize.ShloMosaic.Lib.Pipeline.ValueKit

@[expose] public section

noncomputable section

namespace Cert.FfnIdeal.Blocks

open Cert.FfnIdeal Cert.FfnIdeal.Gen Idealize.ShloMosaic Idealize.ShloMosaic.TcCoe Idealize.SL.Sem

variable (m : (ℓ : Loc nD τ sig) → Buf (Elt Ideal) ℓ) (c : Dev nD)

/-! ## The launched arrays' rows and columns -/

/-- Token `R`'s row of the residual stream. -/
def xrow (R : Fin 16384) (k : Fin 2048) : EReal :=
  m ((c : Thread nD τ).loc main_arg0) (ix3 (⟨R.val / 4096, by omega⟩ : Fin 4) (⟨R.val % 4096, by omega⟩ : Fin 4096) k)
/-- The second layer's scale before the feed-forward. -/
def gpre (k : Fin 2048) : EReal := m ((c : Thread nD τ).loc main_arg1) (ix2 (1 : Fin 2) k)
/-- The second layer's scale after it. -/
def gpost (k : Fin 2048) : EReal := m ((c : Thread nD τ).loc main_arg2) (ix2 (1 : Fin 2) k)
/-- The gate columns of the second layer's input weights: the first 5632. -/
def wa (k : Fin 2048) (f : Fin 5632) : EReal :=
  m ((c : Thread nD τ).loc main_arg3) (ix3 (1 : Fin 2) k (⟨f.val, by omega⟩ : Fin 11264))
/-- The value columns: the last 5632. -/
def wb (k : Fin 2048) (f : Fin 5632) : EReal :=
  m ((c : Thread nD τ).loc main_arg3) (ix3 (1 : Fin 2) k (⟨5632 + f.val, by omega⟩ : Fin 11264))
/-- The second layer's output weights. -/
def wo (f : Fin 5632) (k : Fin 2048) : EReal := m ((c : Thread nD τ).loc main_arg4) (ix3 (1 : Fin 2) f k)

/-! ## What the region finds in its arrays -/

theorem V0_apply (R : Fin 16384) (k : Fin 2048) :
    (V m c main_v0 : Vec Ideal S16384x2048 .f32) (ix2 R k) = xrow m c R k := by
  entry_read
  exact shapeCast_apply _ shapeCasts_S4x4096x2048_S16384x2048 _ _ (by
    rw [Shape.rowMajor_val_three, Shape.rowMajor_val_two]
    show (R.val / 4096 * 4096 + R.val % 4096) * 2048 + k.val = R.val * 2048 + k.val
    omega)

theorem V7_apply (k : Fin 2048) : (V m c main_v7 : Vec Ideal S1x2048 .f32) (ix2 0 k) = gpre m c k := by
  entry_read
  pointwise
  rfl

theorem V8_apply (k : Fin 2048) : (V m c main_v8 : Vec Ideal S1x2048 .f32) (ix2 0 k) = gpost m c k := by
  entry_read
  pointwise
  rfl

/-! ## The windows' blocks -/

theorem index0 : ∀ t : Fin cfg0.N, win0_0.index t = ![t.val / 11, 0] := by decide +kernel
theorem index1 : ∀ t : Fin cfg0.N, win0_1.index t = ![0, 0] := by decide +kernel
theorem index2 : ∀ t : Fin cfg0.N, win0_2.index t = ![0, 0] := by decide +kernel
theorem index3 : ∀ t : Fin cfg0.N, win0_3.index t = ![1, 0, t.val % 11] := by decide +kernel
theorem index4 : ∀ t : Fin cfg0.N, win0_4.index t = ![1, 0, t.val % 11 + 11] := by decide +kernel
theorem index5 : ∀ t : Fin cfg0.N, win0_5.index t = ![1, t.val % 11, 0] := by decide +kernel

/-- The token that row `r` of point `t`'s block is. -/
def tok (t : Fin cfg0.N) (r : Fin 512) : Fin 16384 :=
  ⟨512 * (t.val / 11) + r.val, by have h : t.val < 352 := Nat.lt_of_lt_of_eq t.isLt N_0; omega⟩
/-- The feature that column `f` of point `t`'s weight blocks is. -/
def feat (t : Fin cfg0.N) (f : Fin 512) : Fin 5632 := ⟨512 * (t.val % 11) + f.val, by omega⟩

theorem blk0_apply (t : Fin cfg0.N) (r : Fin 512) (k : Fin 2048) :
    (iblk m c 0 t : Vec Ideal S512x2048 .f32) (ix2 r k) = xrow m c (tok t r) k := by
  rw [← V0_apply]
  blk_simp [iblk]
  refine congrArg (V m c main_v0) (funext fun a => Fin.ext ?_)
  match a with
  | ⟨0, _⟩ => blk_simp [index0]; show _ = 512 * (t.val / 11) + r.val; omega
  | ⟨1, _⟩ => blk_simp [index0]

theorem blk1_apply (t : Fin cfg0.N) (k : Fin 2048) : (iblk m c 1 t : Vec Ideal S1x2048 .f32) (ix2 0 k) = gpre m c k := by
  rw [← V7_apply]
  blk_simp [iblk]
  refine congrArg (V m c main_v7) (funext fun a => Fin.ext ?_)
  match a with
  | ⟨0, _⟩ => blk_simp [index1]
  | ⟨1, _⟩ => blk_simp [index1]

theorem blk2_apply (t : Fin cfg0.N) (k : Fin 2048) : (iblk m c 2 t : Vec Ideal S1x2048 .f32) (ix2 0 k) = gpost m c k := by
  rw [← V8_apply]
  blk_simp [iblk]
  refine congrArg (V m c main_v8) (funext fun a => Fin.ext ?_)
  match a with
  | ⟨0, _⟩ => blk_simp [index2]
  | ⟨1, _⟩ => blk_simp [index2]

theorem blk3_apply (t : Fin cfg0.N) (k : Fin 2048) (f : Fin 512) :
    (iblk m c 3 t : Vec Ideal S1x2048x512 .bf16) (ix3 0 k f) = wa m c k (feat t f) := by
  blk_simp [iblk]
  entry_read
  refine congrArg (m ((c : Thread nD τ).loc main_arg3)) (funext fun a => Fin.ext ?_)
  match a with
  | ⟨0, _⟩ => blk_simp [index3]; rfl
  | ⟨1, _⟩ => blk_simp [index3]
  | ⟨2, _⟩ => blk_simp [index3]; show _ = 512 * (t.val % 11) + f.val; omega

theorem blk4_apply (t : Fin cfg0.N) (k : Fin 2048) (f : Fin 512) :
    (iblk m c 4 t : Vec Ideal S1x2048x512 .bf16) (ix3 0 k f) = wb m c k (feat t f) := by
  blk_simp [iblk]
  entry_read
  refine congrArg (m ((c : Thread nD τ).loc main_arg3)) (funext fun a => Fin.ext ?_)
  match a with
  | ⟨0, _⟩ => blk_simp [index4]; rfl
  | ⟨1, _⟩ => blk_simp [index4]
  | ⟨2, _⟩ => blk_simp [index4]; show _ = 5632 + (512 * (t.val % 11) + f.val); omega

theorem blk5_apply (t : Fin cfg0.N) (f : Fin 512) (k : Fin 2048) :
    (iblk m c 5 t : Vec Ideal S1x512x2048 .bf16) (ix3 0 f k) = wo m c (feat t f) k := by
  blk_simp [iblk]
  entry_read
  refine congrArg (m ((c : Thread nD τ).loc main_arg4)) (funext fun a => Fin.ext ?_)
  match a with
  | ⟨0, _⟩ => blk_simp [index5]; rfl
  | ⟨1, _⟩ => blk_simp [index5]; show _ = 512 * (t.val % 11) + f.val; omega
  | ⟨2, _⟩ => blk_simp [index5]

end Cert.FfnIdeal.Blocks

end
-- ==== Proof.FfnFold.lean ====
/-
  What the feed-forward kernel leaves: after each grid point the scratches hold the normed rows and the sum over the
  feature blocks done so far; after the last point of a row block the output holds half a step of the residual stream.
-/
module

public import proofs.«01_k».proof.Proof.FfnBlocks
public import proofs.«01_k».proof.Proof.Gen.FfnIdeal.Value

@[expose] public section

noncomputable section

namespace Cert.FfnIdeal.Fold

open Cert.FfnIdeal Cert.FfnIdeal.Gen Cert.FfnIdeal.Blocks Cert.FfnIdeal.Cases Cert.FfnIdeal.Payload Cert.Maths
open Idealize.ShloMosaic Idealize.ShloMosaic.TcCoe Idealize.SL.Sem

variable (m : (ℓ : Loc nD τ sig) → Buf (Elt Ideal) ℓ) (c : Dev nD)

theorem lo_apply (x : Vec Ideal S1x2048x512 .bf16) (k : Fin 2048) (f : Fin 256) :
    lo x (ix3 0 k f) = x (ix3 0 k (f.castAdd 256)) :=
  congrArg x (funext fun a => Fin.ext (by
    match a with
    | ⟨0, _⟩ => rfl
    | ⟨1, _⟩ => show 0 + 1 * k.val = k.val; omega
    | ⟨2, _⟩ => show 0 + 1 * f.val = f.val; omega))

theorem hi_apply (x : Vec Ideal S1x2048x512 .bf16) (k : Fin 2048) (f : Fin 256) :
    hi x (ix3 0 k f) = x (ix3 0 k (f.natAdd 256)) :=
  congrArg x (funext fun a => Fin.ext (by
    match a with
    | ⟨0, _⟩ => rfl
    | ⟨1, _⟩ => show 0 + 1 * k.val = k.val; omega
    | ⟨2, _⟩ => show 256 + 1 * f.val = 256 + f.val; omega))

/-- Token `R`'s normed row. -/
def nrow (R : Fin 16384) : Fin 2048 → EReal := rms (xrow m c R) (gpre m c)
/-- Feature `F`'s share of entry `k` of token `R`'s feed-forward row. -/
def part (R : Fin 16384) (k : Fin 2048) (F : ℕ) : EReal := term (nrow m c R) (wa m c) (wb m c) (wo m c) k F

/-- Point `t` adds the shares of its 512 features. -/
theorem step_at (t : Fin cfg0.N) (h : Vec Ideal S512x2048 .bf16) (acc : Vec Ideal S512x2048 .f32)
    (hh : ∀ (r : Fin 512) (k : Fin 2048), h (ix2 r k) = nrow m c (tok t r) k) (r : Fin 512) (k : Fin 2048) :
    step h (iblk m c 3 t) (iblk m c 4 t) (iblk m c 5 t) acc (ix2 r k)
      = acc (ix2 r k) + ∑ f : Fin 512, part m c (tok t r) k (512 * (t.val % 11) + f.val) := by
  refine (step_apply h (lo (iblk m c 3 t)) (lo (iblk m c 4 t)) (hi (iblk m c 3 t)) (hi (iblk m c 4 t)) (iblk m c 3 t)
    (iblk m c 4 t) acc (iblk m c 5 t) (lo_apply _) (lo_apply _) (hi_apply _) (hi_apply _) r k).trans ?_
  refine congrArg (_ + ·) (Finset.sum_congr rfl fun f _ => ?_)
  refine Eq.trans ?_ (term_fin (nrow m c (tok t r)) (wa m c) (wb m c) (wo m c) k (feat t f)).symm
  rw [blk5_apply]
  unfold Maths.hidden
  simp only [hh, blk3_apply, blk4_apply]

/-- After point `n`, whose feature block is `n % 11`: the normed rows, and the shares of the feature blocks up to it. -/
def Holds (n : ℕ) (hn : n < cfg0.N) : Prop :=
  (∀ (r : Fin 512) (k : Fin 2048), (outsAt0 m c n hn).2.1 (ix2 r k) = nrow m c (tok ⟨n, hn⟩ r) k)
  ∧ ∀ (r : Fin 512) (k : Fin 2048), (outsAt0 m c n hn).2.2 (ix2 r k)
      = ∑ j ∈ Finset.range (n % 11 + 1), ∑ f : Fin 512, part m c (tok ⟨n, hn⟩ r) k (512 * j + f.val)

/-- The first point of a row block. -/
theorem holds_first (t : Fin cfg0.N) (h0 : t.val % 11 = 0) : Holds m c t.val t.isLt := by
  have h1 : ¬t.val % 11 = 10 := by omega
  have hn : ∀ (r : Fin 512) (k : Fin 2048),
      k0_pay3 (F := Ideal) (iblk m c 0 t) (iblk m c 1 t) (ix2 r k) = nrow m c (tok t r) k := fun r k => by
    rw [normed_apply]
    simp only [blk0_apply, blk1_apply]
    rfl
  refine ⟨fun r k => ?_, fun r k => ?_⟩
  · rw [outsAt0_A m c t h0 h1]
    dsimp only
    rw [first_normed]
    exact hn r k
  · rw [outsAt0_A m c t h0 h1]
    dsimp only
    rw [first_acc, step_at m c t _ _ hn, reset_apply, zero_add, h0, zero_add, Finset.sum_range_one]

/-- What the point before left is about the same rows. -/
theorem before (n : ℕ) (hn : n < cfg0.N) (h0 : ¬n % 11 = 0) (hb : n - 1 < cfg0.N) (H : Holds m c (n - 1) hb) :
    (∀ (r : Fin 512) (k : Fin 2048), (outsAt0 m c (n - 1) hb).2.1 (ix2 r k) = nrow m c (tok ⟨n, hn⟩ r) k)
    ∧ ∀ (r : Fin 512) (k : Fin 2048), (outsAt0 m c (n - 1) hb).2.2 (ix2 r k)
      = ∑ j ∈ Finset.range (n % 11), ∑ f : Fin 512, part m c (tok ⟨n, hn⟩ r) k (512 * j + f.val) := by
  have e : ∀ r, tok ⟨n - 1, hb⟩ r = tok ⟨n, hn⟩ r := fun r => Fin.ext (by
    show 512 * ((n - 1) / 11) + r.val = 512 * (n / 11) + r.val
    omega)
  have e2 : (n - 1) % 11 + 1 = n % 11 := by omega
  refine ⟨fun r k => ?_, fun r k => ?_⟩
  · rw [H.1, e]
  · rw [H.2, e, e2]

/-- A later point that adds to the accumulator. -/
theorem add_part (t : Fin cfg0.N) (h0 : ¬t.val % 11 = 0) (hb : t.val - 1 < cfg0.N) (H : Holds m c (t.val - 1) hb)
    (r : Fin 512) (k : Fin 2048) :
    step (outsAt0 m c (t.val - 1) hb).2.1 (iblk m c 3 t) (iblk m c 4 t) (iblk m c 5 t) (outsAt0 m c (t.val - 1) hb).2.2 (ix2 r k)
      = ∑ j ∈ Finset.range (t.val % 11 + 1), ∑ f : Fin 512, part m c (tok t r) k (512 * j + f.val) := by
  obtain ⟨e1, e2⟩ := before m c t.val t.isLt h0 hb H
  rw [step_at m c t _ _ e1, e2, ← Finset.sum_range_succ]

theorem holds_later (t : Fin cfg0.N) (h0 : ¬t.val % 11 = 0) (hb : t.val - 1 < cfg0.N) (H : Holds m c (t.val - 1) hb) :
    Holds m c t.val t.isLt := by
  have e1 := (before m c t.val t.isLt h0 hb H).1
  by_cases h1 : t.val % 11 = 10
  · refine ⟨fun r k => ?_, fun r k => ?_⟩
    · rw [outsAt0_C m c t h0 h1]
      exact e1 r k
    · rw [outsAt0_C m c t h0 h1]
      dsimp only
      rw [last_acc]
      exact add_part m c t h0 hb H r k
  · refine ⟨fun r k => ?_, fun r k => ?_⟩
    · rw [outsAt0_B m c t h0 h1]
      exact e1 r k
    · rw [outsAt0_B m c t h0 h1]
      dsimp only
      rw [mid_acc]
      exact add_part m c t h0 hb H r k

theorem holds : ∀ (n : ℕ) (hn : n < cfg0.N), Holds m c n hn := by
  intro n
  induction n with
  | zero => exact fun hn => holds_first m c ⟨0, hn⟩ (Nat.zero_mod 11)
  | succ n ih =>
    intro hn
    by_cases h0 : (n + 1) % 11 = 0
    · exact holds_first m c ⟨n + 1, hn⟩ h0
    · exact holds_later m c ⟨n + 1, hn⟩ h0 (by show n < cfg0.N; omega) (ih (by omega))

/-- Token `R`'s row after the half-step, of the launched arrays. -/
def result (R : Fin 16384) (k : Fin 2048) : EReal :=
  ffnStep (xrow m c R) (gpre m c) (gpost m c) (wa m c) (wb m c) (wo m c) k

/-- The last point of a row block writes the half-step of its rows. -/
theorem out_last (t : Fin cfg0.N) (h1 : t.val % 11 = 10) (r : Fin 512) (k : Fin 2048) :
    (outsAt0 m c t.val t.isLt).1 (ix2 r k) = result m c (tok t r) k := by
  have h0 : ¬t.val % 11 = 0 := by omega
  have hb : t.val - 1 < cfg0.N := by have := t.isLt; omega
  have e : ∀ k, step (outsAt0 m c (t.val - 1) hb).2.1 (iblk m c 3 t) (iblk m c 4 t) (iblk m c 5 t)
      (outsAt0 m c (t.val - 1) hb).2.2 (ix2 r k) = ffnRow (nrow m c (tok t r)) (wa m c) (wb m c) (wo m c) k := fun k => by
    rw [add_part m c t h0 hb (holds m c _ hb), h1]
    exact (ffnRow_blocks _ _ _ _ k).symm
  rw [outsAt0_C m c t h0 h1]
  dsimp only
  rw [last_out, close_apply]
  simp only [e, blk0_apply, blk2_apply]
  rfl

/-- The array after the run, entry by entry. -/
theorem array_apply (R : Fin 16384) (k : Fin 2048) :
    (Value.G6 m c : Vec Ideal S16384x2048 .f32) (ix2 R k) = result m c R k := by
  have hR : R.val / 512 < 32 := by omega
  have hp : Value.pt6Of (ix2 R k) = 11 * (R.val / 512) + 10 := by
    show 11 * (1 * (R.val / 512 - 0) + 1 * (k.val / 2048 - 0)) + 10 = _
    omega
  have hN : 11 * (R.val / 512) + 10 < cfg0.N := Nat.lt_of_lt_of_eq (by omega) N_0.symm
  have hl : Value.loc6Of (ix2 R k) = ix2 (⟨R.val % 512, Nat.mod_lt _ (by decide)⟩ : Fin 512) k := by
    funext a
    apply Fin.ext
    match a with
    | ⟨0, _⟩ => rfl
    | ⟨1, _⟩ => show k.val % 2048 = k.val; omega
  unfold Value.G6
  rw [dif_pos (by rw [hp]; exact hN), hl, ← Value.outsAt0_sweep m c (Value.pt6Of (ix2 R k)) (by rw [hp]; exact hN)]
  have key := out_last m c ⟨Value.pt6Of (ix2 R k), by rw [hp]; exact hN⟩ (by show Value.pt6Of (ix2 R k) % 11 = 10; rw [hp]; omega)
    ⟨R.val % 512, Nat.mod_lt _ (by decide)⟩ k
  refine key.trans (congrArg (fun R => result m c R k) (Fin.ext ?_))
  show 512 * (Value.pt6Of (ix2 R k) / 11) + R.val % 512 = R.val
  rw [hp]
  omega

end Cert.FfnIdeal.Fold

end
-- ==== Proof.FfnRef.lean ====
/-
  The feed-forward reference, read entry by entry: half a step of the residual stream for every token.
-/
module

public import proofs.«01_k».proof.Proof.FfnFold
public import proofs.«01_k».proof.Proof.Gen.FfnRefIdeal.Read
public import Idealize.ShloMosaic.Lib.Pointwise

@[expose] public section

noncomputable section

namespace Cert.FfnRefIdeal.Entry

open Cert.FfnRefIdeal Cert.FfnRefIdeal.Gen Cert.FfnRefIdeal.Read Cert.Maths
open Idealize.ShloMosaic Idealize.ShloMosaic.TcCoe Idealize.SL.Sem

variable (x0 : Vec Ideal S4x4096x2048 .f32) (x1 x2 : Vec Ideal S2x2048 .f32) (x3 : Vec Ideal S2x2048x11264 .f32)
  (x4 : Vec Ideal S2x5632x2048 .f32)

/-- Token `R`'s row. -/
def xrow (R : Fin 16384) (k : Fin 2048) : EReal :=
  x0 (ix3 (⟨R.val / 4096, by omega⟩ : Fin 4) (⟨R.val % 4096, by omega⟩ : Fin 4096) k)
def wa (k : Fin 2048) (f : Fin 5632) : EReal := x3 (ix3 (1 : Fin 2) k (⟨f.val, by omega⟩ : Fin 11264))
def wb (k : Fin 2048) (f : Fin 5632) : EReal := x3 (ix3 (1 : Fin 2) k (⟨5632 + f.val, by omega⟩ : Fin 11264))
def wo (f : Fin 5632) (k : Fin 2048) : EReal := x4 (ix3 (1 : Fin 2) f k)

/-- A row of 2048, normed by the reference's operations. -/
theorem rms_ops (x g : Fin 2048 → EReal) (k : Fin 2048) :
    FloatOps.mulf (F := Ideal) (φ := .f32) (FloatOps.mulf (x k) (FloatOps.hostUnary .rsqrt (FloatOps.addf
      (FloatOps.hostDivf ((FloatOps.ofBits .f32 0x00000000#32 : Ideal .f32) + ∑ j : Fin 2048, FloatOps.mulf (F := Ideal) (φ := .f32) (x j) (x j))
        (FloatOps.ofBits .f32 0x45000000#32)) (FloatOps.ofBits .f32 0x358637BD#32)))) (g k) = rms x g k := by
  rw [rms_def, invRms_def]
  simp only [Ideal.mulf_def, Ideal.addf_def, Ideal.hostDivf_def, Ideal.hostUnary_rsqrt_def, Ideal.ofBits_def, zero_f32]
  rw [zero_add]

theorem input (R : Fin 16384) (k : Fin 2048) : val_main_v0 (F := Ideal) x0 (ix2 R k) = xrow x0 R k := by
  rw [val_main_v0_apply]
  refine congrArg x0 (funext fun a => Fin.ext ?_)
  match a with
  | ⟨0, _⟩ => show (R.val * 2048 + k.val) / 8388608 = R.val / 4096; omega
  | ⟨1, _⟩ => show (R.val * 2048 + k.val) / 2048 % 4096 = R.val % 4096; omega
  | ⟨2, _⟩ => show (R.val * 2048 + k.val) % 2048 = k.val; omega

theorem scale (k : Fin 2048) (R : Fin 16384) : val_main_v14 (F := Ideal) x1 (ix2 R k) = x1 (ix2 (1 : Fin 2) k) := by
  rw [val_main_v14_apply, val_main_v13_apply, val_main_v2_apply, val_main_v1_apply]
  refine congrArg x1 (funext fun a => Fin.ext ?_)
  match a with
  | ⟨0, _⟩ => rfl
  | ⟨1, _⟩ => show k.val % 2048 = k.val; omega

theorem normed (R : Fin 16384) (k : Fin 2048) :
    val_main_v15 (F := Ideal) x0 x1 (ix2 R k) = rms (xrow x0 R) (fun k => x1 (ix2 (1 : Fin 2) k)) k := by
  rw [val_main_v15_apply, val_main_v12_apply, val_main_v11_apply, val_main_v10_apply, val_main_v9_apply, val_main_v8_apply,
    val_main_cst_1_apply, val_main_v7_apply, val_main_v6_apply, val_main_cst_0_apply, val_main_v5_apply, val_main_v4_apply,
    val_main_cst_apply, scale, ← rms_ops, ← input]
  simp only [val_main_v3_apply, ← input]
  rfl

theorem weight_in (k : Fin 2048) (F : Fin 11264) : val_main_v17 (F := Ideal) x3 (ix2 k F) = x3 (ix3 (1 : Fin 2) k F) := by
  rw [val_main_v17_apply, val_main_v16_apply]
  refine congrArg x3 (funext fun a => Fin.ext ?_)
  match a with
  | ⟨0, _⟩ => rfl
  | ⟨1, _⟩ => show (k.val * 11264 + F.val) / 11264 % 2048 = k.val; omega
  | ⟨2, _⟩ => show (k.val * 11264 + F.val) % 11264 = F.val; omega

theorem weight_out (f : Fin 5632) (k : Fin 2048) : val_main_v19 (F := Ideal) x4 (ix2 f k) = wo x4 f k := by
  rw [val_main_v19_apply, val_main_v18_apply]
  refine congrArg x4 (funext fun a => Fin.ext ?_)
  match a with
  | ⟨0, _⟩ => rfl
  | ⟨1, _⟩ => show (f.val * 2048 + k.val) / 2048 % 5632 = f.val; omega
  | ⟨2, _⟩ => show (f.val * 2048 + k.val) % 2048 = k.val; omega

/-- The normed row times a column of the input weights. -/
theorem up (R : Fin 16384) (F : Fin 11264) : val_main_v20 (F := Ideal) x0 x1 x3 (ix2 R F)
    = ∑ k, rms (xrow x0 R) (fun k => x1 (ix2 (1 : Fin 2) k)) k * x3 (ix3 (1 : Fin 2) k F) := by
  rw [val_main_v20_apply]
  exact Finset.sum_congr rfl fun k _ => congrArg₂ (· * ·) ((at2 _ R k rfl rfl).trans (normed x0 x1 R k))
    ((at2 _ k F rfl rfl).trans (weight_in x3 k F))

theorem up_gate (R : Fin 16384) (f : Fin 5632) : val_main_v21 (F := Ideal) x0 x1 x3 (ix2 R f)
    = ∑ k, rms (xrow x0 R) (fun k => x1 (ix2 (1 : Fin 2) k)) k * wa x3 k f := by
  rw [val_main_v21_apply]
  exact (at2 _ R ⟨f.val, by omega⟩ rfl rfl).trans (up x0 x1 x3 R _)

theorem up_value (R : Fin 16384) (f : Fin 5632) : val_main_v22 (F := Ideal) x0 x1 x3 (ix2 R f)
    = ∑ k, rms (xrow x0 R) (fun k => x1 (ix2 (1 : Fin 2) k)) k * wb x3 k f := by
  rw [val_main_v22_apply]
  exact (at2 _ R ⟨5632 + f.val, by omega⟩ rfl rfl).trans (up x0 x1 x3 R _)

theorem hidden_at (R : Fin 16384) (f : Fin 5632) : val_main_v24 (F := Ideal) x0 x1 x3 (ix2 R f)
    = Maths.hidden (rms (xrow x0 R) (fun k => x1 (ix2 (1 : Fin 2) k))) (wa x3) (wb x3) f := by
  rw [val_main_v24_apply, val_main_v23_apply, val_main_call0_v5_apply, val_main_call0_v4_apply, val_main_call0_cst_0_apply,
    val_main_call0_v3_apply, val_main_call0_v2_apply, val_main_call0_cst_apply, val_main_call0_v1_apply,
    val_main_call0_v0_apply, up_gate, up_value]
  simp only [Ideal.mulf_def, Ideal.addf_def, Ideal.hostDivf_def, Ideal.hostUnary_exp_def, Ideal.hostNegf_def, Ideal.negf_def,
    Ideal.ofBits_def, one_f32]
  rw [Maths.hidden_def, swiglu_def]

theorem down (R : Fin 16384) (k : Fin 2048) : val_main_v25 (F := Ideal) x0 x1 x3 x4 (ix2 R k)
    = ffnRow (rms (xrow x0 R) (fun k => x1 (ix2 (1 : Fin 2) k))) (wa x3) (wb x3) (wo x4) k := by
  rw [val_main_v25_apply]
  exact Finset.sum_congr rfl fun f _ => congrArg₂ (· * ·) ((at2 _ R f rfl rfl).trans (hidden_at x0 x1 x3 R f))
    ((at2 _ f k rfl rfl).trans (weight_out x4 f k))

theorem scale_out (k : Fin 2048) (R : Fin 16384) : val_main_v39 (F := Ideal) x2 (ix2 R k) = x2 (ix2 (1 : Fin 2) k) := by
  rw [val_main_v39_apply, val_main_v38_apply, val_main_v27_apply, val_main_v26_apply]
  refine congrArg x2 (funext fun a => Fin.ext ?_)
  match a with
  | ⟨0, _⟩ => rfl
  | ⟨1, _⟩ => show k.val % 2048 = k.val; omega

theorem normed_out (R : Fin 16384) (k : Fin 2048) : val_main_v40 (F := Ideal) x0 x1 x2 x3 x4 (ix2 R k)
    = rms (ffnRow (rms (xrow x0 R) (fun k => x1 (ix2 (1 : Fin 2) k))) (wa x3) (wb x3) (wo x4)) (fun k => x2 (ix2 (1 : Fin 2) k)) k := by
  rw [val_main_v40_apply, val_main_v37_apply, val_main_v36_apply, val_main_v35_apply, val_main_v34_apply, val_main_v33_apply,
    val_main_cst_4_apply, val_main_v32_apply, val_main_v31_apply, val_main_cst_3_apply, val_main_v30_apply, val_main_v29_apply,
    val_main_cst_2_apply, scale_out, down, ← rms_ops]
  have e : ∀ j, val_main_v28 (F := Ideal) x0 x1 x3 x4 (idx_main_v29 (idx_main_v30 (idx_main_v36 (ix2 R k))) j) = FloatOps.mulf (F := Ideal) (φ := .f32)
      (ffnRow (rms (xrow x0 R) (fun k => x1 (ix2 (1 : Fin 2) k))) (wa x3) (wb x3) (wo x4) j)
      (ffnRow (rms (xrow x0 R) (fun k => x1 (ix2 (1 : Fin 2) k))) (wa x3) (wb x3) (wo x4) j) := fun j => by
    rw [val_main_v28_apply, (at2 (val_main_v25 (F := Ideal) x0 x1 x3 x4) R j rfl rfl).trans (down x0 x1 x3 x4 R j)]
  simp only [e]

/-- The reference's result, entry by entry. -/
theorem result (R : Fin 16384) (k : Fin 2048) : val_main_v43 (F := Ideal) x0 x1 x2 x3 x4 (ix2 R k)
    = ffnStep (xrow x0 R) (fun k => x1 (ix2 (1 : Fin 2) k)) (fun k => x2 (ix2 (1 : Fin 2) k)) (wa x3) (wb x3) (wo x4) k := by
  rw [val_main_v43_apply, val_main_v42_apply, val_main_v41_apply, val_main_cst_5_apply, normed_out, input]
  rfl

end Cert.FfnRefIdeal.Entry

end
-- ==== Proof.FfnClaim.lean ====
/-
  The feed-forward claims: the reference runs to its term with every counter at zero, and the kernel's array equals it.
-/
module

public import proofs.«01_k».proof.Defs
public import proofs.«01_k».proof.Proof.FfnRef
public import Idealize.ShloMosaic.Adequacy
public import Idealize.ShloMosaic.Init
public import Idealize.ShloMosaic.Lib.Quiescent

@[expose] public section

noncomputable section

namespace Cert.Proof

open Idealize.ShloMosaic Idealize.SL.Sem

theorem ffn_reference_rests : quiescent_FfnRefIdeal := fun m ρ _ =>
  (θ_run Cert.FfnRefIdeal.defs _ _).mono
    (fun r h => ⟨fun c => (h c).2, sem_eq_zero_of_no_sems (by decide) r.2⟩)
    (Cert.FfnRefIdeal.Value.run (F := Ideal) m ρ)

theorem ffn_values : algebraic_FfnIdeal_FfnRefIdeal := by
  intro m ρ m' ρ' _ hagree
  refine ⟨_, Cert.FfnIdeal.Value.run (F := Ideal) m ρ, ?_⟩
  refine (θ_run Cert.FfnRefIdeal.defs _ _).mono (fun _ h c => ⟨?_, (h c).2⟩)
    (Cert.FfnRefIdeal.Value.run (F := Ideal) m' ρ')
  obtain ⟨a0, a1, a2, a3, a4⟩ := hagree c
  rw [(h c).1, Cert.FfnRefIdeal.Read.val_main_v43_eq, a0, a1, a2, a3, a4]
  funext i
  obtain ⟨R, k, rfl⟩ : ∃ (R : Fin 16384) (k : Fin 2048), i = ix2 R k := ⟨_, _, ValueIdx.eq_ix2 i⟩
  refine (Cert.FfnRefIdeal.Entry.result _ _ _ _ _ R k).trans ?_
  exact (Cert.FfnIdeal.Fold.array_apply m c R k).symm

end Cert.Proof

end
-- ==== Proof.MergeMaths.lean ====
/-
  The gated causal mix of a sequence in chunks of 128 tokens, the merge of the two branches through their gates, and the
  output projection normed and added to the residual stream: one layer's arrays in, one entry out.
-/
module

public import proofs.«01_k».proof.Proof.FfnClaim

@[expose] public section

noncomputable section

namespace Cert.Maths

open Idealize.ShloMosaic

/-- Arrays of rank two, three and four over the extended reals. -/
abbrev Arr2 (a b : ℕ) : Type := (⟨2, ![a, b]⟩ : Shape).Idx → EReal
abbrev Arr3 (a b c : ℕ) : Type := (⟨3, ![a, b, c]⟩ : Shape).Idx → EReal
abbrev Arr4 (a b c d : ℕ) : Type := (⟨4, ![a, b, c, d]⟩ : Shape).Idx → EReal

/-- The first branch at token `R` and channel `e`: `u` times the mix of the chunk's tokens up to `R`, plus the bias of the
    token's place in its chunk. -/
def mixed (u v : Arr2 16384 1024) (w : Arr4 2 8 128 128) (b : Arr3 2 8 128) (R : Fin 16384) (e : Fin 1024) : EReal :=
  u (ix2 R e) * ((∑ s : Fin 128,
      (if s.val ≤ R.val % 128 then w (ix4 (0 : Fin 2) (⟨e.val / 128, by omega⟩ : Fin 8) (⟨R.val % 128, by omega⟩ : Fin 128) s) else 0)
        * v (ix2 (⟨128 * (R.val / 128) + s.val, by omega⟩ : Fin 16384) e))
    + b (ix3 (0 : Fin 2) (⟨e.val / 128, by omega⟩ : Fin 8) (⟨R.val % 128, by omega⟩ : Fin 128)))

/-- Two rows through their own weights, gated, added and projected. -/
def merged (ya yb : Fin 1024 → EReal) (ga gb : Fin 2048 → EReal) (wa wb : Fin 1024 → Fin 2048 → EReal)
    (wo : Fin 2048 → Fin 2048 → EReal) (k : Fin 2048) : EReal :=
  ∑ j, (ga j * (∑ e, ya e * wa e j) + gb j * (∑ e, yb e * wb e j)) * wo j k

theorem merged_def (ya yb : Fin 1024 → EReal) (ga gb : Fin 2048 → EReal) (wa wb : Fin 1024 → Fin 2048 → EReal)
    (wo : Fin 2048 → Fin 2048 → EReal) (k : Fin 2048) : merged ya yb ga gb wa wb wo k
      = ∑ j, (ga j * (∑ e, ya e * wa e j) + gb j * (∑ e, yb e * wb e j)) * wo j k := rfl

/-- Token `R`'s projected row, of the layer's arrays. -/
def mergeRow (u v yb : Arr2 16384 1024) (gate : Arr2 16384 4096) (w : Arr4 2 8 128 128) (b : Arr3 2 8 128)
    (wa wb : Arr3 2 1024 2048) (wo : Arr3 2 2048 2048) (R : Fin 16384) : Fin 2048 → EReal :=
  merged (mixed u v w b R) (fun e => yb (ix2 R e)) (fun j => gate (ix2 R (⟨j.val, by omega⟩ : Fin 4096)))
    (fun j => gate (ix2 R (⟨2048 + j.val, by omega⟩ : Fin 4096))) (fun e j => wa (ix3 (0 : Fin 2) e j))
    (fun e j => wb (ix3 (0 : Fin 2) e j)) (fun j k => wo (ix3 (0 : Fin 2) j k))

/-- Token `R`'s row of the residual stream after the step. -/
def mergeStep (x : Arr2 16384 2048) (u v yb : Arr2 16384 1024) (gate : Arr2 16384 4096) (w : Arr4 2 8 128 128)
    (b : Arr3 2 8 128) (wa wb : Arr3 2 1024 2048) (wo : Arr3 2 2048 2048) (g : Arr2 2 2048) (R : Fin 16384)
    (k : Fin 2048) : EReal :=
  x (ix2 R k) + rms (mergeRow u v yb gate w b wa wb wo R) (fun k => g (ix2 (0 : Fin 2) k)) k

end Cert.Maths

end
-- ==== Proof.MergePayloads.lean ====
/-
  The merge kernel's stored values, entry by entry: one 128 by 128 tile of the gated causal mix, the projected row, and the
  closing norm added to the residual stream.
-/
module

public import proofs.«01_k».proof.Proof.Gen.MergeIdeal.Skeleton
public import proofs.«01_k».proof.Proof.MergeMaths
public import Idealize.ShloMosaic.Lib.Pointwise

@[expose] public section

noncomputable section

namespace Cert.MergeIdeal.Payload

open Cert.MergeIdeal Cert.MergeIdeal.Gen Cert.Maths Idealize.ShloMosaic

/-- The causal mask keeps an entry at or below the diagonal. -/
theorem mask_apply (t s : Fin 128) : k0_pay2 (ix2 t s) = if s ≤ t then 1#1 else 0#1 := by
  unfold_payloads
  pointwise
  revert t s
  decide +kernel

/-- A tile: `u` times the causal mix of `v` plus its row's bias. -/
theorem tile_apply (w : Vec Ideal S1x1x128x128 .f32) (v : Vec Ideal S128x128 .bf16) (b : Vec Ideal S1x1x128x1 .f32)
    (u : Vec Ideal S128x128 .bf16) (t q : Fin 128) :
    k0_pay4 (F := Ideal) w v b u (ix2 t q)
      = u (ix2 t q) * ((∑ s, (if s ≤ t then w (ix4 0 0 t s) else 0) * v (ix2 s q)) + b (ix4 0 0 t 0)) := by
  unfold k0_pay4 k0_pay3
  pointwise [dot_S128x128_S128x128_S128x128_1_0_0_1_n_n, mask_apply]
  refine congrArg (fun z => u (ix2 t q) * (z + b (ix4 0 0 t 0))) (Finset.sum_congr rfl fun s _ => ?_)
  by_cases h : s ≤ t
  · simp only [if_pos h]
    rfl
  · simp only [if_neg h, zero_mul]
    rfl

/-- The projected row. -/
theorem project_apply (ya : Vec Ideal S256x1024 .bf16) (wa : Vec Ideal S1x1024x2048 .bf16) (yb : Vec Ideal S256x1024 .bf16)
    (wb : Vec Ideal S1x1024x2048 .bf16) (ga gb : Vec Ideal S256x2048 .bf16) (wo : Vec Ideal S1x2048x2048 .bf16)
    (r : Fin 256) (k : Fin 2048) :
    k0_pay35 (F := Ideal) ya wa yb wb ga gb wo (ix2 r k)
      = merged (fun e => ya (ix2 r e)) (fun e => yb (ix2 r e)) (fun j => ga (ix2 r j)) (fun j => gb (ix2 r j))
          (fun e j => wa (ix3 0 e j)) (fun e j => wb (ix3 0 e j)) (fun j k => wo (ix3 0 j k)) k := by
  rw [merged_def]
  unfold_payloads
  pointwise [dot_S256x1024_S1024x2048_S256x2048_1_0_0_1_n_n, dot_S256x2048_S2048x2048_S256x2048_1_0_0_1_n_n]

/-- The closing step: the block's input row plus the normed projected row. -/
theorem close_apply (x : Vec Ideal S256x2048 .f32) (g : Vec Ideal S1x2048 .f32)
    (ya : Vec Ideal S256x1024 .bf16) (wa : Vec Ideal S1x1024x2048 .bf16) (yb : Vec Ideal S256x1024 .bf16)
    (wb : Vec Ideal S1x1024x2048 .bf16) (ga gb : Vec Ideal S256x2048 .bf16) (wo : Vec Ideal S1x2048x2048 .bf16)
    (r : Fin 256) (k : Fin 2048) :
    k0_pay1 (F := Ideal) (k0_pay35 ya wa yb wb ga gb wo) x (k0_pay36 g) (k0_pay37 ya wa yb wb ga gb wo) (ix2 r k)
      = x (ix2 r k) + rms (fun j => k0_pay35 (F := Ideal) ya wa yb wb ga gb wo (ix2 r j)) (fun j => g (ix2 0 j)) k := by
  unfold k0_pay1 k0_pay36 k0_pay37
  pointwise [rms_def, invRms_def, one_f32]

end Cert.MergeIdeal.Payload

end
-- ==== Proof.MergeCases.lean ====
/-
  The merge kernel's body: its sixteen tile stores are one array, and what it writes is the closing step of that array.
-/
module

public import proofs.«01_k».proof.Proof.Gen.MergeIdeal.Frame
public import proofs.«01_k».proof.Proof.MergePayloads
public import Idealize.ShloMosaic.Lib.Pipeline.Value
public import Idealize.ShloMosaic.Lib.Pipeline.ValueKit
public import Idealize.ShloMosaic.Lib.Tactic

@[expose] public section

noncomputable section

namespace Cert.MergeIdeal.Cases

open Cert.MergeIdeal Cert.MergeIdeal.Gen Cert.MergeIdeal.Payload Cert.Maths Idealize.ShloMosaic Idealize.ShloMosaic.TcCoe Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

/-- The gated causal mix of a block of two chunks: `u` times the sum over the earlier tokens of the chunk, plus the bias. -/
def mix (u v : Vec Ideal S256x1024 .bf16) (w : Vec Ideal S1x8x128x128 .f32) (b : Vec Ideal S1x8x128x1 .f32)
    (r : Fin 256) (e : Fin 1024) : EReal :=
  u (ix2 r e) * ((∑ s : Fin 128,
      (if s.val ≤ r.val % 128 then w (ix4 0 (⟨e.val / 128, by omega⟩ : Fin 8) (⟨r.val % 128, by omega⟩ : Fin 128) s) else 0)
        * v (ix2 (⟨128 * (r.val / 128) + s.val, by omega⟩ : Fin 256) e))
    + b (ix4 0 (⟨e.val / 128, by omega⟩ : Fin 8) (⟨r.val % 128, by omega⟩ : Fin 128) 0))

/-- The same, as the array the sixteen tiles fill. -/
def mixArr (u v : Vec Ideal S256x1024 .bf16) (w : Vec Ideal S1x8x128x128 .f32) (b : Vec Ideal S1x8x128x1 .f32) :
    Vec Ideal S256x1024 .bf16 := fun y => mix u v w b (y 0) (y 1)

/-- One tile of it: the rows from `o` on, the columns from `128 * g` on. -/
theorem tile_at (u v : Vec Ideal S256x1024 .bf16) (w : Vec Ideal S1x8x128x128 .f32) (b : Vec Ideal S1x8x128x1 .f32)
    (o p g : ℕ) (iw : ∀ a, (![0, g, 0, 0] : Fin 4 → ℕ) a + (![1, 1, 128, 128] : Fin 4 → ℕ) a ≤ S1x8x128x128.size a)
    (iv : ∀ a, (![o, p] : Fin 2 → ℕ) a + (![128, 128] : Fin 2 → ℕ) a ≤ S256x1024.size a)
    (ib : ∀ a, (![0, g, 0, 0] : Fin 4 → ℕ) a + (![1, 1, 128, 1] : Fin 4 → ℕ) a ≤ S1x8x128x1.size a)
    (x : S128x128.Idx) (y : S256x1024.Idx) (h0 : (y 0).val = o + (x 0).val) (h1 : (y 1).val = p + (x 1).val)
    (ho : o % 128 = 0) (hp : p = 128 * g) :
    k0_pay4 (F := Ideal) (View.ld w (Rect.unit ![0, g, 0, 0] ![1, 1, 128, 128] iw))
      (View.ld v (Rect.unit ![o, p] ![128, 128] iv)) (View.ld b (Rect.unit ![0, g, 0, 0] ![1, 1, 128, 1] ib))
      (View.ld u (Rect.unit ![o, p] ![128, 128] iv)) x = mixArr u v w b y := by
  obtain ⟨t, q, rfl⟩ : ∃ (t q : Fin 128), x = ix2 t q := ⟨_, _, ValueIdx.eq_ix2 x⟩
  obtain ⟨r, e, rfl⟩ : ∃ (r : Fin 256) (e : Fin 1024), y = ix2 r e := ⟨_, _, ValueIdx.eq_ix2 y⟩
  replace h0 : r.val = o + t.val := h0
  replace h1 : e.val = p + q.val := h1
  have hg : e.val / 128 = g := by omega
  have ht : r.val % 128 = t.val := by omega
  refine (tile_apply _ _ _ _ t q).trans ?_
  show _ = mix u v w b r e
  unfold mix
  refine congrArg₂ (· * ·) ?_ (congrArg₂ (· + ·) (Finset.sum_congr rfl fun s _ => congrArg₂ (· * ·) ?_ ?_) ?_)
  · exact View.ld_unit_apply_of u _ _ _ _ _ fun a => by
      match a with
      | ⟨0, _⟩ => exact h0
      | ⟨1, _⟩ => exact h1
  · by_cases h : s ≤ t
    · rw [if_pos h, if_pos (by rw [ht]; exact h)]
      exact View.ld_unit_apply_of w _ _ _ _ _ fun a => by
        match a with
        | ⟨0, _⟩ => rfl
        | ⟨1, _⟩ => exact hg
        | ⟨2, _⟩ => show r.val % 128 = 0 + t.val; omega
        | ⟨3, _⟩ => exact (Nat.zero_add _).symm
    · rw [if_neg h, if_neg (by rw [ht]; exact h)]
  · exact View.ld_unit_apply_of v _ _ _ _ _ fun a => by
      match a with
      | ⟨0, _⟩ => show 128 * (r.val / 128) + s.val = o + s.val; omega
      | ⟨1, _⟩ => exact h1
  · exact View.ld_unit_apply_of b _ _ _ _ _ fun a => by
      match a with
      | ⟨0, _⟩ => rfl
      | ⟨1, _⟩ => exact hg
      | ⟨2, _⟩ => show r.val % 128 = 0 + t.val; omega
      | ⟨3, _⟩ => rfl

/-- Stores that leave the array `w` read back whole are `w`. -/
theorem readCov_all (w : Vec Ideal S256x1024 .bf16) (v : View sig .tc .vmem S256x1024 .bf16)
    (L : List (View.Piece (Elt Ideal) S256x1024 .bf16))
    (inb : ∀ a, (![0, 0] : Fin 2 → ℕ) a + (![256, 1024] : Fin 2 → ℕ) a ≤ S256x1024.size a)
    (h : ∀ y, View.canon L y = w y) :
    v.readCov L (Rect.unit (s := S256x1024) ![0, 0] ![256, 1024] inb).toLoadRect = w := by
  rw [View.readCov_eq_canon']
  refine (View.ld_unit_zero (S := S256x1024) hz2 inb (View.canon L)).trans (funext h)

/-- The two halves of a gate block. -/
def gateLo (x : Vec Ideal S256x4096 .bf16) : Vec Ideal S256x2048 .bf16 :=
  View.ld x (Rect.unit ![0, 0] ![256, 2048] inb_S256x4096_S256x2048_0_0)
def gateHi (x : Vec Ideal S256x4096 .bf16) : Vec Ideal S256x2048 .bf16 :=
  View.ld x (Rect.unit ![0, 2048] ![256, 2048] inb_S256x4096_S256x2048_0_2048)

/-- What the body writes, of the mixed array. -/
def closed (x : Vec Ideal S256x2048 .f32) (ya yb : Vec Ideal S256x1024 .bf16) (gate : Vec Ideal S256x4096 .bf16)
    (wa wb : Vec Ideal S1x1024x2048 .bf16) (wo : Vec Ideal S1x2048x2048 .bf16) (g : Vec Ideal S1x2048 .f32) :
    Vec Ideal S256x2048 .f32 :=
  k0_pay1 (k0_pay35 ya wa yb wb (gateLo gate) (gateHi gate) wo) x (k0_pay36 g)
    (k0_pay37 ya wa yb wb (gateLo gate) (gateHi gate) wo)

variable (c : Dev nD) (i : grid0.Coords)
  (a1 : Memref sig .tc .vmem S256x2048 .f32) (h1 : a1.IsWhole) (a2 : Memref sig .tc .vmem S256x1024 .bf16) (h2 : a2.IsWhole)
  (a3 : Memref sig .tc .vmem S256x1024 .bf16) (h3 : a3.IsWhole) (a4 : Memref sig .tc .vmem S256x1024 .bf16) (h4 : a4.IsWhole)
  (a5 : Memref sig .tc .vmem S256x4096 .bf16) (h5 : a5.IsWhole) (a6 : Memref sig .tc .vmem S1x8x128x128 .f32) (h6 : a6.IsWhole)
  (a7 : Memref sig .tc .vmem S1x8x128x1 .f32) (h7 : a7.IsWhole) (a8 : Memref sig .tc .vmem S1x1024x2048 .bf16) (h8 : a8.IsWhole)
  (a9 : Memref sig .tc .vmem S1x1024x2048 .bf16) (h9 : a9.IsWhole) (a10 : Memref sig .tc .vmem S1x2048x2048 .bf16) (h10 : a10.IsWhole)
  (a11 : Memref sig .tc .vmem S1x2048 .f32) (h11 : a11.IsWhole) (a12 : Memref sig .tc .vmem S256x2048 .f32) (h12 : a12.IsWhole)
  (a13 : Memref sig .tc .vmem S256x1024 .bf16) (h13 : a13.IsWhole)
  (x0 : Vec Ideal S256x2048 .f32) (x1 x2 x3 : Vec Ideal S256x1024 .bf16) (x4 : Vec Ideal S256x4096 .bf16)
  (x5 : Vec Ideal S1x8x128x128 .f32) (x6 : Vec Ideal S1x8x128x1 .f32) (x7 x8 : Vec Ideal S1x1024x2048 .bf16)
  (x9 : Vec Ideal S1x2048x2048 .bf16) (x10 : Vec Ideal S1x2048 .f32)

/-- The body's output block. -/
theorem out_eq :
    out0_A_11 c i a1 h1 a2 h2 a3 h3 a4 h4 a5 h5 a6 h6 a7 h7 a8 h8 a9 h9 a10 h10 a11 h11 a12 h12 a13 h13
      x0 x1 x2 x3 x4 x5 x6 x7 x8 x9 x10 = closed x0 (mixArr x1 x2 x5 x6) x3 x4 x7 x8 x9 x10 := by
  unfold out0_A_11
  rw [View.read_writes_eq_canon _ _ _ (cover0_A_11 c i a1 h1 a2 h2 a3 h3 a4 h4 a5 h5 a6 h6 a7 h7 a8 h8 a9 h9 a10 h10 a11 h11 a12 h12 a13 h13
      x0 x1 x2 x3 x4 x5 x6 x7 x8 x9 x10)]
  unfold kernelRun0_A
  dsimp only
  sl_unfold_words
  rw [View.canon_unit_zero hz2]
  simp only [View.readAt_eq_ld, h1.read_unread, h2.read_unread, h3.read_unread, h4.read_unread, h5.read_unread, h6.read_unread,
    h7.read_unread, h8.read_unread, h9.read_unread, h10.read_unread, h11.read_unread,
    View.ld_unit_zero (S := S256x2048) hz2, View.ld_unit_zero (S := S256x1024) hz2, View.ld_unit_zero (S := S1x2048) hz2,
    View.ld_unit_zero (S := S1x1024x2048) hz3, View.ld_unit_zero (S := S1x2048x2048) hz3]
  rw [readCov_all (mixArr x1 x2 x5 x6)]
  · rfl
  · intro y
    canon_tiles x h
    all_goals exact tile_at _ _ _ _ _ _ _ _ _ _ _ _ (by omega) (by omega) (by decide) (by decide)

end Cert.MergeIdeal.Cases

end
-- ==== Proof.MergeBlocks.lean ====
/-
  The merge kernel's input blocks, read at one place of the launched arrays.
-/
module

public import proofs.«01_k».proof.Proof.MergeCases
public import proofs.«01_k».proof.Proof.Gen.MergeIdeal.Value
public import Idealize.ShloMosaic.Lib.Claim

@[expose] public section

noncomputable section

namespace Cert.MergeIdeal.Blocks

open Cert.MergeIdeal Cert.MergeIdeal.Gen Idealize.ShloMosaic Idealize.ShloMosaic.TcCoe Idealize.SL.Sem

variable (m : (ℓ : Loc nD τ sig) → Buf (Elt Ideal) ℓ) (c : Dev nD)

/-- A launched array. -/
abbrev arg (r : Ref sig .tc) : Buf (Elt Ideal) ((c : Thread nD τ).loc r) := m ((c : Thread nD τ).loc r)

theorem index0 : ∀ t : Fin cfg0.N, win0_0.index t = ![t.val, 0] := by decide +kernel
theorem index1 : ∀ t : Fin cfg0.N, win0_1.index t = ![t.val, 0] := by decide +kernel
theorem index2 : ∀ t : Fin cfg0.N, win0_2.index t = ![t.val, 0] := by decide +kernel
theorem index3 : ∀ t : Fin cfg0.N, win0_3.index t = ![t.val, 0] := by decide +kernel
theorem index4 : ∀ t : Fin cfg0.N, win0_4.index t = ![t.val, 0] := by decide +kernel
theorem index5 : ∀ t : Fin cfg0.N, win0_5.index t = ![0, 0, 0, 0] := by decide +kernel
theorem index6 : ∀ t : Fin cfg0.N, win0_6.index t = ![0, 0, 0, 0] := by decide +kernel
theorem index7 : ∀ t : Fin cfg0.N, win0_7.index t = ![0, 0, 0] := by decide +kernel
theorem index8 : ∀ t : Fin cfg0.N, win0_8.index t = ![0, 0, 0] := by decide +kernel
theorem index9 : ∀ t : Fin cfg0.N, win0_9.index t = ![0, 0, 0] := by decide +kernel
theorem index10 : ∀ t : Fin cfg0.N, win0_10.index t = ![0, 0] := by decide +kernel
theorem index11 : ∀ t : Fin cfg0.N, win0_11.index t = ![t.val, 0] := by decide +kernel

/-- The token that row `r` of point `t`'s block is. -/
def tok (t : Fin cfg0.N) (r : Fin 256) : Fin 16384 :=
  ⟨256 * t.val + r.val, by have h : t.val < 64 := Nat.lt_of_lt_of_eq t.isLt N_0; omega⟩

theorem V0_apply (g : Fin 8) (t : Fin 128) :
    (V m c main_v0 : Vec Ideal S2x8x128x1 .f32) (ix4 (0 : Fin 2) g t 0) = arg m c main_arg6 (ix3 (0 : Fin 2) g t) := by
  entry_read
  pointwise

theorem V6_apply (k : Fin 2048) : (V m c main_v6 : Vec Ideal S1x2048 .f32) (ix2 0 k) = arg m c main_arg10 (ix2 (0 : Fin 2) k) := by
  entry_read
  pointwise

theorem blk0_apply (t : Fin cfg0.N) (r : Fin 256) (k : Fin 2048) :
    (iblk m c 0 t : Vec Ideal S256x2048 .f32) (ix2 r k) = arg m c main_arg0 (ix2 (tok t r) k) := by
  blk_simp [iblk]
  entry_read
  refine congrArg (arg m c main_arg0) (funext fun a => Fin.ext ?_)
  match a with
  | ⟨0, _⟩ => blk_simp [index0]; show _ = 256 * t.val + r.val; omega
  | ⟨1, _⟩ => blk_simp [index0]

theorem blk1_apply (t : Fin cfg0.N) (r : Fin 256) (k : Fin 1024) :
    (iblk m c 1 t : Vec Ideal S256x1024 .bf16) (ix2 r k) = arg m c main_arg1 (ix2 (tok t r) k) := by
  blk_simp [iblk]
  entry_read
  refine congrArg (arg m c main_arg1) (funext fun a => Fin.ext ?_)
  match a with
  | ⟨0, _⟩ => blk_simp [index1]; show _ = 256 * t.val + r.val; omega
  | ⟨1, _⟩ => blk_simp [index1]

theorem blk2_apply (t : Fin cfg0.N) (r : Fin 256) (k : Fin 1024) :
    (iblk m c 2 t : Vec Ideal S256x1024 .bf16) (ix2 r k) = arg m c main_arg2 (ix2 (tok t r) k) := by
  blk_simp [iblk]
  entry_read
  refine congrArg (arg m c main_arg2) (funext fun a => Fin.ext ?_)
  match a with
  | ⟨0, _⟩ => blk_simp [index2]; show _ = 256 * t.val + r.val; omega
  | ⟨1, _⟩ => blk_simp [index2]

theorem blk3_apply (t : Fin cfg0.N) (r : Fin 256) (k : Fin 1024) :
    (iblk m c 3 t : Vec Ideal S256x1024 .bf16) (ix2 r k) = arg m c main_arg3 (ix2 (tok t r) k) := by
  blk_simp [iblk]
  entry_read
  refine congrArg (arg m c main_arg3) (funext fun a => Fin.ext ?_)
  match a with
  | ⟨0, _⟩ => blk_simp [index3]; show _ = 256 * t.val + r.val; omega
  | ⟨1, _⟩ => blk_simp [index3]

theorem blk4_apply (t : Fin cfg0.N) (r : Fin 256) (k : Fin 4096) :
    (iblk m c 4 t : Vec Ideal S256x4096 .bf16) (ix2 r k) = arg m c main_arg4 (ix2 (tok t r) k) := by
  blk_simp [iblk]
  entry_read
  refine congrArg (arg m c main_arg4) (funext fun a => Fin.ext ?_)
  match a with
  | ⟨0, _⟩ => blk_simp [index4]; show _ = 256 * t.val + r.val; omega
  | ⟨1, _⟩ => blk_simp [index4]

theorem blk5_apply (t : Fin cfg0.N) (g : Fin 8) (a b : Fin 128) :
    (iblk m c 5 t : Vec Ideal S1x8x128x128 .f32) (ix4 0 g a b) = arg m c main_arg5 (ix4 (0 : Fin 2) g a b) := by
  blk_simp [iblk]
  entry_read
  refine congrArg (arg m c main_arg5) (funext fun a => Fin.ext ?_)
  match a with
  | ⟨0, _⟩ => blk_simp [index5]; rfl
  | ⟨1, _⟩ => blk_simp [index5]
  | ⟨2, _⟩ => blk_simp [index5]
  | ⟨3, _⟩ => blk_simp [index5]

theorem blk6_apply (t : Fin cfg0.N) (g : Fin 8) (a : Fin 128) :
    (iblk m c 6 t : Vec Ideal S1x8x128x1 .f32) (ix4 0 g a 0) = arg m c main_arg6 (ix3 (0 : Fin 2) g a) := by
  rw [← V0_apply]
  blk_simp [iblk]
  refine congrArg (V m c main_v0) (funext fun a => Fin.ext ?_)
  match a with
  | ⟨0, _⟩ => blk_simp [index6]; rfl
  | ⟨1, _⟩ => blk_simp [index6]
  | ⟨2, _⟩ => blk_simp [index6]
  | ⟨3, _⟩ => blk_simp [index6]

theorem blk7_apply (t : Fin cfg0.N) (e : Fin 1024) (k : Fin 2048) :
    (iblk m c 7 t : Vec Ideal S1x1024x2048 .bf16) (ix3 0 e k) = arg m c main_arg7 (ix3 (0 : Fin 2) e k) := by
  blk_simp [iblk]
  entry_read
  refine congrArg (arg m c main_arg7) (funext fun a => Fin.ext ?_)
  match a with
  | ⟨0, _⟩ => blk_simp [index7]; rfl
  | ⟨1, _⟩ => blk_simp [index7]
  | ⟨2, _⟩ => blk_simp [index7]

theorem blk8_apply (t : Fin cfg0.N) (e : Fin 1024) (k : Fin 2048) :
    (iblk m c 8 t : Vec Ideal S1x1024x2048 .bf16) (ix3 0 e k) = arg m c main_arg8 (ix3 (0 : Fin 2) e k) := by
  blk_simp [iblk]
  entry_read
  refine congrArg (arg m c main_arg8) (funext fun a => Fin.ext ?_)
  match a with
  | ⟨0, _⟩ => blk_simp [index8]; rfl
  | ⟨1, _⟩ => blk_simp [index8]
  | ⟨2, _⟩ => blk_simp [index8]

theorem blk9_apply (t : Fin cfg0.N) (j k : Fin 2048) :
    (iblk m c 9 t : Vec Ideal S1x2048x2048 .bf16) (ix3 0 j k) = arg m c main_arg9 (ix3 (0 : Fin 2) j k) := by
  blk_simp [iblk]
  entry_read
  refine congrArg (arg m c main_arg9) (funext fun a => Fin.ext ?_)
  match a with
  | ⟨0, _⟩ => blk_simp [index9]; rfl
  | ⟨1, _⟩ => blk_simp [index9]
  | ⟨2, _⟩ => blk_simp [index9]

theorem blk10_apply (t : Fin cfg0.N) (k : Fin 2048) :
    (iblk m c 10 t : Vec Ideal S1x2048 .f32) (ix2 0 k) = arg m c main_arg10 (ix2 (0 : Fin 2) k) := by
  rw [← V6_apply]
  blk_simp [iblk]
  refine congrArg (V m c main_v6) (funext fun a => Fin.ext ?_)
  match a with
  | ⟨0, _⟩ => blk_simp [index10]
  | ⟨1, _⟩ => blk_simp [index10]

end Cert.MergeIdeal.Blocks

end
-- ==== Proof.MergeFold.lean ====
/-
  The merge kernel's array after the run: every entry is the step of the launched arrays.
-/
module

public import proofs.«01_k».proof.Proof.MergeBlocks
public import Idealize.ShloMosaic.Lib.Pipeline.ValueKit

@[expose] public section

noncomputable section

namespace Cert.MergeIdeal.Fold

open Cert.MergeIdeal Cert.MergeIdeal.Gen Cert.MergeIdeal.Blocks Cert.MergeIdeal.Cases Cert.MergeIdeal.Payload Cert.Maths
open Idealize.ShloMosaic Idealize.ShloMosaic.TcCoe Idealize.SL.Sem

variable (m : (ℓ : Loc nD τ sig) → Buf (Elt Ideal) ℓ) (c : Dev nD)

/-- The step of the launched arrays. -/
def result (R : Fin 16384) (k : Fin 2048) : EReal :=
  mergeStep (arg m c main_arg0) (arg m c main_arg1) (arg m c main_arg2) (arg m c main_arg3) (arg m c main_arg4)
    (arg m c main_arg5) (arg m c main_arg6) (arg m c main_arg7) (arg m c main_arg8) (arg m c main_arg9) (arg m c main_arg10) R k

/-- A block's mixed row is its token's. -/
theorem mix_of (U V : Vec Ideal S256x1024 .bf16) (W : Vec Ideal S1x8x128x128 .f32) (B : Vec Ideal S1x8x128x1 .f32)
    (u v : Arr2 16384 1024) (w : Arr4 2 8 128 128) (b : Arr3 2 8 128) (t : Fin cfg0.N)
    (hU : ∀ r e, U (ix2 r e) = u (ix2 (tok t r) e)) (hV : ∀ r e, V (ix2 r e) = v (ix2 (tok t r) e))
    (hW : ∀ g i s, W (ix4 0 g i s) = w (ix4 (0 : Fin 2) g i s)) (hB : ∀ g i, B (ix4 0 g i 0) = b (ix3 (0 : Fin 2) g i))
    (r : Fin 256) (e : Fin 1024) : mixArr U V W B (ix2 r e) = mixed u v w b (tok t r) e := by
  have hm : (tok t r).val % 128 = r.val % 128 := by show (256 * t.val + r.val) % 128 = _; omega
  have hd : (tok t r).val / 128 = 2 * t.val + r.val / 128 := by show (256 * t.val + r.val) / 128 = _; omega
  show mix _ _ _ _ r e = _
  unfold mix mixed
  simp only [hU, hV, hW, hB, hm]
  refine congrArg (fun z => u (ix2 (tok t r) e) * (z + _)) (Finset.sum_congr rfl fun s _ => ?_)
  refine congrArg (fun T => _ * v (ix2 T e)) (Fin.ext ?_)
  show 256 * t.val + (128 * (r.val / 128) + s.val) = 128 * ((tok t r).val / 128) + s.val
  rw [hd]
  omega

/-- The two halves of a gate block, at one place. -/
theorem gate_lo (x : Vec Ideal S256x4096 .bf16) (r : Fin 256) (j : Fin 2048) :
    gateLo x (ix2 r j) = x (ix2 r (⟨j.val, by omega⟩ : Fin 4096)) :=
  View.ld_unit_apply_of x _ _ _ _ _ fun a => by
    match a with
    | ⟨0, _⟩ => exact (Nat.zero_add _).symm
    | ⟨1, _⟩ => exact (Nat.zero_add _).symm

theorem gate_hi (x : Vec Ideal S256x4096 .bf16) (r : Fin 256) (j : Fin 2048) :
    gateHi x (ix2 r j) = x (ix2 r (⟨2048 + j.val, by omega⟩ : Fin 4096)) :=
  View.ld_unit_apply_of x _ _ _ _ _ fun a => by
    match a with
    | ⟨0, _⟩ => exact (Nat.zero_add _).symm
    | ⟨1, _⟩ => rfl

/-- The closing step of the blocks is the step of the arrays they are cut from. -/
theorem closed_of (X : Vec Ideal S256x2048 .f32) (U V Y : Vec Ideal S256x1024 .bf16) (Ga : Vec Ideal S256x4096 .bf16)
    (W : Vec Ideal S1x8x128x128 .f32) (B : Vec Ideal S1x8x128x1 .f32) (A D : Vec Ideal S1x1024x2048 .bf16)
    (O : Vec Ideal S1x2048x2048 .bf16) (G : Vec Ideal S1x2048 .f32)
    (x : Arr2 16384 2048) (u v y : Arr2 16384 1024) (ga : Arr2 16384 4096) (w : Arr4 2 8 128 128) (b : Arr3 2 8 128)
    (a d : Arr3 2 1024 2048) (o : Arr3 2 2048 2048) (g : Arr2 2 2048) (t : Fin cfg0.N)
    (hX : ∀ r k, X (ix2 r k) = x (ix2 (tok t r) k)) (hU : ∀ r e, U (ix2 r e) = u (ix2 (tok t r) e))
    (hV : ∀ r e, V (ix2 r e) = v (ix2 (tok t r) e)) (hY : ∀ r e, Y (ix2 r e) = y (ix2 (tok t r) e))
    (hGa : ∀ r e, Ga (ix2 r e) = ga (ix2 (tok t r) e)) (hW : ∀ g i s, W (ix4 0 g i s) = w (ix4 (0 : Fin 2) g i s))
    (hB : ∀ g i, B (ix4 0 g i 0) = b (ix3 (0 : Fin 2) g i)) (hA : ∀ e k, A (ix3 0 e k) = a (ix3 (0 : Fin 2) e k))
    (hD : ∀ e k, D (ix3 0 e k) = d (ix3 (0 : Fin 2) e k)) (hO : ∀ j k, O (ix3 0 j k) = o (ix3 (0 : Fin 2) j k))
    (hG : ∀ k, G (ix2 0 k) = g (ix2 (0 : Fin 2) k)) (r : Fin 256) (k : Fin 2048) :
    closed X (mixArr U V W B) Y Ga A D O G (ix2 r k) = mergeStep x u v y ga w b a d o g (tok t r) k := by
  unfold closed
  rw [close_apply, hX]
  simp only [project_apply, gate_lo, gate_hi, mix_of U V W B u v w b t hU hV hW hB, hY, hGa, hA, hD, hO, hG]
  rfl

/-- What point `t` leaves in its output block. -/
theorem out_apply (t : Fin cfg0.N) (r : Fin 256) (k : Fin 2048) :
    outsAt0 m c t (ix2 r k) = result m c (tok t r) k := by
  unfold outsAt0
  rw [out_eq]
  exact closed_of _ _ _ _ _ _ _ _ _ _ _ _ _ _ _ _ _ _ _ _ _ _ t (blk0_apply m c t) (blk1_apply m c t) (blk2_apply m c t)
    (blk3_apply m c t) (blk4_apply m c t) (blk5_apply m c t) (blk6_apply m c t) (blk7_apply m c t) (blk8_apply m c t)
    (blk9_apply m c t) (blk10_apply m c t) r k

/-- The array after the run at a token of point `t`'s block. -/
theorem array_block (t : Fin cfg0.N) (r : Fin 256) (k : Fin 2048) :
    ((dats m 0 c).arrAt 11 cfg0.N : Vec Ideal S16384x2048 .f32) (ix2 (tok t r) k) = outsAt0 m c t (ix2 r k) := by
  have b := congrFun (Value.blocks11 m c t (flush0_11 t)) (ix2 r k)
  rw [Value.flushed11] at b
  have e : ((cfg0.win 11).blk t).view.emb (ix2 r k) = ix2 (tok t r) k := by
    funext a
    apply Fin.ext
    match a with
    | ⟨0, _⟩ => blk_simp [index11]; show _ = 256 * t.val + r.val; omega
    | ⟨1, _⟩ => blk_simp [index11]
  have b' : ((dats m 0 c).arrAt 11 cfg0.N : Vec Ideal S16384x2048 .f32) (((cfg0.win 11).blk t).view.emb (ix2 r k))
      = outsAt0 m c t (ix2 r k) := b
  rwa [e] at b'

/-- The array after the run, entry by entry. -/
theorem array_apply (R : Fin 16384) (k : Fin 2048) :
    ((dats m 0 c).arrAt 11 cfg0.N : Vec Ideal S16384x2048 .f32) (ix2 R k) = result m c R k := by
  have hN : R.val / 256 < cfg0.N := Nat.lt_of_lt_of_eq (by omega) N_0.symm
  have hR : R = tok ⟨R.val / 256, hN⟩ ⟨R.val % 256, Nat.mod_lt _ (by decide)⟩ := Fin.ext (by
    show R.val = 256 * (R.val / 256) + R.val % 256
    omega)
  rw [hR, array_block, out_apply]

end Cert.MergeIdeal.Fold

end
-- ==== Proof.MergeRef.lean ====
/-
  The merge reference, read entry by entry.
-/
module

public import proofs.«01_k».proof.Proof.MergeFold
public import proofs.«01_k».proof.Proof.Gen.MergeRefIdeal.Read
public import Idealize.ShloMosaic.Lib.Pointwise

@[expose] public section

noncomputable section

namespace Cert.MergeRefIdeal.Entry

open Cert.MergeRefIdeal Cert.MergeRefIdeal.Gen Cert.MergeRefIdeal.Read Cert.Maths
open Idealize.ShloMosaic Idealize.ShloMosaic.TcCoe Idealize.SL.Sem

variable (x0 : Vec Ideal S16384x2048 .f32) (x1 x2 x3 : Vec Ideal S16384x1024 .bf16) (x4 : Vec Ideal S16384x4096 .bf16)
  (x5 : Vec Ideal S2x8x128x128 .f32) (x6 : Vec Ideal S2x8x128 .f32) (x7 x8 : Vec Ideal S2x1024x2048 .f32)
  (x9 : Vec Ideal S2x2048x2048 .f32) (x10 : Vec Ideal S2x2048 .f32)

/-- The lower triangle keeps the entries with `s ≤ t`. -/
theorem triangle (g : Fin 8) (t s : Fin 128) :
    val_main_call1_v0 (F := Ideal) (ix3 g t s) = if s ≤ t then 1#1 else 0#1 := by
  rw [val_main_call1_v0_apply, val_main_v6_apply, val_main_v5_apply, val_main_call0_v4_apply, val_main_call0_v2_apply,
    val_main_call0_v0_apply, val_main_call0_v1_apply, val_main_call0_c_apply, val_main_call0_v3_apply, val_main_v4_apply,
    val_main_c_apply, val_main_call0_v5_apply, val_main_call0_c_0_apply]
  show Scalar.select (IntOp.cmpi .sge (IntOp.addi (BitVec.ofNat 32 t.val) 0#32) (BitVec.ofNat 32 s.val)) 1#1 0#1 = _
  revert t s
  decide +kernel

/-- The masked mixing weights. -/
theorem masked (g : Fin 8) (t s : Fin 128) :
    val_main_v12 (F := Ideal) x5 (ix3 g t s) = if s ≤ t then x5 (ix4 (0 : Fin 2) g t s) else 0 := by
  rw [val_main_v12_apply, triangle, val_main_v8_apply, val_main_v7_apply, val_main_v11_apply, val_main_cst_apply]
  by_cases h : s ≤ t
  · rw [if_pos h, if_pos h]
    refine congrArg x5 (funext fun a => Fin.ext ?_)
    match a with
    | ⟨0, _⟩ => rfl
    | ⟨1, _⟩ => show ((g.val * 128 + t.val) * 128 + s.val) / 16384 % 8 = g.val; omega
    | ⟨2, _⟩ => show ((g.val * 128 + t.val) * 128 + s.val) / 128 % 128 = t.val; omega
    | ⟨3, _⟩ => show ((g.val * 128 + t.val) * 128 + s.val) % 128 = s.val; omega
  · rw [if_neg h, if_neg h]
    exact zero_f32

/-- `v` by chunk, place in the chunk, group and channel. -/
theorem chunked (n t : Fin 128) (g : Fin 8) (q : Fin 128) :
    val_main_v13 (F := Ideal) x2 (ix4 n t g q)
      = x2 (ix2 (⟨128 * n.val + t.val, by omega⟩ : Fin 16384) (⟨128 * g.val + q.val, by omega⟩ : Fin 1024)) := by
  rw [val_main_v13_apply, val_main_v1_apply]
  refine congrArg x2 (funext fun a => Fin.ext ?_)
  match a with
  | ⟨0, _⟩ => show (((n.val * 128 + t.val) * 8 + g.val) * 128 + q.val) / 1024 = 128 * n.val + t.val; omega
  | ⟨1, _⟩ => show (((n.val * 128 + t.val) * 8 + g.val) * 128 + q.val) % 1024 = 128 * g.val + q.val; omega

/-- The bias, spread over chunks and channels. -/
theorem bias (n t : Fin 128) (g : Fin 8) (q : Fin 128) :
    val_main_v20 (F := Ideal) x6 (ix4 n t g q) = x6 (ix3 (0 : Fin 2) g t) := by
  rw [val_main_v20_apply, val_main_v19_apply, val_main_v18_apply, val_main_v17_apply, val_main_v16_apply]
  refine congrArg x6 (funext fun a => Fin.ext ?_)
  match a with
  | ⟨0, _⟩ => rfl
  | ⟨1, _⟩ => show (g.val * 128 + t.val) / 128 % 8 = g.val; omega
  | ⟨2, _⟩ => show (g.val * 128 + t.val) % 128 = t.val; omega

/-- An array of rank three or four, read where its coordinates are known. -/
theorem at3 {α : Type} {n0 n1 n2 : ℕ} (v : (⟨3, ![n0, n1, n2]⟩ : Shape).Idx → α) {i : (⟨3, ![n0, n1, n2]⟩ : Shape).Idx}
    (a : Fin n0) (b : Fin n1) (c : Fin n2) (h0 : i 0 = a) (h1 : i 1 = b) (h2 : i 2 = c) : v i = v (ix3 a b c) := by
  subst h0 h1 h2
  exact congrArg v (ValueIdx.eq_ix3 i)
theorem at4 {α : Type} {n0 n1 n2 n3 : ℕ} (v : (⟨4, ![n0, n1, n2, n3]⟩ : Shape).Idx → α)
    {i : (⟨4, ![n0, n1, n2, n3]⟩ : Shape).Idx} (a : Fin n0) (b : Fin n1) (c : Fin n2) (d : Fin n3) (h0 : i 0 = a)
    (h1 : i 1 = b) (h2 : i 2 = c) (h3 : i 3 = d) : v i = v (ix4 a b c d) := by
  subst h0 h1 h2 h3
  exact congrArg v (ValueIdx.eq_ix4 i)

/-- The mix of one chunk. -/
theorem mix (n t : Fin 128) (g : Fin 8) (q : Fin 128) :
    val_main_v15 (F := Ideal) x2 x5 (ix4 n t g q)
      = ∑ s : Fin 128, (if s ≤ t then x5 (ix4 (0 : Fin 2) g t s) else 0)
          * x2 (ix2 (⟨128 * n.val + s.val, by omega⟩ : Fin 16384) (⟨128 * g.val + q.val, by omega⟩ : Fin 1024)) := by
  rw [val_main_v15_apply, val_main_v14_apply]
  refine Finset.sum_congr rfl fun s _ => (mul_comm _ _).trans (congrArg₂ (· * ·) ?_ ?_)
  · exact (at3 _ g t s rfl rfl rfl).trans (masked x5 g t s)
  · exact (at4 _ n s g q rfl rfl rfl rfl).trans (chunked x2 n s g q)

/-- The first branch. -/
theorem branch (R : Fin 16384) (e : Fin 1024) :
    val_main_v23 (F := Ideal) x1 x2 x5 x6 (ix2 R e) = mixed x1 x2 x5 x6 R e := by
  rw [val_main_v23_apply, val_main_v22_apply, val_main_v0_apply]
  have hi : val_main_v21 (F := Ideal) x2 x5 x6 (idx_main_v22 (ix2 R e))
      = val_main_v21 (F := Ideal) x2 x5 x6 (ix4 (⟨R.val / 128, by omega⟩ : Fin 128) (⟨R.val % 128, by omega⟩ : Fin 128)
          (⟨e.val / 128, by omega⟩ : Fin 8) (⟨e.val % 128, by omega⟩ : Fin 128)) :=
    at4 _ _ _ _ _
      (Fin.ext (by show (R.val * 1024 + e.val) / 131072 = R.val / 128; omega))
      (Fin.ext (by show (R.val * 1024 + e.val) / 1024 % 128 = R.val % 128; omega))
      (Fin.ext (by show (R.val * 1024 + e.val) / 128 % 8 = e.val / 128; omega))
      (Fin.ext (by show (R.val * 1024 + e.val) % 128 = e.val % 128; omega))
  rw [hi, val_main_v21_apply, mix, bias]
  unfold mixed
  refine congrArg (fun z => x1 (ix2 R e) * (z + _)) (Finset.sum_congr rfl fun s _ => congrArg (fun z => _ * x2 (ix2 _ z)) (Fin.ext ?_))
  show 128 * (e.val / 128) + e.val % 128 = e.val
  omega

theorem weight_a (e : Fin 1024) (j : Fin 2048) : val_main_v27 (F := Ideal) x7 (ix2 e j) = x7 (ix3 (0 : Fin 2) e j) := by
  rw [val_main_v27_apply, val_main_v26_apply]
  refine congrArg x7 (funext fun a => Fin.ext ?_)
  match a with
  | ⟨0, _⟩ => rfl
  | ⟨1, _⟩ => show (e.val * 2048 + j.val) / 2048 % 1024 = e.val; omega
  | ⟨2, _⟩ => show (e.val * 2048 + j.val) % 2048 = j.val; omega

theorem weight_b (e : Fin 1024) (j : Fin 2048) : val_main_v31 (F := Ideal) x8 (ix2 e j) = x8 (ix3 (0 : Fin 2) e j) :=
  weight_a x8 e j

theorem weight_o (e j : Fin 2048) : val_main_v36 (F := Ideal) x9 (ix2 e j) = x9 (ix3 (0 : Fin 2) e j) := by
  rw [val_main_v36_apply, val_main_v35_apply]
  refine congrArg x9 (funext fun a => Fin.ext ?_)
  match a with
  | ⟨0, _⟩ => rfl
  | ⟨1, _⟩ => show (e.val * 2048 + j.val) / 2048 % 2048 = e.val; omega
  | ⟨2, _⟩ => show (e.val * 2048 + j.val) % 2048 = j.val; omega

theorem gate_a (R : Fin 16384) (j : Fin 2048) :
    val_main_v24 (F := Ideal) x4 (ix2 R j) = x4 (ix2 R (⟨j.val, by omega⟩ : Fin 4096)) := by
  rw [val_main_v24_apply, val_main_v3_apply]
  exact at2 x4 R ⟨j.val, by omega⟩ rfl rfl

theorem gate_b (R : Fin 16384) (j : Fin 2048) :
    val_main_v25 (F := Ideal) x4 (ix2 R j) = x4 (ix2 R (⟨2048 + j.val, by omega⟩ : Fin 4096)) := by
  rw [val_main_v25_apply, val_main_v3_apply]
  exact at2 x4 R ⟨2048 + j.val, by omega⟩ rfl rfl

/-- The gated sum of the two branches. -/
theorem gated (R : Fin 16384) (j : Fin 2048) : val_main_v34 (F := Ideal) x1 x2 x3 x4 x5 x6 x7 x8 (ix2 R j)
    = x4 (ix2 R (⟨j.val, by omega⟩ : Fin 4096)) * (∑ e, mixed x1 x2 x5 x6 R e * x7 (ix3 (0 : Fin 2) e j))
      + x4 (ix2 R (⟨2048 + j.val, by omega⟩ : Fin 4096)) * (∑ e, x3 (ix2 R e) * x8 (ix3 (0 : Fin 2) e j)) := by
  rw [val_main_v34_apply, val_main_v29_apply, val_main_v33_apply, gate_a, gate_b, val_main_v28_apply, val_main_v32_apply]
  refine congrArg₂ (· + ·) (congrArg₂ (· * ·) rfl (Finset.sum_congr rfl fun e _ => congrArg₂ (· * ·) ?_ ?_))
    (congrArg₂ (· * ·) rfl (Finset.sum_congr rfl fun e _ => congrArg₂ (· * ·) ?_ ?_))
  · exact (at2 _ R e rfl rfl).trans (branch x1 x2 x5 x6 R e)
  · exact (at2 _ e j rfl rfl).trans (weight_a x7 e j)
  · exact at2 x3 R e rfl rfl
  · exact (at2 _ e j rfl rfl).trans (weight_b x8 e j)

theorem projected (R : Fin 16384) (k : Fin 2048) : val_main_v37 (F := Ideal) x1 x2 x3 x4 x5 x6 x7 x8 x9 (ix2 R k)
    = mergeRow x1 x2 x3 x4 x5 x6 x7 x8 x9 R k := by
  rw [val_main_v37_apply]
  exact Finset.sum_congr rfl fun j _ => congrArg₂ (· * ·) ((at2 _ R j rfl rfl).trans (gated x1 x2 x3 x4 x5 x6 x7 x8 R j))
    ((at2 _ j k rfl rfl).trans (weight_o x9 j k))

theorem scale (k : Fin 2048) (R : Fin 16384) : val_main_v51 (F := Ideal) x10 (ix2 R k) = x10 (ix2 (0 : Fin 2) k) := by
  rw [val_main_v51_apply, val_main_v50_apply, val_main_v39_apply, val_main_v38_apply]
  refine congrArg x10 (funext fun a => Fin.ext ?_)
  match a with
  | ⟨0, _⟩ => rfl
  | ⟨1, _⟩ => show k.val % 2048 = k.val; omega

theorem normed (R : Fin 16384) (k : Fin 2048) : val_main_v52 (F := Ideal) x1 x2 x3 x4 x5 x6 x7 x8 x9 x10 (ix2 R k)
    = rms (mergeRow x1 x2 x3 x4 x5 x6 x7 x8 x9 R) (fun k => x10 (ix2 (0 : Fin 2) k)) k := by
  rw [val_main_v52_apply, val_main_v49_apply, val_main_v48_apply, val_main_v47_apply, val_main_v46_apply, val_main_v45_apply,
    val_main_cst_2_apply, val_main_v44_apply, val_main_v43_apply, val_main_cst_1_apply, val_main_v42_apply, val_main_v41_apply,
    val_main_cst_0_apply, scale, projected, ← Cert.FfnRefIdeal.Entry.rms_ops]
  have e : ∀ j, val_main_v40 (F := Ideal) x1 x2 x3 x4 x5 x6 x7 x8 x9 (idx_main_v41 (idx_main_v42 (idx_main_v48 (ix2 R k))) j)
      = FloatOps.mulf (F := Ideal) (φ := .f32) (mergeRow x1 x2 x3 x4 x5 x6 x7 x8 x9 R j) (mergeRow x1 x2 x3 x4 x5 x6 x7 x8 x9 R j) := fun j => by
    rw [val_main_v40_apply, (at2 (val_main_v37 (F := Ideal) x1 x2 x3 x4 x5 x6 x7 x8 x9) R j rfl rfl).trans
      (projected x1 x2 x3 x4 x5 x6 x7 x8 x9 R j)]
  simp only [e]

/-- The reference's result, entry by entry. -/
theorem result (R : Fin 16384) (k : Fin 2048) : val_main_v53 (F := Ideal) x0 x1 x2 x3 x4 x5 x6 x7 x8 x9 x10 (ix2 R k)
    = mergeStep x0 x1 x2 x3 x4 x5 x6 x7 x8 x9 x10 R k := by
  rw [val_main_v53_apply, normed]
  rfl

end Cert.MergeRefIdeal.Entry

end
-- ==== Proof.MergeClaim.lean ====
/-
  The merge claims: the reference runs to its term with every counter at zero, and the kernel's array equals it.
-/
module

public import proofs.«01_k».proof.Defs
public import proofs.«01_k».proof.Proof.MergeRef
public import Idealize.ShloMosaic.Adequacy
public import Idealize.ShloMosaic.Init
public import Idealize.ShloMosaic.Lib.Quiescent

@[expose] public section

noncomputable section

namespace Cert.Proof

open Idealize.ShloMosaic Idealize.SL.Sem

theorem merge_reference_rests : quiescent_MergeRefIdeal := fun m ρ _ =>
  (θ_run Cert.MergeRefIdeal.defs _ _).mono
    (fun r h => ⟨fun c => (h c).2, sem_eq_zero_of_no_sems (by decide) r.2⟩)
    (Cert.MergeRefIdeal.Value.run (F := Ideal) m ρ)

theorem merge_values : algebraic_MergeIdeal_MergeRefIdeal := by
  intro m ρ m' ρ' _ hagree
  refine ⟨_, Cert.MergeIdeal.Value.run_blocks (F := Ideal) m ρ, ?_⟩
  refine (θ_run Cert.MergeRefIdeal.defs _ _).mono (fun _ h c => ⟨?_, (h c).2⟩)
    (Cert.MergeRefIdeal.Value.run (F := Ideal) m' ρ')
  obtain ⟨a0, a1, a2, a3, a4, a5, a6, a7, a8, a9, a10⟩ := hagree c
  rw [(h c).1, Cert.MergeRefIdeal.Read.val_main_v53_eq, a0, a1, a2, a3, a4, a5, a6, a7, a8, a9, a10]
  funext i
  obtain ⟨R, k, rfl⟩ : ∃ (R : Fin 16384) (k : Fin 2048), i = ix2 R k := ⟨_, _, ValueIdx.eq_ix2 i⟩
  refine (Cert.MergeRefIdeal.Entry.result _ _ _ _ _ _ _ _ _ _ _ R k).trans ?_
  exact (Cert.MergeIdeal.Fold.array_apply m c R k).symm

end Cert.Proof

end
-- ==== Proof.ProjMaths.lean ====
/-
  The mathematics of the input projections, over the extended reals: the gated linear unit's curve in its tanh form, the layer
  norm of a row of 1024 numbers, and a row times a column of a weight matrix.
-/
module

public import proofs.«01_k».proof.Proof.MergeClaim

@[expose] public section

noncomputable section

namespace Cert.Maths

open Idealize.ShloMosaic

/-- The tanh form of the Gaussian error linear unit. -/
def gelu (x : EReal) : EReal :=
  x * (Ideal.ofBits .f32 0x3F000000#32 * (1 + Ideal.tanh (Ideal.ofBits .f32 0x3F4C422A#32
    * (x + Ideal.ofBits .f32 0x3D372713#32 * (x * x * x)))))

theorem gelu_def (x : EReal) : gelu x
    = x * (Ideal.ofBits .f32 0x3F000000#32 * (1 + Ideal.tanh (Ideal.ofBits .f32 0x3F4C422A#32
        * (x + Ideal.ofBits .f32 0x3D372713#32 * (x * x * x))))) := rfl

/-- The mean of a row of 1024 numbers. -/
def mean (x : Fin 1024 → EReal) : EReal := Ideal.div (∑ j, x j) (Ideal.ofBits .f32 0x44800000#32)

theorem mean_def (x : Fin 1024 → EReal) : mean x = Ideal.div (∑ j, x j) (Ideal.ofBits .f32 0x44800000#32) := rfl

/-- The layer norm of the row `x` with scale `g` and shift `b`. -/
def layerNorm (x g b : Fin 1024 → EReal) (k : Fin 1024) : EReal :=
  (x k - mean x) * Ideal.rsqrt (mean (fun j => (x j - mean x) * (x j - mean x)) + Ideal.ofBits .f32 0x3727C5AC#32) * g k + b k

theorem layerNorm_def (x g b : Fin 1024 → EReal) (k : Fin 1024) : layerNorm x g b k
    = (x k - mean x) * Ideal.rsqrt (mean (fun j => (x j - mean x) * (x j - mean x)) + Ideal.ofBits .f32 0x3727C5AC#32) * g k
      + b k := rfl

/-- The logistic curve, spelt out. -/
theorem logistic_def (x : EReal) : Ideal.logistic x = Ideal.div 1 (1 + Ideal.exp (-x)) := rfl

/-- Token `R`'s row times column `e` of the first layer's matrix. -/
def proj {n : ℕ} (h : Arr2 16384 2048) (w : Arr3 2 2048 n) (R : Fin 16384) (e : Fin n) : EReal :=
  ∑ k : Fin 2048, h (ix2 R k) * w (ix3 (0 : Fin 2) k e)

theorem proj_def {n : ℕ} (h : Arr2 16384 2048) (w : Arr3 2 2048 n) (R : Fin 16384) (e : Fin n) :
    proj h w R e = ∑ k : Fin 2048, h (ix2 R k) * w (ix3 (0 : Fin 2) k e) := rfl

/-- The five results: `u`, the normalised `v`, `k`, the gates and the index keys. -/
def uResult (h : Arr2 16384 2048) (w : Arr3 2 2048 6224) (R : Fin 16384) (e : Fin 1024) : EReal :=
  gelu (proj h w R (⟨e.val, by omega⟩ : Fin 6224))
def vResult (h : Arr2 16384 2048) (w : Arr3 2 2048 6224) (g b : Arr2 2 1024) (R : Fin 16384) (e : Fin 1024) : EReal :=
  layerNorm (fun e => gelu (proj h w R (⟨1024 + e.val, by omega⟩ : Fin 6224))) (fun e => g (ix2 (0 : Fin 2) e))
    (fun e => b (ix2 (0 : Fin 2) e)) e
def kResult (h : Arr2 16384 2048) (w : Arr3 2 2048 6224) (R : Fin 16384) (e : Fin 1024) : EReal :=
  proj h w R (⟨3072 + e.val, by omega⟩ : Fin 6224)
def gResult (h : Arr2 16384 2048) (w : Arr3 2 2048 4096) (R : Fin 16384) (e : Fin 4096) : EReal :=
  Ideal.logistic (proj h w R e)
def iResult (h : Arr2 16384 2048) (w : Arr3 2 2048 6224) (R : Fin 16384) (e : Fin 64) : EReal :=
  proj h w R (⟨6144 + e.val, by omega⟩ : Fin 6224)

end Cert.Maths

end
-- ==== Proof.ProjPayloads.lean ====
/-
  The projection kernel's stored values, entry by entry: a block of products, the curves applied to them, and the layer norm.
-/
module

public import proofs.«01_k».proof.Proof.Gen.ProjIdeal.Skeleton
public import proofs.«01_k».proof.Proof.ProjMaths
public import Idealize.ShloMosaic.Lib.Pointwise

@[expose] public section

noncomputable section

namespace Cert.ProjIdeal.Payload

open Cert.ProjIdeal Cert.ProjIdeal.Gen Cert.Maths Idealize.ShloMosaic

variable (h : Vec Ideal S1024x2048 .bf16) (w : Vec Ideal S1x2048x256 .bf16) (r : Fin 1024) (q : Fin 256)

/-- A chunk of products. -/
theorem product_apply : k0_pay5 (F := Ideal) h w (ix2 r q) = ∑ k, h (ix2 r k) * w (ix3 0 k q) := by
  unfold_payloads
  pointwise [dot_S1024x2048_S2048x256_S1024x256_1_0_0_1_n_n]

/-- A chunk of `k`: the products. -/
theorem k_apply : k0_pay21 (F := Ideal) h w (ix2 r q) = ∑ k, h (ix2 r k) * w (ix3 0 k q) := by
  unfold_payloads
  pointwise [dot_S1024x2048_S2048x256_S1024x256_1_0_0_1_n_n]

/-- The index keys: the products. -/
theorem i_apply (w : Vec Ideal S1x2048x64 .bf16) (q : Fin 64) :
    k0_pay4 (F := Ideal) h w (ix2 r q) = ∑ k, h (ix2 r k) * w (ix3 0 k q) := by
  unfold_payloads
  pointwise [dot_S1024x2048_S2048x64_S1024x64_1_0_0_1_n_n]

/-- A chunk of gates: the logistic curve of the products. -/
theorem g_apply : k0_pay25 (F := Ideal) h w (ix2 r q) = Ideal.logistic (∑ k, h (ix2 r k) * w (ix3 0 k q)) := by
  unfold_payloads
  pointwise [dot_S1024x2048_S2048x256_S1024x256_1_0_0_1_n_n]

/-- A chunk of `u`: the curve of the products, -/
theorem u_of (z : Vec Ideal S1024x256 .f32) : k0_pay1 (F := Ideal) z (ix2 r q) = gelu (z (ix2 r q)) := by
  rw [gelu_def]
  unfold_payloads
  pointwise [one_f32]

theorem u_apply : k0_pay1 (F := Ideal) (k0_pay5 h w) (ix2 r q) = gelu (∑ k, h (ix2 r k) * w (ix3 0 k q)) := by
  rw [u_of, product_apply]

/-- and a chunk of `v` before its norm, kept unrounded. -/
theorem v_of (z : Vec Ideal S1024x256 .f32) : k0_pay18 (F := Ideal) z (ix2 r q) = gelu (z (ix2 r q)) := by
  rw [gelu_def]
  unfold_payloads
  pointwise [one_f32]

theorem v_apply : k0_pay18 (F := Ideal) (k0_pay5 h w) (ix2 r q) = gelu (∑ k, h (ix2 r k) * w (ix3 0 k q)) := by
  rw [v_of, product_apply]

/-- The layer norm of a block. -/
theorem norm_apply (z : Vec Ideal S1024x1024 .f32) (g b : Vec Ideal S1x1024 .f32) (r e : Fin 1024) :
    k0_pay3 (F := Ideal) z g b (ix2 r e)
      = layerNorm (fun e => z (ix2 r e)) (fun e => g (ix2 0 e)) (fun e => b (ix2 0 e)) e := by
  rw [layerNorm_def]
  simp only [mean_def]
  unfold_payloads
  pointwise

end Cert.ProjIdeal.Payload

end
-- ==== Proof.ProjRun.lean ====
/-
  The projection kernel's body, run once for each thing a grid point can do: compute `u` and the index keys, compute the
  normalised `v`, compute `k`, or compute one block of gates.  Each run names the pieces the body writes, in the buffers it
  writes, and touches nothing else.
-/
module

public import proofs.«01_k».proof.Proof.Gen.ProjIdeal.Frame
public import proofs.«01_k».proof.Proof.Gen.ProjIdeal.Skeleton
public import proofs.«01_k».proof.Proof.ProjPayloads
public import Idealize.ShloMosaic.Lib.Pipeline.TableIdle

@[expose] public section

set_option maxRecDepth 16384

noncomputable section

namespace Cert.ProjIdeal.Body

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A whole buffer holding the pieces `L`, over whatever it held before. -/
abbrev holds (c : Dev nD) {S : Shape} {e : EltTy} (a : Memref sig .tc .vmem S e) (L : List (View.Piece (Elt F) S e)) : sProp 𝕄 :=
  iprop(∃ f, a.view.loc (c : Thread nD τ) ↦[a.view.set]{fullShare} a.view.writes (Elt F) f L)

variable (c : Dev nD) (i : grid0.Coords)
  (arg2 : Memref sig .tc .vmem S1024x2048 .bf16) (harg2 : arg2.IsWhole)
  (arg3 : Memref sig .tc .vmem S1x2048x1024 .bf16) (harg3 : arg3.IsWhole)
  (arg4 : Memref sig .tc .vmem S1x2048x64 .bf16) (harg4 : arg4.IsWhole)
  (arg5 : Memref sig .tc .vmem S1x2048x1024 .bf16) (harg5 : arg5.IsWhole)
  (arg6 : Memref sig .tc .vmem S1x1024 .f32) (harg6 : arg6.IsWhole)
  (arg7 : Memref sig .tc .vmem S1x1024 .f32) (harg7 : arg7.IsWhole)
  (arg8 : Memref sig .tc .vmem S1024x1024 .bf16) (harg8 : arg8.IsWhole)
  (arg9 : Memref sig .tc .vmem S1024x1024 .bf16) (harg9 : arg9.IsWhole)
  (arg10 : Memref sig .tc .vmem S1024x1024 .bf16) (harg10 : arg10.IsWhole)
  (arg11 : Memref sig .tc .vmem S1024x1024 .bf16) (harg11 : arg11.IsWhole)
  (arg12 : Memref sig .tc .vmem S1024x64 .bf16) (harg12 : arg12.IsWhole)
  (arg13 : Memref sig .tc .vmem S1024x1024 .f32) (harg13 : arg13.IsWhole)

set_option maxHeartbeats 1000000 in
/-- The point that computes `u` and the index keys. -/
def runU (h1 : k0_cond1 i = 1#1) (h2 : ¬k0_cond2 i = 1#1) (h3 : ¬k0_cond3 i = 1#1) (h4 : ¬k0_cond4 i = 1#1)
    (x0 : Vec F S1024x2048 .bf16) (x1 : Vec F S1x2048x1024 .bf16) (x2 : Vec F S1x2048x64 .bf16) :
    Σ' (L8 : List (View.Piece (Elt F) S1024x1024 .bf16)), { L12 : List (View.Piece (Elt F) S1024x64 .bf16) //
      ∀ (E : Set ℕ) (K : PUnit → sProp 𝕄),
        iprop(owns (c : Thread nD τ) arg2 fullShare x0 ∗ owns (c : Thread nD τ) arg3 fullShare x1
            ∗ owns (c : Thread nD τ) arg4 fullShare x2
            ∗ (∃ d, owns (c : Thread nD τ) arg8 fullShare d) ∗ (∃ d, owns (c : Thread nD τ) arg12 fullShare d)
            ∗ (iprop(owns (c : Thread nD τ) arg2 fullShare x0 ∗ owns (c : Thread nD τ) arg3 fullShare x1
              ∗ owns (c : Thread nD τ) arg4 fullShare x2 ∗ holds c arg8 L8 ∗ holds c arg12 L12) -∗ K ⟨⟩))
          ⊢ wp frame (wpE (defs₀ (F := F)) Variants.none c none) E
              (cc0_proj_nat i arg2 harg2 arg3 harg3 arg4 harg4 arg5 harg5 arg6 harg6 arg7 harg7 arg8 harg8 arg9 harg9
                arg10 harg10 arg11 harg11 arg12 harg12 arg13 harg13) K } := by
  refine ⟨?_, ?_, fun E K => ?run⟩
  case run =>
    simp only [cc0_proj_nat_eq_skeleton]; unfold cc0_proj_nat_skel
    simp only [k0_part1_eq_skeleton, k0_part2_eq_skeleton]
    unfold owns holds
    iintro ⟨⟨%f0, %hf0, H0⟩, ⟨%f1, %hf1, H1⟩, ⟨%f2, %hf2, H2⟩, ⟨%d8, %f8, -, H8⟩, ⟨%d12, %f12, -, H12⟩, Hk⟩
    obtain rfl := harg2.eq_unread hf0; obtain rfl := harg3.eq_unread hf1; obtain rfl := harg4.eq_unread hf2
    sl_exec (disch := first | sl_exact h1 | sl_exact h2 | sl_exact h3 | sl_exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H8]; · iexists _; iexact H8
    iexists _; iexact H12

set_option maxHeartbeats 1000000 in
/-- The point that computes the normalised `v`, through the scratch block. -/
def runV (h1 : ¬k0_cond1 i = 1#1) (h2 : k0_cond2 i = 1#1) (h3 : ¬k0_cond3 i = 1#1) (h4 : ¬k0_cond4 i = 1#1)
    (x0 : Vec F S1024x2048 .bf16) (x1 : Vec F S1x2048x1024 .bf16) (x4 x5 : Vec F S1x1024 .f32) :
    Σ' (L9 : List (View.Piece (Elt F) S1024x1024 .bf16)), { L13 : List (View.Piece (Elt F) S1024x1024 .f32) //
      ∀ (E : Set ℕ) (K : PUnit → sProp 𝕄),
        iprop(owns (c : Thread nD τ) arg2 fullShare x0 ∗ owns (c : Thread nD τ) arg3 fullShare x1
            ∗ owns (c : Thread nD τ) arg6 fullShare x4 ∗ owns (c : Thread nD τ) arg7 fullShare x5
            ∗ (∃ d, owns (c : Thread nD τ) arg9 fullShare d) ∗ (∃ d, owns (c : Thread nD τ) arg13 fullShare d)
            ∗ (iprop(owns (c : Thread nD τ) arg2 fullShare x0 ∗ owns (c : Thread nD τ) arg3 fullShare x1
              ∗ owns (c : Thread nD τ) arg6 fullShare x4 ∗ owns (c : Thread nD τ) arg7 fullShare x5
              ∗ holds c arg9 L9 ∗ holds c arg13 L13) -∗ K ⟨⟩))
          ⊢ wp frame (wpE (defs₀ (F := F)) Variants.none c none) E
              (cc0_proj_nat i arg2 harg2 arg3 harg3 arg4 harg4 arg5 harg5 arg6 harg6 arg7 harg7 arg8 harg8 arg9 harg9
                arg10 harg10 arg11 harg11 arg12 harg12 arg13 harg13) K } := by
  refine ⟨?_, ?_, fun E K => ?run⟩
  case run =>
    simp only [cc0_proj_nat_eq_skeleton]; unfold cc0_proj_nat_skel
    simp only [k0_part3_eq_skeleton, k0_part4_eq_skeleton]
    unfold owns holds
    iintro ⟨⟨%f0, %hf0, H0⟩, ⟨%f1, %hf1, H1⟩, ⟨%f4, %hf4, H4⟩, ⟨%f5, %hf5, H5⟩, ⟨%d9, %f9, -, H9⟩, ⟨%d13, %f13, -, H13⟩, Hk⟩
    obtain rfl := harg2.eq_unread hf0; obtain rfl := harg3.eq_unread hf1; obtain rfl := harg6.eq_unread hf4
    obtain rfl := harg7.eq_unread hf5
    sl_exec (disch := first | sl_exact h1 | sl_exact h2 | sl_exact h3 | sl_exact h4)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact harg6.read_unread _
      iexact H4
    isplitl [H5]
    · iexists _; isplitr; · ipureintro; exact harg7.read_unread _
      iexact H5
    isplitl [H9]; · iexists _; iexact H9
    iexists _; iexact H13

set_option maxHeartbeats 1000000 in
/-- The point that computes `k`. -/
def runK (h1 : ¬k0_cond1 i = 1#1) (h2 : ¬k0_cond2 i = 1#1) (h3 : k0_cond3 i = 1#1) (h4 : ¬k0_cond4 i = 1#1)
    (x0 : Vec F S1024x2048 .bf16) (x1 : Vec F S1x2048x1024 .bf16) :
    { L10 : List (View.Piece (Elt F) S1024x1024 .bf16) //
      ∀ (E : Set ℕ) (K : PUnit → sProp 𝕄),
        iprop(owns (c : Thread nD τ) arg2 fullShare x0 ∗ owns (c : Thread nD τ) arg3 fullShare x1
            ∗ (∃ d, owns (c : Thread nD τ) arg10 fullShare d)
            ∗ (iprop(owns (c : Thread nD τ) arg2 fullShare x0 ∗ owns (c : Thread nD τ) arg3 fullShare x1
              ∗ holds c arg10 L10) -∗ K ⟨⟩))
          ⊢ wp frame (wpE (defs₀ (F := F)) Variants.none c none) E
              (cc0_proj_nat i arg2 harg2 arg3 harg3 arg4 harg4 arg5 harg5 arg6 harg6 arg7 harg7 arg8 harg8 arg9 harg9
                arg10 harg10 arg11 harg11 arg12 harg12 arg13 harg13) K } := by
  refine ⟨?_, fun E K => ?run⟩
  case run =>
    simp only [cc0_proj_nat_eq_skeleton]; unfold cc0_proj_nat_skel
    simp only [k0_part5_eq_skeleton]
    unfold owns holds
    iintro ⟨⟨%f0, %hf0, H0⟩, ⟨%f1, %hf1, H1⟩, ⟨%d10, %f10, -, H10⟩, Hk⟩
    obtain rfl := harg2.eq_unread hf0; obtain rfl := harg3.eq_unread hf1
    sl_exec (disch := first | sl_exact h1 | sl_exact h2 | sl_exact h3 | sl_exact h4)
    sl_step
    iapply Hk
    isplitl [H0]
    · iexists _; isplitr; · ipureintro; exact harg2.read_unread _
      iexact H0
    isplitl [H1]
    · iexists _; isplitr; · ipureintro; exact harg3.read_unread _
      iexact H1
    iexists _; iexact H10

set_option maxHeartbeats 1000000 in
/-- A point that computes a block of gates. -/
def runG (h1 : ¬k0_cond1 i = 1#1) (h2 : ¬k0_cond2 i = 1#1) (h3 : ¬k0_cond3 i = 1#1) (h4 : k0_cond4 i = 1#1)
    (x0 : Vec F S1024x2048 .bf16) (x3 : Vec F S1x2048x1024 .bf16) :
    { L11 : List (View.Piece (Elt F) S1024x1024 .bf16) //
      ∀ (E : Set ℕ) (K : PUnit → sProp 𝕄),
        iprop(owns (c : Thread nD τ) arg2 fullShare x0 ∗ owns (c : Thread nD τ) arg5 fullShare x3
            ∗ (∃ d, owns (c : Thread nD τ) arg11 fullShare d)
            ∗ (iprop(owns (c : Thread nD τ) arg2 fullShare x0 ∗ owns (c : Thread nD τ) arg5 fullShare x3
              ∗ holds c arg11 L11) -∗ K ⟨⟩))
          ⊢ wp frame (wpE (defs₀ (F := F)) Variants.none c none) E
              (cc0_proj_nat i arg2 harg2 arg3 harg3 arg4 harg4 arg5 harg5 arg6 harg6 arg7 harg7 arg8 harg8 arg9 harg9
                arg10 harg10 arg11 harg11 arg12 harg12 arg13 harg13) K } := by
  refine ⟨?_, fun E K => ?run⟩
  case run =>
    simp only [cc0_proj_nat_eq_skeleton]; unfold cc0_proj_nat_skel
    simp only [k0_part6_eq_skeleton]
    unfold owns holds
    iintro ⟨⟨%f0, %hf0, H0⟩, ⟨%f3, %hf3, H3⟩, ⟨%d11, %f11, -, H11⟩, Hk⟩
    obtain rfl := harg2.eq_unread hf0; obtain rfl := harg5.eq_unread hf3
    sl_exec (disch := first | sl_exact h1 | sl_exact h2 | sl_exact h3 | sl_exact h4)
    sl_step
    iapply Hk
    isplitl [H0]
    · iexists _; isplitr; · ipureintro; exact harg2.read_unread _
      iexact H0
    isplitl [H3]
    · iexists _; isplitr; · ipureintro; exact harg5.read_unread _
      iexact H3
    iexists _; iexact H11

end Cert.ProjIdeal.Body

end
-- ==== Proof.ProjFrame.lean ====
/-
  The projection kernel's frame.  Row block `q` of the tokens takes seven grid points: `u` and the index keys are written at
  the first, `v` at the second, `k` at the third, and one block of gates at each of the other four.  Each result's buffer
  is left alone until the row block's last point, where it is written back.
-/
module

public import proofs.«01_k».proof.Proof.ProjRun
public import Idealize.ShloMosaic.Lib.Claim

@[expose] public section

set_option maxRecDepth 16384

noncomputable section

namespace Cert.ProjIdeal.Body

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which of the four things a point does -/

theorem lt_N (t : Fin cfg0.N) : t.val < 112 := Nat.lt_of_lt_of_eq t.isLt N_0

theorem coord1 (t : Fin cfg0.N) : (grid0.coords t 1).val = t.val / 1 % 7 := Pipeline.Grid.coords_val t 1 (by decide) rfl

theorem cond1_iff (t : Fin cfg0.N) : k0_cond1 (grid0.coords t) = 1#1 ↔ t.val % 7 = 0 := by
  have ht := lt_N t; have e := coord1 t; simp only [k0_cond1, e]; word_cmp
theorem cond2_iff (t : Fin cfg0.N) : k0_cond2 (grid0.coords t) = 1#1 ↔ t.val % 7 = 1 := by
  have ht := lt_N t; have e := coord1 t; simp only [k0_cond2, e]; word_cmp
theorem cond3_iff (t : Fin cfg0.N) : k0_cond3 (grid0.coords t) = 1#1 ↔ t.val % 7 = 2 := by
  have ht := lt_N t; have e := coord1 t; simp only [k0_cond3, e]; word_cmp
theorem cond4_iff (t : Fin cfg0.N) : k0_cond4 (grid0.coords t) = 1#1 ↔ 3 ≤ t.val % 7 := by
  have ht := lt_N t; have e := coord1 t; simp only [k0_cond4, e]; word_cmp

/-! ## The buffers at a point -/

abbrev st0 (t : Fin cfg0.N) : Memref sig .tc .vmem S1024x2048 .bf16 := win0_0.stage (cfg0.slots t 0)
abbrev st1 (t : Fin cfg0.N) : Memref sig .tc .vmem S1x2048x1024 .bf16 := win0_1.stage (cfg0.slots t 1)
abbrev st2 (t : Fin cfg0.N) : Memref sig .tc .vmem S1x2048x64 .bf16 := win0_2.stage (cfg0.slots t 2)
abbrev st3 (t : Fin cfg0.N) : Memref sig .tc .vmem S1x2048x1024 .bf16 := win0_3.stage (cfg0.slots t 3)
abbrev st4 (t : Fin cfg0.N) : Memref sig .tc .vmem S1x1024 .f32 := win0_4.stage (cfg0.slots t 4)
abbrev st5 (t : Fin cfg0.N) : Memref sig .tc .vmem S1x1024 .f32 := win0_5.stage (cfg0.slots t 5)
abbrev st6 (t : Fin cfg0.N) : Memref sig .tc .vmem S1024x1024 .bf16 := win0_6.stage (cfg0.slots t 6)
abbrev st7 (t : Fin cfg0.N) : Memref sig .tc .vmem S1024x1024 .bf16 := win0_7.stage (cfg0.slots t 7)
abbrev st8 (t : Fin cfg0.N) : Memref sig .tc .vmem S1024x1024 .bf16 := win0_8.stage (cfg0.slots t 8)
abbrev st9 (t : Fin cfg0.N) : Memref sig .tc .vmem S1024x1024 .bf16 := win0_9.stage (cfg0.slots t 9)
abbrev st10 (t : Fin cfg0.N) : Memref sig .tc .vmem S1024x64 .bf16 := win0_10.stage (cfg0.slots t 10)
abbrev scr : Memref sig .tc .vmem S1024x1024 .f32 := Memref.whole cc0_scratch0

theorem hst0 (t : Fin cfg0.N) : (st0 t).IsWhole := hstage0_0 ((cfg0.slots t 0).cast nbuf0_0)
theorem hst1 (t : Fin cfg0.N) : (st1 t).IsWhole := hstage0_1 ((cfg0.slots t 1).cast nbuf0_1)
theorem hst2 (t : Fin cfg0.N) : (st2 t).IsWhole := hstage0_2 ((cfg0.slots t 2).cast nbuf0_2)
theorem hst3 (t : Fin cfg0.N) : (st3 t).IsWhole := hstage0_3 ((cfg0.slots t 3).cast nbuf0_3)
theorem hst4 (t : Fin cfg0.N) : (st4 t).IsWhole := hstage0_4 ((cfg0.slots t 4).cast nbuf0_4)
theorem hst5 (t : Fin cfg0.N) : (st5 t).IsWhole := hstage0_5 ((cfg0.slots t 5).cast nbuf0_5)
theorem hst6 (t : Fin cfg0.N) : (st6 t).IsWhole := hstage0_6 ((cfg0.slots t 6).cast nbuf0_6)
theorem hst7 (t : Fin cfg0.N) : (st7 t).IsWhole := hstage0_7 ((cfg0.slots t 7).cast nbuf0_7)
theorem hst8 (t : Fin cfg0.N) : (st8 t).IsWhole := hstage0_8 ((cfg0.slots t 8).cast nbuf0_8)
theorem hst9 (t : Fin cfg0.N) : (st9 t).IsWhole := hstage0_9 ((cfg0.slots t 9).cast nbuf0_9)
theorem hst10 (t : Fin cfg0.N) : (st10 t).IsWhole := hstage0_10 ((cfg0.slots t 10).cast nbuf0_10)
theorem hscr : (scr).IsWhole := Memref.isWhole_whole _

/-- What the launch hands the region: the scratch block at anything, and the generator register. -/
theorem rest_eq (c : Dev nD) :
    (Pipeline.ΦA spec0 c : sProp 𝕄) = iprop((∃ d, owns (c : Thread nD τ) scr fullShare d) ∗ (∃ r, prngReg c r)) := by
  unfold Pipeline.ΦA; rw [scopedRest0_eq]; simp only [scr, owns_whole]; try rfl

/-- A covered buffer holds the pieces' contents, whatever it held before; -/
theorem owns_of_holds (c : Dev nD) {S : Shape} {e : EltTy} (a : Memref sig .tc .vmem S e) (L : List (View.Piece (Elt F) S e))
    (h : ∀ y, ∃ p ∈ L, y ∈ p.1.set) : holds (F := F) c a L ⊢ owns (c : Thread nD τ) a fullShare (View.canon L) := by
  unfold holds owns
  iintro ⟨%f, H⟩
  iexists _; isplitr; swap; · iexact H
  ipureintro; exact View.read_writes_eq_canon _ _ _ h

/-- and any buffer holds something. -/
theorem some_of_holds (c : Dev nD) {S : Shape} {e : EltTy} (a : Memref sig .tc .vmem S e) (L : List (View.Piece (Elt F) S e)) :
    holds (F := F) c a L ⊢ iprop(∃ d, owns (c : Thread nD τ) a fullShare d) := by
  unfold holds owns
  iintro ⟨%f, H⟩
  iexists _; iexists _; isplitr; swap; · iexact H
  ipureintro; rfl

/-! ## The runs at a point -/

def atU (c : Dev nD) (t : Fin cfg0.N) (h : t.val % 7 = 0) :=
  runU (F := F) c (grid0.coords t) (st0 t) (hst0 t) (st1 t) (hst1 t) (st2 t) (hst2 t) (st3 t) (hst3 t) (st4 t) (hst4 t) (st5 t) (hst5 t)
    (st6 t) (hst6 t) (st7 t) (hst7 t) (st8 t) (hst8 t) (st9 t) (hst9 t) (st10 t) (hst10 t) scr hscr
    ((cond1_iff t).2 h) (fun h' => by have := (cond2_iff t).1 h'; omega) (fun h' => by have := (cond3_iff t).1 h'; omega)
    (fun h' => by have := (cond4_iff t).1 h'; omega) (iblk m c 0 t) (iblk m c 1 t) (iblk m c 2 t)

def atV (c : Dev nD) (t : Fin cfg0.N) (h : t.val % 7 = 1) :=
  runV (F := F) c (grid0.coords t) (st0 t) (hst0 t) (st1 t) (hst1 t) (st2 t) (hst2 t) (st3 t) (hst3 t) (st4 t) (hst4 t) (st5 t) (hst5 t)
    (st6 t) (hst6 t) (st7 t) (hst7 t) (st8 t) (hst8 t) (st9 t) (hst9 t) (st10 t) (hst10 t) scr hscr
    (fun h' => by have := (cond1_iff t).1 h'; omega) ((cond2_iff t).2 h) (fun h' => by have := (cond3_iff t).1 h'; omega)
    (fun h' => by have := (cond4_iff t).1 h'; omega) (iblk m c 0 t) (iblk m c 1 t) (iblk m c 4 t) (iblk m c 5 t)

def atK (c : Dev nD) (t : Fin cfg0.N) (h : t.val % 7 = 2) :=
  runK (F := F) c (grid0.coords t) (st0 t) (hst0 t) (st1 t) (hst1 t) (st2 t) (hst2 t) (st3 t) (hst3 t) (st4 t) (hst4 t) (st5 t) (hst5 t)
    (st6 t) (hst6 t) (st7 t) (hst7 t) (st8 t) (hst8 t) (st9 t) (hst9 t) (st10 t) (hst10 t) scr hscr
    (fun h' => by have := (cond1_iff t).1 h'; omega) (fun h' => by have := (cond2_iff t).1 h'; omega) ((cond3_iff t).2 h)
    (fun h' => by have := (cond4_iff t).1 h'; omega) (iblk m c 0 t) (iblk m c 1 t)

def atG (c : Dev nD) (t : Fin cfg0.N) (h : 3 ≤ t.val % 7) :=
  runG (F := F) c (grid0.coords t) (st0 t) (hst0 t) (st1 t) (hst1 t) (st2 t) (hst2 t) (st3 t) (hst3 t) (st4 t) (hst4 t) (st5 t) (hst5 t)
    (st6 t) (hst6 t) (st7 t) (hst7 t) (st8 t) (hst8 t) (st9 t) (hst9 t) (st10 t) (hst10 t) scr hscr
    (fun h' => by have := (cond1_iff t).1 h'; omega) (fun h' => by have := (cond2_iff t).1 h'; omega)
    (fun h' => by have := (cond3_iff t).1 h'; omega) ((cond4_iff t).2 h) (iblk m c 0 t) (iblk m c 3 t)

theorem coverU (c : Dev nD) (t : Fin cfg0.N) (h : t.val % 7 = 0) : ∀ y, ∃ p ∈ (atU m c t h).1, y ∈ p.1.set :=
  View.cover_of_tiledL (atU m c t h).1 ![1024, 256] (by sl_kernel_rfl)
theorem coverI (c : Dev nD) (t : Fin cfg0.N) (h : t.val % 7 = 0) : ∀ y, ∃ p ∈ (atU m c t h).2.1, y ∈ p.1.set :=
  View.cover_of_tiledL (atU m c t h).2.1 ![1024, 64] (by sl_kernel_rfl)
theorem coverV (c : Dev nD) (t : Fin cfg0.N) (h : t.val % 7 = 1) : ∀ y, ∃ p ∈ (atV m c t h).1, y ∈ p.1.set :=
  View.cover_of_tiledL (atV m c t h).1 ![1024, 1024] (by sl_kernel_rfl)
theorem coverK (c : Dev nD) (t : Fin cfg0.N) (h : t.val % 7 = 2) : ∀ y, ∃ p ∈ (atK m c t h).1, y ∈ p.1.set :=
  View.cover_of_tiledL (atK m c t h).1 ![1024, 256] (by sl_kernel_rfl)
theorem coverG (c : Dev nD) (t : Fin cfg0.N) (h : 3 ≤ t.val % 7) : ∀ y, ∃ p ∈ (atG m c t h).1, y ∈ p.1.set :=
  View.cover_of_tiledL (atG m c t h).1 ![1024, 256] (by sl_kernel_rfl)

/-! ## The row block of a point, and the points that write its results -/

def row (t : Fin cfg0.N) : Fin 16 := ⟨t.val / 7, by have := lt_N t; omega⟩
/-- Point `j` of row block `q`. -/
def pt (q : Fin 16) (j : ℕ) (hj : j < 7) : Fin cfg0.N := ⟨7 * q.val + j, by have : cfg0.N = 112 := N_0; have := q.isLt; omega⟩
theorem pt_mod (q : Fin 16) (j : ℕ) (hj : j < 7) : (pt q j hj).val % 7 = j := by show (7 * q.val + j) % 7 = j; omega

/-- What row block `q` leaves in each result. -/
def uOf (c : Dev nD) (q : Fin 16) : Vec F S1024x1024 .bf16 := View.canon (atU m c (pt q 0 (by decide)) (pt_mod q 0 (by decide))).1
def iOf (c : Dev nD) (q : Fin 16) : Vec F S1024x64 .bf16 := View.canon (atU m c (pt q 0 (by decide)) (pt_mod q 0 (by decide))).2.1
def vOf (c : Dev nD) (q : Fin 16) : Vec F S1024x1024 .bf16 := View.canon (atV m c (pt q 1 (by decide)) (pt_mod q 1 (by decide))).1
def kOf (c : Dev nD) (q : Fin 16) : Vec F S1024x1024 .bf16 := View.canon (atK m c (pt q 2 (by decide)) (pt_mod q 2 (by decide))).1
def gOf (c : Dev nD) (t : Fin cfg0.N) : Vec F S1024x1024 .bf16 :=
  if h : 3 ≤ t.val % 7 then View.canon (atG m c t h).1 else View.canon []

theorem pt_row (t : Fin cfg0.N) (j : ℕ) (hj : j < 7) (h : t.val % 7 = j) : pt (row t) j hj = t :=
  Fin.ext (show 7 * (t.val / 7) + j = t.val by omega)

theorem at_point {p : Fin cfg0.N → Prop} {α : Type} (f : (t : Fin cfg0.N) → p t → α) {t t' : Fin cfg0.N} (e : t = t') (h : p t) (h' : p t') :
    f t h = f t' h' := by
  subst e; rfl

theorem uOf_at (c : Dev nD) (t : Fin cfg0.N) (h : t.val % 7 = 0) : uOf m c (row t) = View.canon (atU m c t h).1 :=
  at_point (fun t h => View.canon (atU m c t h).1) (pt_row t 0 (by decide) h) _ h
theorem iOf_at (c : Dev nD) (t : Fin cfg0.N) (h : t.val % 7 = 0) : iOf m c (row t) = View.canon (atU m c t h).2.1 :=
  at_point (fun t h => View.canon (atU m c t h).2.1) (pt_row t 0 (by decide) h) _ h
theorem vOf_at (c : Dev nD) (t : Fin cfg0.N) (h : t.val % 7 = 1) : vOf m c (row t) = View.canon (atV m c t h).1 :=
  at_point (fun t h => View.canon (atV m c t h).1) (pt_row t 1 (by decide) h) _ h
theorem kOf_at (c : Dev nD) (t : Fin cfg0.N) (h : t.val % 7 = 2) : kOf m c (row t) = View.canon (atK m c t h).1 :=
  at_point (fun t h => View.canon (atK m c t h).1) (pt_row t 2 (by decide) h) _ h
theorem gOf_at (c : Dev nD) (t : Fin cfg0.N) (h : 3 ≤ t.val % 7) : gOf m c t = View.canon (atG m c t h).1 := by
  unfold gOf; rw [dif_pos h]

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => uOf m c (row t)
    | ⟨7, _⟩ => vOf m c (row t)
    | ⟨8, _⟩ => kOf m c (row t)
    | ⟨9, _⟩ => gOf m c t
    | ⟨10, _⟩ => iOf m c (row t)
    | ⟨_ + 11, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := rfl

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = uOf m c (row t) := by dsimp only [dats]
theorem after7 (c : Dev nD) (t : Fin cfg0.N) : (dats m 0 c).after 7 t = vOf m c (row t) := by dsimp only [dats]
theorem after8 (c : Dev nD) (t : Fin cfg0.N) : (dats m 0 c).after 8 t = kOf m c (row t) := by dsimp only [dats]
theorem after9 (c : Dev nD) (t : Fin cfg0.N) : (dats m 0 c).after 9 t = gOf m c t := by dsimp only [dats]
theorem after10 (c : Dev nD) (t : Fin cfg0.N) : (dats m 0 c).after 10 t = iOf m c (row t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-! ## What a point that doesn't write a result leaves in its buffer -/

theorem idle6 : ∀ t : Fin cfg0.N, t.val % 7 ≠ 0 → cfg0.idle 6 (cfg0.grid.coords t) = true := by decide +kernel
theorem idle7 : ∀ t : Fin cfg0.N, t.val % 7 ≠ 1 → cfg0.idle 7 (cfg0.grid.coords t) = true := by decide +kernel
theorem idle8 : ∀ t : Fin cfg0.N, t.val % 7 ≠ 2 → cfg0.idle 8 (cfg0.grid.coords t) = true := by decide +kernel
theorem idle9 : ∀ t : Fin cfg0.N, ¬3 ≤ t.val % 7 → cfg0.idle 9 (cfg0.grid.coords t) = true := by decide +kernel
theorem idle10 : ∀ t : Fin cfg0.N, t.val % 7 ≠ 0 → cfg0.idle 10 (cfg0.grid.coords t) = true := by decide +kernel
theorem live6 : ∀ t : Fin cfg0.N, t.val % 7 = 0 → cfg0.idle 6 (cfg0.grid.coords t) = false := by decide +kernel
theorem live7 : ∀ t : Fin cfg0.N, t.val % 7 = 1 → cfg0.idle 7 (cfg0.grid.coords t) = false := by decide +kernel
theorem live8 : ∀ t : Fin cfg0.N, t.val % 7 = 2 → cfg0.idle 8 (cfg0.grid.coords t) = false := by decide +kernel
theorem live9 : ∀ t : Fin cfg0.N, 3 ≤ t.val % 7 → cfg0.idle 9 (cfg0.grid.coords t) = false := by decide +kernel
theorem live10 : ∀ t : Fin cfg0.N, t.val % 7 = 0 → cfg0.idle 10 (cfg0.grid.coords t) = false := by decide +kernel
theorem kept9 : ∀ t : Fin cfg0.N, ¬3 ≤ t.val % 7 → (cfg0.win 9).flush t = false := by decide +kernel

/-- An output written at the points `≡ j` and written back at the points `≡ 6`, its contents those of the row block: a point
    that doesn't write it leaves it as it must be left. -/
theorem pass (c : Dev nD) (w : Fin cfg0.W) (j : ℕ) (hj : j < 6) (hw : (cfg0.win w).isOut = true)
    (hclip : ∀ (i : cfg0.grid.Coords) a, (cfg0.win w).clip i a = none)
    (hi : ∀ t : Fin cfg0.N, t.val % 7 ≠ j → cfg0.idle w (cfg0.grid.coords t) = true)
    (hl : ∀ t : Fin cfg0.N, t.val % 7 = j → cfg0.idle w (cfg0.grid.coords t) = false)
    (hf : ∀ t : Fin cfg0.N, (cfg0.win w).flush t = true ↔ t.val % 7 = 6)
    (ha : ∀ t t' : Fin cfg0.N, row t = row t' → (dats m 0 c).after w t = (dats m 0 c).after w t')
    (t : Fin cfg0.N) (h : t.val % 7 ≠ j) :
    iprop(∃ d, owns (c : Thread nD τ) ((cfg0.win w).stage (cfg0.slots t w)) fullShare ((dats m 0 c).before w t d))
      ⊢ (dats m 0 c).leavesExact w t := by
  have hfr : ∀ n, n ≤ cfg0.N → cfg0.fresh w n = decide (n % 7 ≤ j) := cfg0.fresh_tab w _ rfl fun t => by
    by_cases h6 : t.val % 7 = 6
    · rw [(hf t).2 h6, Bool.true_or, decide_eq_true]; omega
    · have : (cfg0.win w).flush t = false := by rw [Bool.eq_false_iff]; exact fun e => h6 ((hf t).1 e)
      rw [this, Bool.false_or]
      by_cases hh : t.val % 7 = j
      · rw [hl t hh, Bool.false_and, decide_eq_false]; omega
      · rw [hi t hh, Bool.true_and]; exact decide_eq_decide.2 (by omega)
  by_cases h6 : t.val % 7 = 6
  · have hb : ∀ d, (dats m 0 c).before w t d = (dats m 0 c).after w t := fun d => by
      rw [(dats m 0 c).before_out_traj w hw hclip (fun t h0 _ hn => ha _ _ (by
        rw [hfr t.val (Nat.le_of_lt t.isLt)] at hn
        have := of_decide_eq_false hn
        exact Fin.ext (show t.val / 7 = (t.val - 1) / 7 by omega))) t.val t rfl d, hfr t.val (Nat.le_of_lt t.isLt),
        decide_eq_false (by omega)]
      exact ha _ _ (Fin.ext (show (t.val - 1) / 7 = t.val / 7 by omega))
    unfold Dat.leavesExact
    rw [hi t h, (hf t).2 h6]
    simp only [hb]
    iintro ⟨%d, H⟩
    iexact H
  · rw [Dat.leavesExact_idle (dats m 0 c) w t (hi t h) (by rw [Bool.eq_false_iff]; exact fun e => h6 ((hf t).1 e))]

theorem pass6 (c : Dev nD) (t : Fin cfg0.N) (h : t.val % 7 ≠ 0) :
    iprop(∃ d, owns (c : Thread nD τ) (st6 t) fullShare ((dats m 0 c).before 6 t d)) ⊢ (dats m 0 c).leavesExact 6 t :=
  pass m c 6 0 (by decide) rfl (fun _ _ => rfl) idle6 live6 flush0_6 (fun t t' e => by rw [after6, after6, e]) t h
theorem pass7 (c : Dev nD) (t : Fin cfg0.N) (h : t.val % 7 ≠ 1) :
    iprop(∃ d, owns (c : Thread nD τ) (st7 t) fullShare ((dats m 0 c).before 7 t d)) ⊢ (dats m 0 c).leavesExact 7 t :=
  pass m c 7 1 (by decide) rfl (fun _ _ => rfl) idle7 live7 flush0_7 (fun t t' e => by rw [after7, after7, e]) t h
theorem pass8 (c : Dev nD) (t : Fin cfg0.N) (h : t.val % 7 ≠ 2) :
    iprop(∃ d, owns (c : Thread nD τ) (st8 t) fullShare ((dats m 0 c).before 8 t d)) ⊢ (dats m 0 c).leavesExact 8 t :=
  pass m c 8 2 (by decide) rfl (fun _ _ => rfl) idle8 live8 flush0_8 (fun t t' e => by rw [after8, after8, e]) t h
theorem pass9 (c : Dev nD) (t : Fin cfg0.N) (h : ¬3 ≤ t.val % 7) :
    iprop(∃ d, owns (c : Thread nD τ) (st9 t) fullShare ((dats m 0 c).before 9 t d)) ⊢ (dats m 0 c).leavesExact 9 t := by
  rw [Dat.leavesExact_idle (dats m 0 c) 9 t (idle9 t h) (kept9 t h)]
theorem pass10 (c : Dev nD) (t : Fin cfg0.N) (h : t.val % 7 ≠ 0) :
    iprop(∃ d, owns (c : Thread nD τ) (st10 t) fullShare ((dats m 0 c).before 10 t d)) ⊢ (dats m 0 c).leavesExact 10 t :=
  pass m c 10 0 (by decide) rfl (fun _ _ => rfl) idle10 live10 flush0_10 (fun t t' e => by rw [after10, after10, e]) t h

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d))
    ∗ (∃ d, owns (c : Thread nD τ) (st8 t) fullShare ((dats m 0 c).before 8 t d))
    ∗ (∃ d, owns (c : Thread nD τ) (st9 t) fullShare ((dats m 0 c).before 9 t d))
    ∗ (∃ d, owns (c : Thread nD τ) (st10 t) fullShare ((dats m 0 c).before 10 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t ∗ (dats m 0 c).leavesExact 7 t
    ∗ (dats m 0 c).leavesExact 8 t ∗ (dats m 0 c).leavesExact 9 t ∗ (dats m 0 c).leavesExact 10 t)

/-- A window the point writes (or only reads) is left at its contents after the point. -/
theorem leaves_live (c : Dev nD) (w : Fin cfg0.W) (t : Fin cfg0.N) (h : cfg0.idle w (cfg0.grid.coords t) = false) :
    (dats m 0 c).leavesExact w t
      = owns (c : Thread nD τ) ((cfg0.win w).stage (cfg0.slots t w)) fullShare ((dats m 0 c).after w t) := by
  unfold Dat.leavesExact; rw [h]

theorem body_u (c : Dev nD) (t : Fin cfg0.N) (h : t.val % 7 = 0) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [leaves_live m c 0 t rfl, leaves_live m c 1 t rfl, leaves_live m c 2 t rfl, leaves_live m c 3 t rfl, leaves_live m c 4 t rfl,
    leaves_live m c 5 t rfl, leaves_live m c 6 t (live6 t h), leaves_live m c 10 t (live10 t h),
    after0, after1, after2, after3, after4, after5, after6, after10, uOf_at m c t h, iOf_at m c t h]
  rw [show (dats m 0 c).owesAt () t.succ = (dats m 0 c).owesAt () t.castSucc from rfl]
  rw [show (dats m 0 c).Φ t.succ = (dats m 0 c).Φ t.castSucc from rfl]
  iintro ⟨HS, Ho, ⟨%d0, H0⟩, ⟨%d1, H1⟩, ⟨%d2, H2⟩, ⟨%d3, H3⟩, ⟨%d4, H4⟩, ⟨%d5, H5⟩, ⟨%d6, H6⟩, H7, H8, H9, ⟨%d10, H10⟩⟩
  iapply ((atU m c t h).2.2 Set.univ _)
  isplitl [H0]; · iexact H0
  isplitl [H1]; · iexact H1
  isplitl [H2]; · iexact H2
  isplitl [H6]; · iexists _; iexact H6
  isplitl [H10]; · iexists _; iexact H10
  iintro ⟨H0, H1, H2, H6, H10⟩
  isplitl [HS]; · iexact HS
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply (owns_of_holds c _ _ (coverU m c t h)); iexact H6
  isplitl [H7]; · iapply (pass7 m c t (by omega)); iexact H7
  isplitl [H8]; · iapply (pass8 m c t (by omega)); iexact H8
  isplitl [H9]; · iapply (pass9 m c t (by omega)); iexact H9
  iapply (owns_of_holds c _ _ (coverI m c t h)); iexact H10

theorem body_v (c : Dev nD) (t : Fin cfg0.N) (h : t.val % 7 = 1) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [leaves_live m c 0 t rfl, leaves_live m c 1 t rfl, leaves_live m c 2 t rfl, leaves_live m c 3 t rfl, leaves_live m c 4 t rfl,
    leaves_live m c 5 t rfl, leaves_live m c 7 t (live7 t h),
    after0, after1, after2, after3, after4, after5, after7, vOf_at m c t h]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, rest_eq]
  iintro ⟨⟨HS, Hg⟩, Ho, ⟨%d0, H0⟩, ⟨%d1, H1⟩, ⟨%d2, H2⟩, ⟨%d3, H3⟩, ⟨%d4, H4⟩, ⟨%d5, H5⟩, H6, ⟨%d7, H7⟩, H8, H9, H10⟩
  iapply ((atV m c t h).2.2 Set.univ _)
  isplitl [H0]; · iexact H0
  isplitl [H1]; · iexact H1
  isplitl [H4]; · iexact H4
  isplitl [H5]; · iexact H5
  isplitl [H7]; · iexists _; iexact H7
  isplitl [HS]; · iexact HS
  iintro ⟨H0, H1, H4, H5, H7, HS⟩
  isplitl [HS Hg]
  · isplitl [HS]; · iapply (some_of_holds c _ _); iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply (pass6 m c t (by omega)); iexact H6
  isplitl [H7]; · iapply (owns_of_holds c _ _ (coverV m c t h)); iexact H7
  isplitl [H8]; · iapply (pass8 m c t (by omega)); iexact H8
  isplitl [H9]; · iapply (pass9 m c t (by omega)); iexact H9
  iapply (pass10 m c t (by omega)); iexact H10

theorem body_k (c : Dev nD) (t : Fin cfg0.N) (h : t.val % 7 = 2) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [leaves_live m c 0 t rfl, leaves_live m c 1 t rfl, leaves_live m c 2 t rfl, leaves_live m c 3 t rfl, leaves_live m c 4 t rfl,
    leaves_live m c 5 t rfl, leaves_live m c 8 t (live8 t h),
    after0, after1, after2, after3, after4, after5, after8, kOf_at m c t h]
  rw [show (dats m 0 c).owesAt () t.succ = (dats m 0 c).owesAt () t.castSucc from rfl]
  rw [show (dats m 0 c).Φ t.succ = (dats m 0 c).Φ t.castSucc from rfl]
  iintro ⟨HS, Ho, ⟨%d0, H0⟩, ⟨%d1, H1⟩, ⟨%d2, H2⟩, ⟨%d3, H3⟩, ⟨%d4, H4⟩, ⟨%d5, H5⟩, H6, H7, ⟨%d8, H8⟩, H9, H10⟩
  iapply ((atK m c t h).2 Set.univ _)
  isplitl [H0]; · iexact H0
  isplitl [H1]; · iexact H1
  isplitl [H8]; · iexists _; iexact H8
  iintro ⟨H0, H1, H8⟩
  isplitl [HS]; · iexact HS
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply (pass6 m c t (by omega)); iexact H6
  isplitl [H7]; · iapply (pass7 m c t (by omega)); iexact H7
  isplitl [H8]; · iapply (owns_of_holds c _ _ (coverK m c t h)); iexact H8
  isplitl [H9]; · iapply (pass9 m c t (by omega)); iexact H9
  iapply (pass10 m c t (by omega)); iexact H10

theorem body_g (c : Dev nD) (t : Fin cfg0.N) (h : 3 ≤ t.val % 7) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [leaves_live m c 0 t rfl, leaves_live m c 1 t rfl, leaves_live m c 2 t rfl, leaves_live m c 3 t rfl, leaves_live m c 4 t rfl,
    leaves_live m c 5 t rfl, leaves_live m c 9 t (live9 t h),
    after0, after1, after2, after3, after4, after5, after9, gOf_at m c t h]
  rw [show (dats m 0 c).owesAt () t.succ = (dats m 0 c).owesAt () t.castSucc from rfl]
  rw [show (dats m 0 c).Φ t.succ = (dats m 0 c).Φ t.castSucc from rfl]
  iintro ⟨HS, Ho, ⟨%d0, H0⟩, ⟨%d1, H1⟩, ⟨%d2, H2⟩, ⟨%d3, H3⟩, ⟨%d4, H4⟩, ⟨%d5, H5⟩, H6, H7, H8, ⟨%d9, H9⟩, H10⟩
  iapply ((atG m c t h).2 Set.univ _)
  isplitl [H0]; · iexact H0
  isplitl [H3]; · iexact H3
  isplitl [H9]; · iexists _; iexact H9
  iintro ⟨H0, H3, H9⟩
  isplitl [HS]; · iexact HS
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply (pass6 m c t (by omega)); iexact H6
  isplitl [H7]; · iapply (pass7 m c t (by omega)); iexact H7
  isplitl [H8]; · iapply (pass8 m c t (by omega)); iexact H8
  isplitl [H9]; · iapply (owns_of_holds c _ _ (coverG m c t h)); iexact H9
  iapply (pass10 m c t (by omega)); iexact H10

theorem body_sound (c : Dev nD) (t : Fin cfg0.N) :
    bodyPre m c t ⊢ wp frame (wpE (defs₀ (F := F)) Variants.none c none) Set.univ (bodyAt0 t) (fun _ => bodyPost m c t) := by
  rcases Nat.lt_or_ge (t.val % 7) 3 with h | h
  · rcases (by omega : t.val % 7 = 0 ∨ t.val % 7 = 1 ∨ t.val % 7 = 2) with h | h | h
    · exact body_u m c t h
    · exact body_v m c t h
    · exact body_k m c t h
  · exact body_g m c t h

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (body_sound m c t) rfl .rfl fun _ => .rfl

/-! ## The run and the frame -/

set_option backward.isDefEq.respectTransparency.types false in
theorem run_all : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_all m ρ)))
    ((θ_run defs _ _).mono (fun _ h => h.2) (run_all m ρ))

end Cert.ProjIdeal.Body

end
-- ==== Proof.ProjCases.lean ====
/-
  What the projection kernel's body writes, as whole blocks: the chunks of 256 columns are one array.
-/
module

public import proofs.«01_k».proof.Proof.ProjFrame
public import proofs.«01_k».proof.Proof.ProjPayloads
public import Idealize.ShloMosaic.Lib.Pipeline.Value
public import Idealize.ShloMosaic.Lib.Pipeline.ValueKit
public import Idealize.ShloMosaic.Lib.Tactic

@[expose] public section

noncomputable section

namespace Cert.ProjIdeal.Cases

open Cert.ProjIdeal Cert.ProjIdeal.Gen Cert.ProjIdeal.Payload Cert.ProjIdeal.Body Cert.Maths
open Idealize.ShloMosaic Idealize.ShloMosaic.TcCoe Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

/-- A row of the block times a column of the weights' block. -/
def prod (h : Vec Ideal S1024x2048 .bf16) (w : Vec Ideal S1x2048x1024 .bf16) (r e : Fin 1024) : EReal :=
  ∑ k : Fin 2048, h (ix2 r k) * w (ix3 0 k e)

/-- The blocks the body leaves. -/
def uArr (h : Vec Ideal S1024x2048 .bf16) (w : Vec Ideal S1x2048x1024 .bf16) : Vec Ideal S1024x1024 .bf16 :=
  fun y => gelu (prod h w (y 0) (y 1))
def zArr (h : Vec Ideal S1024x2048 .bf16) (w : Vec Ideal S1x2048x1024 .bf16) : Vec Ideal S1024x1024 .f32 :=
  fun y => gelu (prod h w (y 0) (y 1))
def kArr (h : Vec Ideal S1024x2048 .bf16) (w : Vec Ideal S1x2048x1024 .bf16) : Vec Ideal S1024x1024 .bf16 :=
  fun y => prod h w (y 0) (y 1)
def gArr (h : Vec Ideal S1024x2048 .bf16) (w : Vec Ideal S1x2048x1024 .bf16) : Vec Ideal S1024x1024 .bf16 :=
  fun y => Ideal.logistic (prod h w (y 0) (y 1))

section Tiles
variable (h : Vec Ideal S1024x2048 .bf16) (w : Vec Ideal S1x2048x1024 .bf16) (o : ℕ)
  (iw : ∀ a, (![0, 0, o] : Fin 3 → ℕ) a + (![1, 2048, 256] : Fin 3 → ℕ) a ≤ S1x2048x1024.size a)
  (x : S1024x256.Idx) (y : S1024x1024.Idx) (h0 : (y 0).val = (x 0).val) (h1 : (y 1).val = o + (x 1).val)
include h0 h1

/-- The products of a chunk are those of its columns. -/
theorem prod_at : ∑ k, h (ix2 (x 0) k) * View.ld w (Rect.unit ![0, 0, o] ![1, 2048, 256] iw) (ix3 0 k (x 1))
    = prod h w (y 0) (y 1) := by
  have e : y 0 = x 0 := Fin.ext h0
  unfold prod
  rw [e]
  refine Finset.sum_congr rfl fun k _ => congrArg₂ (· * ·) rfl ?_
  exact View.ld_unit_apply_of w _ _ _ _ _ fun a => by
    match a with
    | ⟨0, _⟩ => rfl
    | ⟨1, _⟩ => exact (Nat.zero_add _).symm
    | ⟨2, _⟩ => exact h1

theorem u_tile : k0_pay1 (F := Ideal) (k0_pay5 h (View.ld w (Rect.unit ![0, 0, o] ![1, 2048, 256] iw))) x = uArr h w y := by
  refine (congrArg _ (ValueIdx.eq_ix2 x)).trans ((u_apply _ _ _ _).trans (congrArg gelu ?_))
  exact prod_at h w o iw x y h0 h1

theorem z_tile : k0_pay18 (F := Ideal) (k0_pay5 h (View.ld w (Rect.unit ![0, 0, o] ![1, 2048, 256] iw))) x = zArr h w y := by
  refine (congrArg _ (ValueIdx.eq_ix2 x)).trans ((v_apply _ _ _ _).trans (congrArg gelu ?_))
  exact prod_at h w o iw x y h0 h1

theorem k_tile : k0_pay21 (F := Ideal) h (View.ld w (Rect.unit ![0, 0, o] ![1, 2048, 256] iw)) x = kArr h w y := by
  refine (congrArg _ (ValueIdx.eq_ix2 x)).trans ((k_apply _ _ _ _).trans ?_)
  exact prod_at h w o iw x y h0 h1

theorem g_tile : k0_pay25 (F := Ideal) h (View.ld w (Rect.unit ![0, 0, o] ![1, 2048, 256] iw)) x = gArr h w y := by
  refine (congrArg _ (ValueIdx.eq_ix2 x)).trans ((g_apply _ _ _ _).trans (congrArg Ideal.logistic ?_))
  exact prod_at h w o iw x y h0 h1

end Tiles

/-- Stores that leave the array `w` read back whole are `w`. -/
theorem readCov_all (w : Vec Ideal S1024x1024 .f32) (v : View sig .tc .vmem S1024x1024 .f32)
    (L : List (View.Piece (Elt Ideal) S1024x1024 .f32))
    (inb : ∀ a, (![0, 0] : Fin 2 → ℕ) a + (![1024, 1024] : Fin 2 → ℕ) a ≤ S1024x1024.size a)
    (h : ∀ y, View.canon L y = w y) :
    v.readCov L (Rect.unit (s := S1024x1024) ![0, 0] ![1024, 1024] inb).toLoadRect = w := by
  rw [View.readCov_eq_canon']
  refine (View.ld_unit_zero (S := S1024x1024) hz2 inb (View.canon L)).trans (funext h)

variable (c : Dev nD) (i : grid0.Coords)
  (arg2 : Memref sig .tc .vmem S1024x2048 .bf16) (harg2 : arg2.IsWhole)
  (arg3 : Memref sig .tc .vmem S1x2048x1024 .bf16) (harg3 : arg3.IsWhole)
  (arg4 : Memref sig .tc .vmem S1x2048x64 .bf16) (harg4 : arg4.IsWhole)
  (arg5 : Memref sig .tc .vmem S1x2048x1024 .bf16) (harg5 : arg5.IsWhole)
  (arg6 : Memref sig .tc .vmem S1x1024 .f32) (harg6 : arg6.IsWhole)
  (arg7 : Memref sig .tc .vmem S1x1024 .f32) (harg7 : arg7.IsWhole)
  (arg8 : Memref sig .tc .vmem S1024x1024 .bf16) (harg8 : arg8.IsWhole)
  (arg9 : Memref sig .tc .vmem S1024x1024 .bf16) (harg9 : arg9.IsWhole)
  (arg10 : Memref sig .tc .vmem S1024x1024 .bf16) (harg10 : arg10.IsWhole)
  (arg11 : Memref sig .tc .vmem S1024x1024 .bf16) (harg11 : arg11.IsWhole)
  (arg12 : Memref sig .tc .vmem S1024x64 .bf16) (harg12 : arg12.IsWhole)
  (arg13 : Memref sig .tc .vmem S1024x1024 .f32) (harg13 : arg13.IsWhole)
  (x0 : Vec Ideal S1024x2048 .bf16) (x1 x3 : Vec Ideal S1x2048x1024 .bf16) (x2 : Vec Ideal S1x2048x64 .bf16)
  (x4 x5 : Vec Ideal S1x1024 .f32)

theorem u_eq (h1 : k0_cond1 i = 1#1) (h2 : ¬k0_cond2 i = 1#1) (h3 : ¬k0_cond3 i = 1#1) (h4 : ¬k0_cond4 i = 1#1) :
    View.canon (runU (F := Ideal) c i arg2 harg2 arg3 harg3 arg4 harg4 arg5 harg5 arg6 harg6 arg7 harg7 arg8 harg8 arg9 harg9
      arg10 harg10 arg11 harg11 arg12 harg12 arg13 harg13 h1 h2 h3 h4 x0 x1 x2).1 = uArr x0 x1 := by
  unfold runU
  dsimp only
  sl_unfold_words
  simp only [View.readAt_eq_ld, harg2.read_unread, harg3.read_unread, View.ld_unit_zero (S := S1024x2048) hz2]
  funext y
  canon_tiles x h
  all_goals exact u_tile _ _ _ _ _ _ (by omega) (by omega)

theorem i_eq (h1 : k0_cond1 i = 1#1) (h2 : ¬k0_cond2 i = 1#1) (h3 : ¬k0_cond3 i = 1#1) (h4 : ¬k0_cond4 i = 1#1) :
    View.canon (runU (F := Ideal) c i arg2 harg2 arg3 harg3 arg4 harg4 arg5 harg5 arg6 harg6 arg7 harg7 arg8 harg8 arg9 harg9
      arg10 harg10 arg11 harg11 arg12 harg12 arg13 harg13 h1 h2 h3 h4 x0 x1 x2).2.1 = k0_pay4 x0 x2 := by
  unfold runU
  dsimp only
  sl_unfold_words
  rw [View.canon_unit_zero hz2]
  simp only [View.readAt_eq_ld, harg2.read_unread, harg4.read_unread, View.ld_unit_zero (S := S1024x2048) hz2,
    View.ld_unit_zero (S := S1x2048x64) hz3]

theorem v_eq (h1 : ¬k0_cond1 i = 1#1) (h2 : k0_cond2 i = 1#1) (h3 : ¬k0_cond3 i = 1#1) (h4 : ¬k0_cond4 i = 1#1) :
    View.canon (runV (F := Ideal) c i arg2 harg2 arg3 harg3 arg4 harg4 arg5 harg5 arg6 harg6 arg7 harg7 arg8 harg8 arg9 harg9
      arg10 harg10 arg11 harg11 arg12 harg12 arg13 harg13 h1 h2 h3 h4 x0 x1 x4 x5).1 = k0_pay3 (zArr x0 x1) x4 x5 := by
  unfold runV
  dsimp only
  sl_unfold_words
  rw [View.canon_unit_zero hz2]
  simp only [View.readAt_eq_ld, harg2.read_unread, harg3.read_unread, harg6.read_unread, harg7.read_unread,
    View.ld_unit_zero (S := S1024x2048) hz2, View.ld_unit_zero (S := S1x1024) hz2]
  rw [readCov_all (zArr x0 x1)]
  intro y
  canon_tiles x h
  all_goals exact z_tile _ _ _ _ _ _ (by omega) (by omega)

theorem k_eq (h1 : ¬k0_cond1 i = 1#1) (h2 : ¬k0_cond2 i = 1#1) (h3 : k0_cond3 i = 1#1) (h4 : ¬k0_cond4 i = 1#1) :
    View.canon (runK (F := Ideal) c i arg2 harg2 arg3 harg3 arg4 harg4 arg5 harg5 arg6 harg6 arg7 harg7 arg8 harg8 arg9 harg9
      arg10 harg10 arg11 harg11 arg12 harg12 arg13 harg13 h1 h2 h3 h4 x0 x1).1 = kArr x0 x1 := by
  unfold runK
  dsimp only
  sl_unfold_words
  simp only [View.readAt_eq_ld, harg2.read_unread, harg3.read_unread, View.ld_unit_zero (S := S1024x2048) hz2]
  funext y
  canon_tiles x h
  all_goals exact k_tile _ _ _ _ _ _ (by omega) (by omega)

theorem g_eq (h1 : ¬k0_cond1 i = 1#1) (h2 : ¬k0_cond2 i = 1#1) (h3 : ¬k0_cond3 i = 1#1) (h4 : k0_cond4 i = 1#1) :
    View.canon (runG (F := Ideal) c i arg2 harg2 arg3 harg3 arg4 harg4 arg5 harg5 arg6 harg6 arg7 harg7 arg8 harg8 arg9 harg9
      arg10 harg10 arg11 harg11 arg12 harg12 arg13 harg13 h1 h2 h3 h4 x0 x3).1 = gArr x0 x3 := by
  unfold runG
  dsimp only
  sl_unfold_words
  simp only [View.readAt_eq_ld, harg2.read_unread, harg5.read_unread, View.ld_unit_zero (S := S1024x2048) hz2]
  funext y
  canon_tiles x h
  all_goals exact g_tile _ _ _ _ _ _ (by omega) (by omega)

end Cert.ProjIdeal.Cases

end
-- ==== Proof.ProjBlocks.lean ====
/-
  The projection kernel's input blocks, read at one place of the launched arrays.
-/
module

public import proofs.«01_k».proof.Proof.ProjCases
public import Idealize.ShloMosaic.Lib.Claim
public import Idealize.ShloMosaic.Lib.StableHlo.RunRead

@[expose] public section

noncomputable section

namespace Cert.ProjIdeal.Blocks

open Cert.ProjIdeal Cert.ProjIdeal.Gen Idealize.ShloMosaic Idealize.ShloMosaic.TcCoe Idealize.SL.Sem

variable (m : (ℓ : Loc nD τ sig) → Buf (Elt Ideal) ℓ) (c : Dev nD)

/-- A launched array. -/
abbrev arg (r : Ref sig .tc) : Buf (Elt Ideal) ((c : Thread nD τ).loc r) := m ((c : Thread nD τ).loc r)

theorem index0 : ∀ t : Fin cfg0.N, win0_0.index t = ![t.val / 7, 0] := by decide +kernel
theorem index1 : ∀ t : Fin cfg0.N, win0_1.index t = ![0, 0, min (t.val % 7) 2] := by decide +kernel
theorem index2 : ∀ t : Fin cfg0.N, win0_2.index t = ![0, 0, 0] := by decide +kernel
theorem index3 : ∀ t : Fin cfg0.N, win0_3.index t = ![0, 0, t.val % 7 - 3] := by decide +kernel
theorem index4 : ∀ t : Fin cfg0.N, win0_4.index t = ![0, 0] := by decide +kernel
theorem index5 : ∀ t : Fin cfg0.N, win0_5.index t = ![0, 0] := by decide +kernel
theorem index6 : ∀ t : Fin cfg0.N, win0_6.index t = ![t.val / 7, 0] := by decide +kernel
theorem index7 : ∀ t : Fin cfg0.N, win0_7.index t = ![t.val / 7, 0] := by decide +kernel
theorem index8 : ∀ t : Fin cfg0.N, win0_8.index t = ![t.val / 7, 0] := by decide +kernel
theorem index9 : ∀ t : Fin cfg0.N, win0_9.index t = ![t.val / 7, t.val % 7 - 3] := by decide +kernel
theorem index10 : ∀ t : Fin cfg0.N, win0_10.index t = ![t.val / 7, 0] := by decide +kernel

/-- The token that row `r` of point `t`'s block is. -/
def tok (t : Fin cfg0.N) (r : Fin 1024) : Fin 16384 :=
  ⟨1024 * (t.val / 7) + r.val, by have h : t.val < 112 := Nat.lt_of_lt_of_eq t.isLt N_0; omega⟩

/-- The device's contents before the three blocks of columns are gathered. -/
abbrev before6 : Valuation τ sig (Elt Ideal) := StableHlo.upto hostOps0 (fun b => m (c, b)) 6

theorem before6_v1 (k : Fin 2048) (e : Fin 1024) :
    (before6 m c main_v1 : Vec Ideal S2x2048x1024 .bf16) (ix3 (0 : Fin 2) k e)
      = arg m c main_arg1 (ix3 (0 : Fin 2) k (⟨e.val, by omega⟩ : Fin 6224)) := by
  unfold before6 StableHlo.upto
  simp only [hostOps0, List.take_succ_cons, List.take_zero]
  entry_read
  pointwise
theorem before6_v3 (k : Fin 2048) (e : Fin 1024) :
    (before6 m c main_v3 : Vec Ideal S2x2048x1024 .bf16) (ix3 (0 : Fin 2) k e)
      = arg m c main_arg1 (ix3 (0 : Fin 2) k (⟨1024 + e.val, by omega⟩ : Fin 6224)) := by
  unfold before6 StableHlo.upto
  simp only [hostOps0, List.take_succ_cons, List.take_zero]
  entry_read
  pointwise
theorem before6_v5 (k : Fin 2048) (e : Fin 1024) :
    (before6 m c main_v5 : Vec Ideal S2x2048x1024 .bf16) (ix3 (0 : Fin 2) k e)
      = arg m c main_arg1 (ix3 (0 : Fin 2) k (⟨3072 + e.val, by omega⟩ : Fin 6224)) := by
  unfold before6 StableHlo.upto
  simp only [hostOps0, List.take_succ_cons, List.take_zero]
  entry_read
  pointwise

/-- The gathered columns are the three blocks side by side. -/
theorem V6_eq : (V m c main_v6 : Vec Ideal S2x2048x3072 .bf16)
    = concatenate S2x2048x3072 2 [⟨S2x2048x1024, (before6 m c main_v1 : Vec Ideal S2x2048x1024 .bf16)⟩,
        ⟨S2x2048x1024, (before6 m c main_v3 : Vec Ideal S2x2048x1024 .bf16)⟩,
        ⟨S2x2048x1024, (before6 m c main_v5 : Vec Ideal S2x2048x1024 .bf16)⟩]
        concatenates_S2x2048x1024_S2x2048x1024_S2x2048x1024_S2x2048x3072_d2 :=
  (StableHlo.after_last_write (i := 6) [main_v7, main_v8, main_v9, main_v10, main_v11, main_v12, main_v13, main_v14, main_v15]
    rfl rfl (by decide) (fun b => m (c, b))).trans (StableHlo.nary_result ..)

/-- Three blocks of columns side by side, read in each. -/
theorem columns (x0 x1 x2 : Vec Ideal S2x2048x1024 .bf16) (k : Fin 2048) (e : Fin 1024) (n : ℕ) (hn : n < 3) :
    concatenate S2x2048x3072 2 [⟨S2x2048x1024, x0⟩, ⟨S2x2048x1024, x1⟩, ⟨S2x2048x1024, x2⟩]
        concatenates_S2x2048x1024_S2x2048x1024_S2x2048x1024_S2x2048x3072_d2
        (ix3 (0 : Fin 2) k (⟨1024 * n + e.val, by omega⟩ : Fin 3072))
      = (![x0, x1, x2] ⟨n, hn⟩ : Vec Ideal S2x2048x1024 .bf16) (ix3 (0 : Fin 2) k e) := by
  have hi : ∀ (j : Fin 3072) (b : Fin 3), b ≠ 2 → ((ix3 (0 : Fin 2) k e : S2x2048x1024.Idx) b).val
      = ((ix3 (0 : Fin 2) k j : S2x2048x3072.Idx) b).val := fun j b hb => by
    match b with
    | ⟨0, _⟩ => rfl
    | ⟨1, _⟩ => rfl
    | ⟨2, _⟩ => exact absurd rfl hb
  match n, hn with
  | 0, _ =>
    exact concatenate_apply_piece (t := S2x2048x3072) 2 [⟨S2x2048x1024, x0⟩, ⟨S2x2048x1024, x1⟩, ⟨S2x2048x1024, x2⟩] _ _ 0 (by show 0 < 3; decide) S2x2048x1024 x0 rfl rfl 0 rfl
      (ix3 (0 : Fin 2) k e) (hi _) rfl
  | 1, _ =>
    exact concatenate_apply_piece (t := S2x2048x3072) 2 [⟨S2x2048x1024, x0⟩, ⟨S2x2048x1024, x1⟩, ⟨S2x2048x1024, x2⟩] _ _ 1 (by show 1 < 3; decide) S2x2048x1024 x1 rfl rfl 1024 rfl
      (ix3 (0 : Fin 2) k e) (hi _) rfl
  | 2, _ =>
    exact concatenate_apply_piece (t := S2x2048x3072) 2 [⟨S2x2048x1024, x0⟩, ⟨S2x2048x1024, x1⟩, ⟨S2x2048x1024, x2⟩] _ _ 2 (by show 2 < 3; decide) S2x2048x1024 x2 rfl rfl 2048 rfl
      (ix3 (0 : Fin 2) k e) (hi _) rfl

/-- So the gathered columns are columns of the matrix: the first and second thousand, and the fourth. -/
theorem V6_apply (k : Fin 2048) (e : Fin 1024) (n : ℕ) (hn : n < 3) :
    (V m c main_v6 : Vec Ideal S2x2048x3072 .bf16) (ix3 (0 : Fin 2) k (⟨1024 * n + e.val, by omega⟩ : Fin 3072))
      = arg m c main_arg1 (ix3 (0 : Fin 2) k (⟨1024 * (n + n / 2) + e.val, by omega⟩ : Fin 6224)) := by
  rw [V6_eq, columns _ _ _ k e n hn]
  match n, hn with
  | 0, _ => exact (before6_v1 m c k e).trans (congrArg (fun z => arg m c main_arg1 (ix3 (0 : Fin 2) k z)) (Fin.ext (by simp)))
  | 1, _ => exact before6_v3 m c k e
  | 2, _ => exact before6_v5 m c k e

theorem V8_apply (k : Fin 2048) (e : Fin 64) : (V m c main_v8 : Vec Ideal S2x2048x64 .bf16) (ix3 (0 : Fin 2) k e)
    = arg m c main_arg1 (ix3 (0 : Fin 2) k (⟨6144 + e.val, by omega⟩ : Fin 6224)) := by
  entry_read
  pointwise

theorem V14_apply (k : Fin 1024) : (V m c main_v14 : Vec Ideal S1x1024 .f32) (ix2 0 k) = arg m c main_arg3 (ix2 (0 : Fin 2) k) := by
  entry_read
  pointwise
theorem V15_apply (k : Fin 1024) : (V m c main_v15 : Vec Ideal S1x1024 .f32) (ix2 0 k) = arg m c main_arg4 (ix2 (0 : Fin 2) k) := by
  entry_read
  pointwise

theorem blk0_apply (t : Fin cfg0.N) (r : Fin 1024) (k : Fin 2048) :
    (iblk m c 0 t : Vec Ideal S1024x2048 .bf16) (ix2 r k) = arg m c main_arg0 (ix2 (tok t r) k) := by
  blk_simp [iblk]
  entry_read
  refine congrArg (arg m c main_arg0) (funext fun a => Fin.ext ?_)
  match a with
  | ⟨0, _⟩ => blk_simp [index0]; show _ = 1024 * (t.val / 7) + r.val; omega
  | ⟨1, _⟩ => blk_simp [index0]

theorem blk1_apply (t : Fin cfg0.N) (n : ℕ) (hn : n < 3) (ht : min (t.val % 7) 2 = n) (k : Fin 2048) (e : Fin 1024) :
    (iblk m c 1 t : Vec Ideal S1x2048x1024 .bf16) (ix3 0 k e)
      = arg m c main_arg1 (ix3 (0 : Fin 2) k (⟨1024 * (n + n / 2) + e.val, by omega⟩ : Fin 6224)) := by
  rw [← V6_apply m c k e n hn]
  blk_simp [iblk]
  refine congrArg (V m c main_v6) (funext fun a => Fin.ext ?_)
  match a with
  | ⟨0, _⟩ => blk_simp [index1]; rfl
  | ⟨1, _⟩ => blk_simp [index1]
  | ⟨2, _⟩ => blk_simp [index1, ht]; show _ = 1024 * n + e.val; omega

theorem blk2_apply (t : Fin cfg0.N) (k : Fin 2048) (e : Fin 64) : (iblk m c 2 t : Vec Ideal S1x2048x64 .bf16) (ix3 0 k e)
    = arg m c main_arg1 (ix3 (0 : Fin 2) k (⟨6144 + e.val, by omega⟩ : Fin 6224)) := by
  rw [← V8_apply]
  blk_simp [iblk]
  refine congrArg (V m c main_v8) (funext fun a => Fin.ext ?_)
  match a with
  | ⟨0, _⟩ => blk_simp [index2]; rfl
  | ⟨1, _⟩ => blk_simp [index2]
  | ⟨2, _⟩ => blk_simp [index2]

theorem blk3_apply (t : Fin cfg0.N) (k : Fin 2048) (e : Fin 1024) : (iblk m c 3 t : Vec Ideal S1x2048x1024 .bf16) (ix3 0 k e)
    = arg m c main_arg2 (ix3 (0 : Fin 2) k (⟨1024 * (t.val % 7 - 3) + e.val, by omega⟩ : Fin 4096)) := by
  blk_simp [iblk]
  entry_read
  refine congrArg (arg m c main_arg2) (funext fun a => Fin.ext ?_)
  match a with
  | ⟨0, _⟩ => blk_simp [index3]; rfl
  | ⟨1, _⟩ => blk_simp [index3]
  | ⟨2, _⟩ => blk_simp [index3]; show _ = 1024 * (t.val % 7 - 3) + e.val; omega

theorem blk4_apply (t : Fin cfg0.N) (k : Fin 1024) :
    (iblk m c 4 t : Vec Ideal S1x1024 .f32) (ix2 0 k) = arg m c main_arg3 (ix2 (0 : Fin 2) k) := by
  rw [← V14_apply]
  blk_simp [iblk]
  refine congrArg (V m c main_v14) (funext fun a => Fin.ext ?_)
  match a with
  | ⟨0, _⟩ => blk_simp [index4]
  | ⟨1, _⟩ => blk_simp [index4]

theorem blk5_apply (t : Fin cfg0.N) (k : Fin 1024) :
    (iblk m c 5 t : Vec Ideal S1x1024 .f32) (ix2 0 k) = arg m c main_arg4 (ix2 (0 : Fin 2) k) := by
  rw [← V15_apply]
  blk_simp [iblk]
  refine congrArg (V m c main_v15) (funext fun a => Fin.ext ?_)
  match a with
  | ⟨0, _⟩ => blk_simp [index5]
  | ⟨1, _⟩ => blk_simp [index5]

end Cert.ProjIdeal.Blocks

end
-- ==== Proof.ProjFold.lean ====
/-
  The projection kernel's five result arrays after the run: each is the reference's formula, entry by entry.
-/
module

public import proofs.«01_k».proof.Proof.ProjBlocks

@[expose] public section

noncomputable section

namespace Cert.ProjIdeal.Fold

open Cert.ProjIdeal Cert.ProjIdeal.Gen Cert.ProjIdeal.Body Cert.ProjIdeal.Cases Cert.ProjIdeal.Blocks Cert.ProjIdeal.Payload Cert.Maths
open Idealize.ShloMosaic Idealize.ShloMosaic.TcCoe Idealize.SL.Sem

variable (m : (ℓ : Loc nD τ sig) → Buf (Elt Ideal) ℓ) (c : Dev nD)

/-- A product of blocks is the product of the rows and columns they are cut from. -/
theorem prod_of {n : ℕ} (H : Vec Ideal S1024x2048 .bf16) (W : Vec Ideal S1x2048x1024 .bf16) (h : Arr2 16384 2048)
    (w : Arr3 2 2048 n) (R : Fin 1024 → Fin 16384) (C : Fin 1024 → Fin n) (hH : ∀ r k, H (ix2 r k) = h (ix2 (R r) k))
    (hW : ∀ k e, W (ix3 0 k e) = w (ix3 (0 : Fin 2) k (C e))) (r e : Fin 1024) : prod H W r e = proj h w (R r) (C e) := by
  rw [proj_def]
  unfold prod
  exact Finset.sum_congr rfl fun k _ => congrArg₂ (· * ·) (hH r k) (hW k e)

/-- The token of a row at any point of its row block. -/
theorem tok_pt (t : Fin cfg0.N) (j : ℕ) (hj : j < 7) (r : Fin 1024) : tok (pt (row t) j hj) r = tok t r :=
  Fin.ext (by show 1024 * ((7 * (t.val / 7) + j) / 7) + r.val = 1024 * (t.val / 7) + r.val; omega)

/-- The projections of the launched arrays. -/
abbrev P (R : Fin 16384) (e : Fin 6224) : EReal := proj (arg m c main_arg0) (arg m c main_arg1) R e

/-- The products at point `j` of a row block: columns of the `n`-th gathered block. -/
theorem prod_pt (t : Fin cfg0.N) (n : ℕ) (hn : n < 3) (ht : min (t.val % 7) 2 = n) (r e : Fin 1024) :
    prod (iblk m c 0 t) (iblk m c 1 t) r e = P m c (tok t r) (⟨1024 * (n + n / 2) + e.val, by omega⟩ : Fin 6224) :=
  prod_of (iblk m c 0 t) (iblk m c 1 t) (arg m c main_arg0) (arg m c main_arg1) (tok t)
    (fun e => (⟨1024 * (n + n / 2) + e.val, by omega⟩ : Fin 6224)) (blk0_apply m c t) (blk1_apply m c t n hn ht) r e

theorem u_apply (t : Fin cfg0.N) (r e : Fin 1024) :
    uOf m c (row t) (ix2 r e) = uResult (arg m c main_arg0) (arg m c main_arg1) (tok t r) e := by
  have h := pt_mod (row t) 0 (by decide)
  have hu : uOf m c (row t) = uArr (iblk m c 0 (pt (row t) 0 (by decide))) (iblk m c 1 (pt (row t) 0 (by decide))) := by
    unfold uOf atU
    exact u_eq ..
  rw [hu]
  show gelu (prod _ _ r e) = _
  rw [prod_pt m c _ 0 (by decide) (by rw [h]; rfl), tok_pt]
  exact congrArg (fun z => gelu (P m c (tok t r) z)) (Fin.ext (Nat.zero_add _))

theorem v_apply (t : Fin cfg0.N) (r e : Fin 1024) : vOf m c (row t) (ix2 r e)
    = vResult (arg m c main_arg0) (arg m c main_arg1) (arg m c main_arg3) (arg m c main_arg4) (tok t r) e := by
  have h := pt_mod (row t) 1 (by decide)
  have hv : vOf m c (row t) = k0_pay3 (zArr (iblk m c 0 (pt (row t) 1 (by decide))) (iblk m c 1 (pt (row t) 1 (by decide))))
      (iblk m c 4 (pt (row t) 1 (by decide))) (iblk m c 5 (pt (row t) 1 (by decide))) := by
    unfold vOf atV
    exact v_eq ..
  rw [hv]
  refine (norm_apply _ _ _ r e).trans ?_
  have hz : ∀ e : Fin 1024, zArr (iblk m c 0 (pt (row t) 1 (by decide))) (iblk m c 1 (pt (row t) 1 (by decide))) (ix2 r e)
      = gelu (P m c (tok t r) (⟨1024 + e.val, by omega⟩ : Fin 6224)) := fun e => by
    show gelu (prod _ _ r e) = _
    rw [prod_pt m c _ 1 (by decide) (by rw [h]; rfl), tok_pt]
  rw [funext hz, funext (blk4_apply m c _), funext (blk5_apply m c _)]
  rfl

theorem k_apply (t : Fin cfg0.N) (r e : Fin 1024) :
    kOf m c (row t) (ix2 r e) = kResult (arg m c main_arg0) (arg m c main_arg1) (tok t r) e := by
  have h := pt_mod (row t) 2 (by decide)
  have hk : kOf m c (row t) = kArr (iblk m c 0 (pt (row t) 2 (by decide))) (iblk m c 1 (pt (row t) 2 (by decide))) := by
    unfold kOf atK
    exact k_eq ..
  rw [hk]
  show prod _ _ r e = _
  rw [prod_pt m c _ 2 (by decide) (by rw [h]; rfl), tok_pt]
  rfl

theorem i_apply (t : Fin cfg0.N) (r : Fin 1024) (e : Fin 64) :
    iOf m c (row t) (ix2 r e) = iResult (arg m c main_arg0) (arg m c main_arg1) (tok t r) e := by
  have hi : iOf m c (row t) = k0_pay4 (iblk m c 0 (pt (row t) 0 (by decide))) (iblk m c 2 (pt (row t) 0 (by decide))) := by
    unfold iOf atU
    exact i_eq ..
  rw [hi]
  refine (Payload.i_apply _ r _ e).trans ?_
  unfold iResult
  rw [proj_def]
  refine Finset.sum_congr rfl fun k _ => congrArg₂ (fun a b : EReal => a * b) ?_ ?_
  · exact (blk0_apply m c _ r k).trans (by rw [tok_pt])
  · exact blk2_apply m c _ k e

theorem g_apply (t : Fin cfg0.N) (h : 3 ≤ t.val % 7) (r e : Fin 1024) : gOf m c t (ix2 r e)
    = gResult (arg m c main_arg0) (arg m c main_arg2) (tok t r) (⟨1024 * (t.val % 7 - 3) + e.val, by omega⟩ : Fin 4096) := by
  have hg : gOf m c t = gArr (iblk m c 0 t) (iblk m c 3 t) := by
    rw [gOf_at m c t h]
    unfold atG
    exact g_eq ..
  rw [hg]
  show Ideal.logistic (prod _ _ r e) = _
  rw [prod_of (iblk m c 0 t) (iblk m c 3 t) (arg m c main_arg0) (arg m c main_arg2) (tok t)
    (fun e => (⟨1024 * (t.val % 7 - 3) + e.val, by omega⟩ : Fin 4096)) (blk0_apply m c t) (blk3_apply m c t)]
  rfl

/-! ## The arrays -/

/-- The result arrays. -/
def U : Vec Ideal S16384x1024 .bf16 := fun y => uResult (arg m c main_arg0) (arg m c main_arg1) (y 0) (y 1)
def W : Vec Ideal S16384x1024 .bf16 := fun y =>
  vResult (arg m c main_arg0) (arg m c main_arg1) (arg m c main_arg3) (arg m c main_arg4) (y 0) (y 1)
def K : Vec Ideal S16384x1024 .bf16 := fun y => kResult (arg m c main_arg0) (arg m c main_arg1) (y 0) (y 1)
def G : Vec Ideal S16384x4096 .bf16 := fun y => gResult (arg m c main_arg0) (arg m c main_arg2) (y 0) (y 1)
def I : Vec Ideal S16384x64 .bf16 := fun y => iResult (arg m c main_arg0) (arg m c main_arg1) (y 0) (y 1)

/-- Where a block's entry lies in its array. -/
theorem emb6 (t : Fin cfg0.N) (r e : Fin 1024) : ((cfg0.win 6).blk t).view.emb (ix2 r e) = ix2 (tok t r) e := by
  funext a
  apply Fin.ext
  match a with
  | ⟨0, _⟩ => blk_simp [index6]; show _ = 1024 * (t.val / 7) + r.val; omega
  | ⟨1, _⟩ => blk_simp [index6]
theorem emb7 (t : Fin cfg0.N) (r e : Fin 1024) : ((cfg0.win 7).blk t).view.emb (ix2 r e) = ix2 (tok t r) e := by
  funext a
  apply Fin.ext
  match a with
  | ⟨0, _⟩ => blk_simp [index7]; show _ = 1024 * (t.val / 7) + r.val; omega
  | ⟨1, _⟩ => blk_simp [index7]
theorem emb8 (t : Fin cfg0.N) (r e : Fin 1024) : ((cfg0.win 8).blk t).view.emb (ix2 r e) = ix2 (tok t r) e := by
  funext a
  apply Fin.ext
  match a with
  | ⟨0, _⟩ => blk_simp [index8]; show _ = 1024 * (t.val / 7) + r.val; omega
  | ⟨1, _⟩ => blk_simp [index8]
theorem emb9 (t : Fin cfg0.N) (r e : Fin 1024) : ((cfg0.win 9).blk t).view.emb (ix2 r e)
    = ix2 (tok t r) (⟨1024 * (t.val % 7 - 3) + e.val, by omega⟩ : Fin 4096) := by
  funext a
  apply Fin.ext
  match a with
  | ⟨0, _⟩ => blk_simp [index9]; show _ = 1024 * (t.val / 7) + r.val; omega
  | ⟨1, _⟩ => blk_simp [index9]; show _ = 1024 * (t.val % 7 - 3) + e.val; omega
theorem emb10 (t : Fin cfg0.N) (r : Fin 1024) (e : Fin 64) : ((cfg0.win 10).blk t).view.emb (ix2 r e) = ix2 (tok t r) e := by
  funext a
  apply Fin.ext
  match a with
  | ⟨0, _⟩ => blk_simp [index10]; show _ = 1024 * (t.val / 7) + r.val; omega
  | ⟨1, _⟩ => blk_simp [index10]

/-- A token's last point: the one that writes its row block back. -/
def last (R : Fin 16384) : Fin cfg0.N := pt ⟨R.val / 1024, by omega⟩ 6 (by decide)
theorem last_mod (R : Fin 16384) : (last R).val % 7 = 6 := pt_mod _ 6 (by decide)
theorem tok_last (R : Fin 16384) : tok (last R) (⟨R.val % 1024, Nat.mod_lt _ (by decide)⟩ : Fin 1024) = R :=
  Fin.ext (by show 1024 * ((7 * (R.val / 1024) + 6) / 7) + R.val % 1024 = R.val; omega)

theorem array6 : (dats m 0 c).arrAt 6 cfg0.N = U m c := by
  refine Pipeline.Dat.arrAt_eq_of_cover (dats m 0 c) 6 (U m c) (fun t _ => ?_) (fun i => ?_)
  · show (cfg0.win 6).cut (grid0.coords t) ((dats m 0 c).after 6 t) = _
    rw [after6]
    funext x
    obtain ⟨r, e, rfl⟩ : ∃ (r e : Fin 1024), x = ix2 r e := ⟨_, _, ValueIdx.eq_ix2 x⟩
    refine (u_apply m c t r e).trans ?_
    show _ = U m c (((cfg0.win 6).blk t).view.emb (ix2 r e))
    rw [emb6]
    rfl
  · obtain ⟨R, e, rfl⟩ : ∃ (R : Fin 16384) (e : Fin 1024), i = ix2 R e := ⟨_, _, ValueIdx.eq_ix2 i⟩
    refine ⟨last R, (flush0_6 _).2 (last_mod R), ?_⟩
    have h := ((cfg0.win 6).blk (last R)).view.emb_mem_set (ix2 (⟨R.val % 1024, Nat.mod_lt _ (by decide)⟩ : Fin 1024) e)
    rwa [emb6, tok_last] at h

theorem array7 : (dats m 0 c).arrAt 7 cfg0.N = W m c := by
  refine Pipeline.Dat.arrAt_eq_of_cover (dats m 0 c) 7 (W m c) (fun t _ => ?_) (fun i => ?_)
  · show (cfg0.win 7).cut (grid0.coords t) ((dats m 0 c).after 7 t) = _
    rw [after7]
    funext x
    obtain ⟨r, e, rfl⟩ : ∃ (r e : Fin 1024), x = ix2 r e := ⟨_, _, ValueIdx.eq_ix2 x⟩
    refine (v_apply m c t r e).trans ?_
    show _ = W m c (((cfg0.win 7).blk t).view.emb (ix2 r e))
    rw [emb7]
    rfl
  · obtain ⟨R, e, rfl⟩ : ∃ (R : Fin 16384) (e : Fin 1024), i = ix2 R e := ⟨_, _, ValueIdx.eq_ix2 i⟩
    refine ⟨last R, (flush0_7 _).2 (last_mod R), ?_⟩
    have h := ((cfg0.win 7).blk (last R)).view.emb_mem_set (ix2 (⟨R.val % 1024, Nat.mod_lt _ (by decide)⟩ : Fin 1024) e)
    rwa [emb7, tok_last] at h

theorem array8 : (dats m 0 c).arrAt 8 cfg0.N = K m c := by
  refine Pipeline.Dat.arrAt_eq_of_cover (dats m 0 c) 8 (K m c) (fun t _ => ?_) (fun i => ?_)
  · show (cfg0.win 8).cut (grid0.coords t) ((dats m 0 c).after 8 t) = _
    rw [after8]
    funext x
    obtain ⟨r, e, rfl⟩ : ∃ (r e : Fin 1024), x = ix2 r e := ⟨_, _, ValueIdx.eq_ix2 x⟩
    refine (k_apply m c t r e).trans ?_
    show _ = K m c (((cfg0.win 8).blk t).view.emb (ix2 r e))
    rw [emb8]
    rfl
  · obtain ⟨R, e, rfl⟩ : ∃ (R : Fin 16384) (e : Fin 1024), i = ix2 R e := ⟨_, _, ValueIdx.eq_ix2 i⟩
    refine ⟨last R, (flush0_8 _).2 (last_mod R), ?_⟩
    have h := ((cfg0.win 8).blk (last R)).view.emb_mem_set (ix2 (⟨R.val % 1024, Nat.mod_lt _ (by decide)⟩ : Fin 1024) e)
    rwa [emb8, tok_last] at h

theorem array10 : (dats m 0 c).arrAt 10 cfg0.N = I m c := by
  refine Pipeline.Dat.arrAt_eq_of_cover (dats m 0 c) 10 (I m c) (fun t _ => ?_) (fun i => ?_)
  · show (cfg0.win 10).cut (grid0.coords t) ((dats m 0 c).after 10 t) = _
    rw [after10]
    funext x
    obtain ⟨r, e, rfl⟩ : ∃ (r : Fin 1024) (e : Fin 64), x = ix2 r e := ⟨_, _, ValueIdx.eq_ix2 x⟩
    refine (i_apply m c t r e).trans ?_
    show _ = I m c (((cfg0.win 10).blk t).view.emb (ix2 r e))
    rw [emb10]
    rfl
  · obtain ⟨R, e, rfl⟩ : ∃ (R : Fin 16384) (e : Fin 64), i = ix2 R e := ⟨_, _, ValueIdx.eq_ix2 i⟩
    refine ⟨last R, (flush0_10 _).2 (last_mod R), ?_⟩
    have h := ((cfg0.win 10).blk (last R)).view.emb_mem_set (ix2 (⟨R.val % 1024, Nat.mod_lt _ (by decide)⟩ : Fin 1024) e)
    rwa [emb10, tok_last] at h

/-- The point that computes a token's gate. -/
def gate (R : Fin 16384) (e : Fin 4096) : Fin cfg0.N := pt ⟨R.val / 1024, by omega⟩ (3 + e.val / 1024) (by omega)
theorem gate_mod (R : Fin 16384) (e : Fin 4096) : (gate R e).val % 7 = 3 + e.val / 1024 := pt_mod _ _ (by omega)
theorem tok_gate (R : Fin 16384) (e : Fin 4096) : tok (gate R e) (⟨R.val % 1024, Nat.mod_lt _ (by decide)⟩ : Fin 1024) = R :=
  Fin.ext (by show 1024 * ((7 * (R.val / 1024) + (3 + e.val / 1024)) / 7) + R.val % 1024 = R.val; omega)
theorem flush9 : ∀ t : Fin cfg0.N, (cfg0.win 9).flush t = true ↔ 3 ≤ t.val % 7 := by decide +kernel

theorem array9 : (dats m 0 c).arrAt 9 cfg0.N = G m c := by
  refine Pipeline.Dat.arrAt_eq_of_cover (dats m 0 c) 9 (G m c) (fun t ht => ?_) (fun i => ?_)
  · show (cfg0.win 9).cut (grid0.coords t) ((dats m 0 c).after 9 t) = _
    rw [after9]
    funext x
    obtain ⟨r, e, rfl⟩ : ∃ (r e : Fin 1024), x = ix2 r e := ⟨_, _, ValueIdx.eq_ix2 x⟩
    refine (g_apply m c t ((flush9 t).1 ht) r e).trans ?_
    show _ = G m c (((cfg0.win 9).blk t).view.emb (ix2 r e))
    rw [emb9]
    rfl
  · obtain ⟨R, e, rfl⟩ : ∃ (R : Fin 16384) (e : Fin 4096), i = ix2 R e := ⟨_, _, ValueIdx.eq_ix2 i⟩
    have hm := gate_mod R e
    refine ⟨gate R e, (flush9 _).2 (by omega), ?_⟩
    have h := ((cfg0.win 9).blk (gate R e)).view.emb_mem_set (ix2 (⟨R.val % 1024, Nat.mod_lt _ (by decide)⟩ : Fin 1024)
      (⟨e.val % 1024, Nat.mod_lt _ (by decide)⟩ : Fin 1024))
    rw [emb9, tok_gate] at h
    have he : (⟨1024 * ((gate R e).val % 7 - 3) + e.val % 1024, by omega⟩ : Fin 4096) = e := Fin.ext (by
      show 1024 * ((gate R e).val % 7 - 3) + e.val % 1024 = e.val
      omega)
    rwa [he] at h

end Cert.ProjIdeal.Fold

end
-- ==== Proof.ProjRef.lean ====
/-
  The projections' reference, read entry by entry.
-/
module

public import proofs.«01_k».proof.Proof.ProjFold
public import proofs.«01_k».proof.Proof.Gen.ProjRefIdeal.Read

@[expose] public section

noncomputable section

namespace Cert.ProjRefIdeal.Entry

open Cert.ProjRefIdeal Cert.ProjRefIdeal.Gen Cert.ProjRefIdeal.Read Cert.Maths Cert.MergeRefIdeal.Entry
open Idealize.ShloMosaic Idealize.ShloMosaic.TcCoe Idealize.SL.Sem

variable (x0 : Vec Ideal S16384x2048 .bf16) (x1 : Vec Ideal S2x2048x6224 .f32) (x2 : Vec Ideal S2x2048x4096 .f32)
  (x3 x4 : Vec Ideal S2x1024 .f32)

/-- The curve, from the operations the reference spells it with. -/
theorem gelu_ops (z : EReal) :
    FloatOps.mulf (F := Ideal) (φ := .f32) z (FloatOps.mulf (FloatOps.ofBits .f32 0x3F000000#32) (FloatOps.addf (FloatOps.ofBits .f32 0x3F800000#32)
      (FloatOps.hostUnary .tanh (FloatOps.mulf (FloatOps.ofBits .f32 0x3F4C422A#32) (FloatOps.addf z
        (FloatOps.mulf (FloatOps.ofBits .f32 0x3D372713#32) (FloatOps.mulf (FloatOps.mulf z z) z))))))) = gelu z := by
  rw [gelu_def]
  simp only [Ideal.mulf_def, Ideal.addf_def, Ideal.hostUnary_tanh_def, Ideal.ofBits_def, one_f32]

theorem weight (k : Fin 2048) (e : Fin 6224) : val_main_v2 (F := Ideal) x1 (ix2 k e) = x1 (ix3 (0 : Fin 2) k e) := by
  rw [val_main_v2_apply, val_main_v1_apply]
  refine congrArg x1 (funext fun a => Fin.ext ?_)
  match a with
  | ⟨0, _⟩ => rfl
  | ⟨1, _⟩ => show (k.val * 6224 + e.val) / 6224 % 2048 = k.val; omega
  | ⟨2, _⟩ => show (k.val * 6224 + e.val) % 6224 = e.val; omega

theorem gate_weight (k : Fin 2048) (e : Fin 4096) : val_main_v70 (F := Ideal) x2 (ix2 k e) = x2 (ix3 (0 : Fin 2) k e) := by
  rw [val_main_v70_apply, val_main_v69_apply]
  refine congrArg x2 (funext fun a => Fin.ext ?_)
  match a with
  | ⟨0, _⟩ => rfl
  | ⟨1, _⟩ => show (k.val * 4096 + e.val) / 4096 % 2048 = k.val; omega
  | ⟨2, _⟩ => show (k.val * 4096 + e.val) % 4096 = e.val; omega

/-- The two products. -/
theorem product (R : Fin 16384) (e : Fin 6224) : val_main_v3 (F := Ideal) x0 x1 (ix2 R e) = proj x0 x1 R e := by
  rw [val_main_v3_apply, proj_def]
  refine Finset.sum_congr rfl fun k _ => congrArg₂ (fun a b : EReal => a * b) ?_ ?_
  · exact at2 x0 R k rfl rfl
  · exact (at2 _ k e rfl rfl).trans (weight x1 k e)

theorem gate_product (R : Fin 16384) (e : Fin 4096) : val_main_v71 (F := Ideal) x0 x2 (ix2 R e) = proj x0 x2 R e := by
  rw [val_main_v71_apply, proj_def]
  refine Finset.sum_congr rfl fun k _ => congrArg₂ (fun a b : EReal => a * b) ?_ ?_
  · exact at2 x0 R k rfl rfl
  · exact (at2 _ k e rfl rfl).trans (gate_weight x2 k e)

theorem part_u (R : Fin 16384) (e : Fin 1024) :
    val_main_v4 (F := Ideal) x0 x1 (ix2 R e) = proj x0 x1 R (⟨e.val, by omega⟩ : Fin 6224) := by
  rw [val_main_v4_apply]
  exact (at2 _ R (⟨e.val, by omega⟩ : Fin 6224) rfl rfl).trans (product x0 x1 R _)
theorem part_v (R : Fin 16384) (e : Fin 1024) :
    val_main_v5 (F := Ideal) x0 x1 (ix2 R e) = proj x0 x1 R (⟨1024 + e.val, by omega⟩ : Fin 6224) := by
  rw [val_main_v5_apply]
  exact (at2 _ R (⟨1024 + e.val, by omega⟩ : Fin 6224) rfl rfl).trans (product x0 x1 R _)
theorem part_k (R : Fin 16384) (e : Fin 1024) :
    val_main_v7 (F := Ideal) x0 x1 (ix2 R e) = proj x0 x1 R (⟨3072 + e.val, by omega⟩ : Fin 6224) := by
  rw [val_main_v7_apply]
  exact (at2 _ R (⟨3072 + e.val, by omega⟩ : Fin 6224) rfl rfl).trans (product x0 x1 R _)
theorem part_i (R : Fin 16384) (e : Fin 64) :
    val_main_v10 (F := Ideal) x0 x1 (ix2 R e) = proj x0 x1 R (⟨6144 + e.val, by omega⟩ : Fin 6224) := by
  rw [val_main_v10_apply]
  exact (at2 _ R (⟨6144 + e.val, by omega⟩ : Fin 6224) rfl rfl).trans (product x0 x1 R _)

/-- `u`. -/
theorem result_u (R : Fin 16384) (e : Fin 1024) : val_main_v25 (F := Ideal) x0 x1 (ix2 R e) = uResult x0 x1 R e := by
  rw [val_main_v25_apply, val_main_v24_apply, val_main_v23_apply, val_main_v22_apply, val_main_cst_2_apply, val_main_v21_apply,
    val_main_v20_apply, val_main_cst_1_apply, val_main_v19_apply, val_main_v18_apply, val_main_v17_apply, val_main_cst_0_apply,
    val_main_v16_apply, val_main_v15_apply, val_main_v14_apply, val_main_cst_apply, val_main_v13_apply, val_main_v12_apply,
    part_u, gelu_ops]
  rfl

/-- `v` before its norm. -/
abbrev zrow (R : Fin 16384) (e : Fin 1024) : EReal := gelu (proj x0 x1 R (⟨1024 + e.val, by omega⟩ : Fin 6224))

theorem curve_v (R : Fin 16384) (e : Fin 1024) : val_main_v38 (F := Ideal) x0 x1 (ix2 R e) = zrow x0 x1 R e := by
  rw [val_main_v38_apply, val_main_v37_apply, val_main_v36_apply, val_main_cst_6_apply, val_main_v35_apply,
    val_main_v34_apply, val_main_cst_5_apply, val_main_v33_apply, val_main_v32_apply, val_main_v31_apply, val_main_cst_4_apply,
    val_main_v30_apply, val_main_v29_apply, val_main_v28_apply, val_main_cst_3_apply, val_main_v27_apply, val_main_v26_apply,
    part_v, gelu_ops]

/-- A sum started at the pattern of zero, over the width of a row. -/
theorem mean_ops (x : Fin 1024 → EReal) :
    FloatOps.hostDivf (F := Ideal) (φ := .f32) ((FloatOps.ofBits .f32 0x00000000#32 : Ideal .f32) + ∑ j : Fin 1024, x j)
      (FloatOps.ofBits .f32 0x44800000#32) = mean x := by
  rw [mean_def]
  simp only [Ideal.hostDivf_def, Ideal.ofBits_def, zero_f32]
  rw [zero_add]

theorem mean_v (i : S16384x1.Idx) : val_main_v46 (F := Ideal) x0 x1 i = mean (zrow x0 x1 (i 0)) := by
  rw [val_main_v46_apply, val_main_v45_apply, val_main_cst_8_apply, val_main_v44_apply, val_main_v43_apply, val_main_cst_7_apply]
  refine Eq.trans ?_ (mean_ops _)
  refine congrArg (fun s => FloatOps.hostDivf (F := Ideal) (φ := .f32) (_ + s) _) (Finset.sum_congr rfl fun e _ => ?_)
  exact (at2 _ (i 0) e rfl rfl).trans (curve_v x0 x1 (i 0) e)

theorem centred (R : Fin 16384) (e : Fin 1024) :
    val_main_v48 (F := Ideal) x0 x1 (ix2 R e) = zrow x0 x1 R e - mean (zrow x0 x1 R) := by
  rw [val_main_v48_apply, curve_v, val_main_v47_apply, mean_v]
  rfl

theorem variance (i : S16384x1.Idx) : val_main_v53 (F := Ideal) x0 x1 i
    = mean (fun e => (zrow x0 x1 (i 0) e - mean (zrow x0 x1 (i 0))) * (zrow x0 x1 (i 0) e - mean (zrow x0 x1 (i 0)))) := by
  rw [val_main_v53_apply, val_main_v52_apply, val_main_cst_10_apply, val_main_v51_apply, val_main_v50_apply, val_main_cst_9_apply]
  refine Eq.trans ?_ (mean_ops _)
  refine congrArg (fun s => FloatOps.hostDivf (F := Ideal) (φ := .f32) (_ + s) _) (Finset.sum_congr rfl fun e _ => ?_)
  refine (at2 (val_main_v49 (F := Ideal) x0 x1) (i 0) e rfl rfl).trans ?_
  exact congrArg (fun z : EReal => z * z) (centred x0 x1 (i 0) e)

theorem scale_v (R : Fin 16384) (e : Fin 1024) : val_main_v62 (F := Ideal) x3 (ix2 R e) = x3 (ix2 (0 : Fin 2) e) := by
  rw [val_main_v62_apply, val_main_v61_apply, val_main_v40_apply, val_main_v39_apply]
  refine congrArg x3 (funext fun a => Fin.ext ?_)
  match a with
  | ⟨0, _⟩ => rfl
  | ⟨1, _⟩ => show e.val % 1024 = e.val; omega
theorem shift_v (R : Fin 16384) (e : Fin 1024) : val_main_v65 (F := Ideal) x4 (ix2 R e) = x4 (ix2 (0 : Fin 2) e) :=
  scale_v x4 R e

/-- The normalised `v`. -/
theorem result_v (R : Fin 16384) (e : Fin 1024) :
    val_main_v67 (F := Ideal) x0 x1 x3 x4 (ix2 R e) = vResult x0 x1 x3 x4 R e := by
  rw [val_main_v67_apply, val_main_v66_apply, val_main_v63_apply, val_main_v60_apply, val_main_v59_apply, val_main_v58_apply,
    val_main_v57_apply, val_main_v56_apply, val_main_cst_11_apply, val_main_v55_apply, val_main_v54_apply, mean_v, variance,
    curve_v, scale_v, shift_v]
  unfold vResult
  rw [layerNorm_def]
  rfl

/-- `k`. -/
theorem result_k (R : Fin 16384) (e : Fin 1024) : val_main_v68 (F := Ideal) x0 x1 (ix2 R e) = kResult x0 x1 R e := by
  rw [val_main_v68_apply, part_k]
  rfl

/-- The gates. -/
theorem result_g (R : Fin 16384) (e : Fin 4096) : val_main_v78 (F := Ideal) x0 x2 (ix2 R e) = gResult x0 x2 R e := by
  rw [val_main_v78_apply, val_main_v77_apply, val_main_v76_apply, val_main_cst_13_apply, val_main_v75_apply, val_main_v74_apply,
    val_main_cst_12_apply, val_main_v73_apply, val_main_v72_apply, gate_product]
  unfold gResult
  rw [logistic_def]
  simp only [Ideal.hostDivf_def, Ideal.addf_def, Ideal.hostUnary_exp_def, Ideal.hostNegf_def, Ideal.ofBits_def, one_f32]
  rfl

/-- The index keys. -/
theorem result_i (R : Fin 16384) (e : Fin 64) : val_main_v79 (F := Ideal) x0 x1 (ix2 R e) = iResult x0 x1 R e := by
  rw [val_main_v79_apply, part_i]
  rfl

end Cert.ProjRefIdeal.Entry

end
-- ==== Proof.ProjClaim.lean ====
/-
  The projection claims: the kernel's frame at both readings, the reference's run, and the five equal results.
-/
module

public import proofs.«01_k».proof.Defs
public import proofs.«01_k».proof.Proof.ProjRef
public import proofs.«01_k».proof.Proof.Gen.Proj
public import Idealize.ShloMosaic.Adequacy
public import Idealize.ShloMosaic.Init
public import Idealize.ShloMosaic.Lib.Quiescent

@[expose] public section

noncomputable section

namespace Cert.Proof

open Idealize.ShloMosaic Idealize.SL.Sem

/-! ## The frames

The frame is proved for the idealized program at any reading.  The program it was made from has the same text, so its
frame follows once the two tables of bodies are seen to be equal. -/

set_option maxRecDepth 100000 in
theorem proj_bodies : Cert.Proj.defs₀ (F := Bits) = Cert.ProjIdeal.defs₀ (F := Bits) := by
  refine congrArg Defs.onTc ?_
  funext l a
  obtain ⟨l, hl⟩ := l
  cases l with
  | zero => obtain ⟨t, s⟩ := a; rfl
  | succ n => exact absurd hl (by omega)

set_option maxRecDepth 100000 in
theorem proj_defs : Cert.Proj.defs (F := Bits) = Cert.ProjIdeal.defs (F := Bits) := by
  exact congrArg (Pipeline.defs (Cert.ProjIdeal.pcfgs (F := Bits))) proj_bodies

set_option maxRecDepth 100000 in
theorem proj_rests : quiescent_Proj := fun m ρ _ => by
  have h := Cert.ProjIdeal.Body.frame (F := Bits) m ρ
  rw [← proj_defs] at h
  exact h

theorem proj_ideal_rests : quiescent_ProjIdeal := fun m ρ _ => Cert.ProjIdeal.Body.frame m ρ

theorem proj_reference_rests : quiescent_ProjRefIdeal := fun m ρ _ =>
  (θ_run Cert.ProjRefIdeal.defs _ _).mono
    (fun r h => ⟨fun c => (h c).2.2.2.2.2, sem_eq_zero_of_no_sems (by decide) r.2⟩)
    (Cert.ProjRefIdeal.Value.run (F := Ideal) m ρ)

/-! ## The results -/

/-- The kernel's run leaves the five formulas in the result arrays and every argument as it was. -/
theorem proj_kernel_run (m : (ℓ : Loc Cert.ProjIdeal.nD Cert.ProjIdeal.τ Cert.ProjIdeal.sig) → Buf (Elt Ideal) ℓ)
    (ρ : Dev Cert.ProjIdeal.nD → PrngReg) :
    θ_run (Cert.ProjIdeal.defs (F := Ideal)) (onTc (τ := Cert.ProjIdeal.τ) (Cert.ProjIdeal.main (F := Ideal)))
      ⟨m, fun _ => 0, ρ⟩ (fun r => (∀ c : Dev Cert.ProjIdeal.nD,
        r.2.mem ((c.tc : Thread Cert.ProjIdeal.nD Cert.ProjIdeal.τ).loc Cert.ProjIdeal.main_v16_0) = Cert.ProjIdeal.Fold.U m c
        ∧ r.2.mem ((c.tc : Thread Cert.ProjIdeal.nD Cert.ProjIdeal.τ).loc Cert.ProjIdeal.main_v16_1) = Cert.ProjIdeal.Fold.W m c
        ∧ r.2.mem ((c.tc : Thread Cert.ProjIdeal.nD Cert.ProjIdeal.τ).loc Cert.ProjIdeal.main_v16_2) = Cert.ProjIdeal.Fold.K m c
        ∧ r.2.mem ((c.tc : Thread Cert.ProjIdeal.nD Cert.ProjIdeal.τ).loc Cert.ProjIdeal.main_v16_3) = Cert.ProjIdeal.Fold.G m c
        ∧ r.2.mem ((c.tc : Thread Cert.ProjIdeal.nD Cert.ProjIdeal.τ).loc Cert.ProjIdeal.main_v16_4) = Cert.ProjIdeal.Fold.I m c)) :=
  (θ_run Cert.ProjIdeal.defs _ _).mono (fun _ h c =>
    ⟨((h.1 c).1 6).trans (Cert.ProjIdeal.Fold.array6 m c), ((h.1 c).1 7).trans (Cert.ProjIdeal.Fold.array7 m c),
      ((h.1 c).1 8).trans (Cert.ProjIdeal.Fold.array8 m c), ((h.1 c).1 9).trans (Cert.ProjIdeal.Fold.array9 m c),
      ((h.1 c).1 10).trans (Cert.ProjIdeal.Fold.array10 m c)⟩)
    (Cert.ProjIdeal.Body.run_all (F := Ideal) m ρ)

theorem proj_values : algebraic_ProjIdeal_ProjRefIdeal := by
  intro m ρ m' ρ' _ hagree
  refine ⟨fun c => Cert.ProjIdeal.Fold.U m c, fun c => Cert.ProjIdeal.Fold.W m c, fun c => Cert.ProjIdeal.Fold.K m c,
    fun c => Cert.ProjIdeal.Fold.G m c, fun c => Cert.ProjIdeal.Fold.I m c, ?_, ?_⟩
  · refine (θ_run Cert.ProjIdeal.defs _ _).mono (fun _ h c => ?_)
      (θ_run_and (proj_kernel_run m ρ) (Cert.ProjIdeal.Body.frame (F := Ideal) m ρ))
    obtain ⟨hu, hv, hk, hg, hi⟩ := h.1 c
    exact ⟨hu, hv, hk, hg, hi, h.2.1 c⟩
  · refine (θ_run Cert.ProjRefIdeal.defs _ _).mono (fun _ h c => ?_)
      (Cert.ProjRefIdeal.Value.run (F := Ideal) m' ρ')
    obtain ⟨a0, a1, a2, a3, a4⟩ := hagree c
    obtain ⟨hu, hv, hk, hg, hi, hargs⟩ := h c
    refine ⟨hu.trans ?_, hv.trans ?_, hk.trans ?_, hg.trans ?_, hi.trans ?_, hargs⟩
    · rw [Cert.ProjRefIdeal.Read.val_main_v25_eq, a0, a1]
      funext i
      obtain ⟨R, e, rfl⟩ : ∃ (R : Fin 16384) (e : Fin 1024), i = ix2 R e := ⟨_, _, ValueIdx.eq_ix2 i⟩
      exact Cert.ProjRefIdeal.Entry.result_u _ _ R e
    · rw [Cert.ProjRefIdeal.Read.val_main_v67_eq, a0, a1, a3, a4]
      funext i
      obtain ⟨R, e, rfl⟩ : ∃ (R : Fin 16384) (e : Fin 1024), i = ix2 R e := ⟨_, _, ValueIdx.eq_ix2 i⟩
      exact Cert.ProjRefIdeal.Entry.result_v _ _ _ _ R e
    · rw [Cert.ProjRefIdeal.Read.val_main_v68_eq, a0, a1]
      funext i
      obtain ⟨R, e, rfl⟩ : ∃ (R : Fin 16384) (e : Fin 1024), i = ix2 R e := ⟨_, _, ValueIdx.eq_ix2 i⟩
      exact Cert.ProjRefIdeal.Entry.result_k _ _ R e
    · rw [Cert.ProjRefIdeal.Read.val_main_v78_eq, a0, a2]
      funext i
      obtain ⟨R, e, rfl⟩ : ∃ (R : Fin 16384) (e : Fin 4096), i = ix2 R e := ⟨_, _, ValueIdx.eq_ix2 i⟩
      exact Cert.ProjRefIdeal.Entry.result_g _ _ R e
    · rw [Cert.ProjRefIdeal.Read.val_main_v79_eq, a0, a1]
      funext i
      obtain ⟨R, e, rfl⟩ : ∃ (R : Fin 16384) (e : Fin 64), i = ix2 R e := ⟨_, _, ValueIdx.eq_ix2 i⟩
      exact Cert.ProjRefIdeal.Entry.result_i _ _ R e

end Cert.Proof

end
-- ==== Proof.ProjTMaths.lean ====
/-
  The results of the transposed projections, entry by entry: a token's row times a column of the weight matrix, the queries
  scaled by the constant the version names.
-/
module

public import proofs.«01_k».proof.Proof.ProjClaim

@[expose] public section

noncomputable section

namespace Cert.Maths

open Idealize.ShloMosaic

/-- Token `s` of batch `b`, as a row of the activations. -/
def token (b : Fin 4) (s : Fin 4096) : Fin 16384 := ⟨4096 * b.val + s.val, by omega⟩

/-- The queries: feature `e`, token `s`. -/
def qtResult (h : Arr2 16384 2048) (w : Arr3 2 2048 6224) (b : Fin 4) (e : Fin 1024) (s : Fin 4096) : EReal :=
  proj h w (token b s) (⟨2048 + e.val, by omega⟩ : Fin 6224) * Ideal.ofBits .f32 0x3E0293EE#32
/-- `v`: block `g` of 256 tokens, feature `e`, place `r` in the block. -/
def vtResult (h : Arr2 16384 2048) (w : Arr3 2 2048 6224) (b : Fin 4) (g : Fin 16) (e : Fin 1024) (r : Fin 256) : EReal :=
  proj h w (token b (⟨256 * g.val + r.val, by omega⟩ : Fin 4096)) (⟨4096 + e.val, by omega⟩ : Fin 6224)
/-- The index queries. -/
def qitResult (h : Arr2 16384 2048) (w : Arr3 2 2048 6224) (b : Fin 4) (e : Fin 1024) (s : Fin 4096) : EReal :=
  proj h w (token b s) (⟨5120 + e.val, by omega⟩ : Fin 6224)
/-- The index weights. -/
def witResult (h : Arr2 16384 2048) (w : Arr3 2 2048 6224) (b : Fin 4) (e : Fin 16) (s : Fin 4096) : EReal :=
  proj h w (token b s) (⟨6208 + e.val, by omega⟩ : Fin 6224)

end Cert.Maths

end
-- ==== Proof.ProjTPayloads.lean ====
/-
  The transposed projection kernel's stored values, entry by entry: products of a row of weights and a token's row.
-/
module

public import proofs.«01_k».proof.Proof.Gen.ProjTIdeal.Skeleton
public import proofs.«01_k».proof.Proof.ProjTMaths
public import Idealize.ShloMosaic.Lib.Pointwise

@[expose] public section

noncomputable section

namespace Cert.ProjTIdeal.Payload

open Cert.ProjTIdeal Cert.ProjTIdeal.Gen Cert.Maths Idealize.ShloMosaic

variable (w : Vec Ideal S1x256x2048 .bf16) (h : Vec Ideal S1x1024x2048 .bf16) (q : Fin 256) (r : Fin 1024)

/-- A chunk of products, in full precision. -/
theorem product_apply : k0_pay12 (F := Ideal) w h (ix2 q r) = ∑ k, w (ix3 0 q k) * h (ix3 0 r k) := by
  unfold_payloads
  pointwise [dot_S256x2048_S1024x2048_S256x1024_1_1_0_0_n_n]

/-- A chunk of queries: scaled products. -/
theorem scaled_of (z : Vec Ideal S256x1024 .f32) :
    k0_pay1 (F := Ideal) z (ix3 0 q r) = z (ix2 q r) * Ideal.ofBits .f32 0x3E0293EE#32 := by
  unfold_payloads
  pointwise

/-- A chunk of index queries: the products. -/
theorem kept_of (z : Vec Ideal S256x1024 .f32) : k0_pay9 (F := Ideal) z (ix3 0 q r) = z (ix2 q r) := by
  unfold_payloads
  pointwise

/-- The index weights: the products. -/
theorem w_apply (w : Vec Ideal S1x16x2048 .bf16) (q : Fin 16) :
    k0_pay11 (F := Ideal) w h (ix3 0 q r) = ∑ k, w (ix3 0 q k) * h (ix3 0 r k) := by
  unfold_payloads
  pointwise [dot_S16x2048_S1024x2048_S16x1024_1_1_0_0_n_n]

/-- The four blocks of 256 tokens a chunk of `v` is stored in. -/
theorem v0_of (z : Vec Ideal S256x1024 .f32) (r : Fin 256) :
    k0_pay25 (F := Ideal) z (ix4 0 0 q r) = z (ix2 q (⟨r.val, by omega⟩ : Fin 1024)) := by
  unfold_payloads
  pointwise
theorem v1_of (z : Vec Ideal S256x1024 .f32) (r : Fin 256) :
    k0_pay26 (F := Ideal) z (ix4 0 0 q r) = z (ix2 q (⟨256 + r.val, by omega⟩ : Fin 1024)) := by
  unfold_payloads
  pointwise
theorem v2_of (z : Vec Ideal S256x1024 .f32) (r : Fin 256) :
    k0_pay27 (F := Ideal) z (ix4 0 0 q r) = z (ix2 q (⟨512 + r.val, by omega⟩ : Fin 1024)) := by
  unfold_payloads
  pointwise
theorem v3_of (z : Vec Ideal S256x1024 .f32) (r : Fin 256) :
    k0_pay33 (F := Ideal) z (ix4 0 0 q r) = z (ix2 q (⟨768 + r.val, by omega⟩ : Fin 1024)) := by
  unfold_payloads
  pointwise

end Cert.ProjTIdeal.Payload

end
-- ==== Proof.ProjTRun.lean ====
/-
  The transposed projection kernel's body, run once for each of the three things a grid point can do: compute the queries and
  the index weights, compute `v`, or compute the index queries.  Each run names the pieces the body writes, in the buffers it
  writes, and touches nothing else.
-/
module

public import proofs.«01_k».proof.Proof.Gen.ProjTIdeal.Frame
public import proofs.«01_k».proof.Proof.Gen.ProjTIdeal.Skeleton
public import proofs.«01_k».proof.Proof.ProjTPayloads
public import Idealize.ShloMosaic.Lib.Pipeline.TableIdle

@[expose] public section

set_option maxRecDepth 16384

noncomputable section

namespace Cert.ProjTIdeal.Body

open Cert.ProjTIdeal Cert.ProjTIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A whole buffer holding the pieces `L`, over whatever it held before. -/
abbrev holds (c : Dev nD) {S : Shape} {e : EltTy} (a : Memref sig .tc .vmem S e) (L : List (View.Piece (Elt F) S e)) : sProp 𝕄 :=
  iprop(∃ f, a.view.loc (c : Thread nD τ) ↦[a.view.set]{fullShare} a.view.writes (Elt F) f L)

variable (c : Dev nD) (i : grid0.Coords)
  (arg3 : Memref sig .tc .vmem S1x1024x2048 .bf16) (harg3 : arg3.IsWhole)
  (arg4 : Memref sig .tc .vmem S1x1024x2048 .bf16) (harg4 : arg4.IsWhole)
  (arg5 : Memref sig .tc .vmem S1x16x2048 .bf16) (harg5 : arg5.IsWhole)
  (arg6 : Memref sig .tc .vmem S1x1024x1024 .bf16) (harg6 : arg6.IsWhole)
  (arg7 : Memref sig .tc .vmem S1x4x1024x256 .bf16) (harg7 : arg7.IsWhole)
  (arg8 : Memref sig .tc .vmem S1x1024x1024 .bf16) (harg8 : arg8.IsWhole)
  (arg9 : Memref sig .tc .vmem S1x16x1024 .f32) (harg9 : arg9.IsWhole)

set_option maxHeartbeats 1000000 in
/-- The point that computes the queries and the index weights. -/
def runQ (h1 : k0_cond1 i = 1#1) (h2 : ¬k0_cond2 i = 1#1) (h3 : ¬k0_cond3 i = 1#1)
    (x0 x1 : Vec F S1x1024x2048 .bf16) (x2 : Vec F S1x16x2048 .bf16) :
    Σ' (L6 : List (View.Piece (Elt F) S1x1024x1024 .bf16)), { L9 : List (View.Piece (Elt F) S1x16x1024 .f32) //
      ∀ (E : Set ℕ) (K : PUnit → sProp 𝕄),
        iprop(owns (c : Thread nD τ) arg3 fullShare x0 ∗ owns (c : Thread nD τ) arg4 fullShare x1
            ∗ owns (c : Thread nD τ) arg5 fullShare x2
            ∗ (∃ d, owns (c : Thread nD τ) arg6 fullShare d) ∗ (∃ d, owns (c : Thread nD τ) arg9 fullShare d)
            ∗ (iprop(owns (c : Thread nD τ) arg3 fullShare x0 ∗ owns (c : Thread nD τ) arg4 fullShare x1
              ∗ owns (c : Thread nD τ) arg5 fullShare x2 ∗ holds c arg6 L6 ∗ holds c arg9 L9) -∗ K ⟨⟩))
          ⊢ wp frame (wpE (defs₀ (F := F)) Variants.none c none) E
              (cc0_proj_t i arg3 harg3 arg4 harg4 arg5 harg5 arg6 harg6 arg7 harg7 arg8 harg8 arg9 harg9) K } := by
  refine ⟨?_, ?_, fun E K => ?run⟩
  case run =>
    simp only [cc0_proj_t_eq_skeleton]; unfold cc0_proj_t_skel
    simp only [k0_part1_eq_skeleton]
    unfold owns holds
    iintro ⟨⟨%f0, %hf0, H0⟩, ⟨%f1, %hf1, H1⟩, ⟨%f2, %hf2, H2⟩, ⟨%d6, %f6, -, H6⟩, ⟨%d9, %f9, -, H9⟩, Hk⟩
    obtain rfl := harg3.eq_unread hf0; obtain rfl := harg4.eq_unread hf1; obtain rfl := harg5.eq_unread hf2
    sl_exec (disch := first | sl_exact h1 | sl_exact h2 | sl_exact h3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H6]; · iexists _; iexact H6
    iexists _; iexact H9

set_option maxHeartbeats 2000000 in
/-- The point that computes `v`. -/
def runV (h1 : ¬k0_cond1 i = 1#1) (h2 : k0_cond2 i = 1#1) (h3 : ¬k0_cond3 i = 1#1) (x0 x1 : Vec F S1x1024x2048 .bf16) :
    { L7 : List (View.Piece (Elt F) S1x4x1024x256 .bf16) //
      ∀ (E : Set ℕ) (K : PUnit → sProp 𝕄),
        iprop(owns (c : Thread nD τ) arg3 fullShare x0 ∗ owns (c : Thread nD τ) arg4 fullShare x1
            ∗ (∃ d, owns (c : Thread nD τ) arg7 fullShare d)
            ∗ (iprop(owns (c : Thread nD τ) arg3 fullShare x0 ∗ owns (c : Thread nD τ) arg4 fullShare x1
              ∗ holds c arg7 L7) -∗ K ⟨⟩))
          ⊢ wp frame (wpE (defs₀ (F := F)) Variants.none c none) E
              (cc0_proj_t i arg3 harg3 arg4 harg4 arg5 harg5 arg6 harg6 arg7 harg7 arg8 harg8 arg9 harg9) K } := by
  refine ⟨?_, fun E K => ?run⟩
  case run =>
    simp only [cc0_proj_t_eq_skeleton]; unfold cc0_proj_t_skel
    simp only [k0_part2_eq_skeleton, k0_part3_eq_skeleton, k0_part4_eq_skeleton]
    unfold owns holds
    iintro ⟨⟨%f0, %hf0, H0⟩, ⟨%f1, %hf1, H1⟩, ⟨%d7, %f7, -, H7⟩, Hk⟩
    obtain rfl := harg3.eq_unread hf0; obtain rfl := harg4.eq_unread hf1
    sl_exec (disch := first | sl_exact h1 | sl_exact h2 | sl_exact h3)
    sl_step
    iapply Hk
    isplitl [H0]
    · iexists _; isplitr; · ipureintro; exact harg3.read_unread _
      iexact H0
    isplitl [H1]
    · iexists _; isplitr; · ipureintro; exact harg4.read_unread _
      iexact H1
    iexists _; iexact H7

set_option maxHeartbeats 1000000 in
/-- The point that computes the index queries. -/
def runI (h1 : ¬k0_cond1 i = 1#1) (h2 : ¬k0_cond2 i = 1#1) (h3 : k0_cond3 i = 1#1) (x0 x1 : Vec F S1x1024x2048 .bf16) :
    { L8 : List (View.Piece (Elt F) S1x1024x1024 .bf16) //
      ∀ (E : Set ℕ) (K : PUnit → sProp 𝕄),
        iprop(owns (c : Thread nD τ) arg3 fullShare x0 ∗ owns (c : Thread nD τ) arg4 fullShare x1
            ∗ (∃ d, owns (c : Thread nD τ) arg8 fullShare d)
            ∗ (iprop(owns (c : Thread nD τ) arg3 fullShare x0 ∗ owns (c : Thread nD τ) arg4 fullShare x1
              ∗ holds c arg8 L8) -∗ K ⟨⟩))
          ⊢ wp frame (wpE (defs₀ (F := F)) Variants.none c none) E
              (cc0_proj_t i arg3 harg3 arg4 harg4 arg5 harg5 arg6 harg6 arg7 harg7 arg8 harg8 arg9 harg9) K } := by
  refine ⟨?_, fun E K => ?run⟩
  case run =>
    simp only [cc0_proj_t_eq_skeleton]; unfold cc0_proj_t_skel
    simp only [k0_part5_eq_skeleton]
    unfold owns holds
    iintro ⟨⟨%f0, %hf0, H0⟩, ⟨%f1, %hf1, H1⟩, ⟨%d8, %f8, -, H8⟩, Hk⟩
    obtain rfl := harg3.eq_unread hf0; obtain rfl := harg4.eq_unread hf1
    sl_exec (disch := first | sl_exact h1 | sl_exact h2 | sl_exact h3)
    sl_step
    iapply Hk
    isplitl [H0]
    · iexists _; isplitr; · ipureintro; exact harg3.read_unread _
      iexact H0
    isplitl [H1]
    · iexists _; isplitr; · ipureintro; exact harg4.read_unread _
      iexact H1
    iexists _; iexact H8

end Cert.ProjTIdeal.Body

end
-- ==== Proof.ProjTFrame.lean ====
/-
  The transposed projection kernel's frame.  A block of 1024 tokens takes three grid points: the queries and the index weights
  are written at the first, `v` at the second, the index queries at the third.  Each result's buffer is left alone until the
  token block's last point, where it is written back.
-/
module

public import proofs.«01_k».proof.Proof.ProjTRun
public import Idealize.ShloMosaic.Lib.Claim

@[expose] public section

set_option maxRecDepth 16384

noncomputable section

namespace Cert.ProjTIdeal.Body

open Cert.ProjTIdeal Cert.ProjTIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which of the three things a point does -/

theorem lt_N (t : Fin cfg0.N) : t.val < 48 := Nat.lt_of_lt_of_eq t.isLt N_0

theorem coord2 (t : Fin cfg0.N) : (grid0.coords t 2).val = t.val / 1 % 3 := Pipeline.Grid.coords_val t 2 (by decide) rfl

theorem cond1_iff (t : Fin cfg0.N) : k0_cond1 (grid0.coords t) = 1#1 ↔ t.val % 3 = 0 := by
  have ht := lt_N t; have e := coord2 t; simp only [k0_cond1, e]; word_cmp
theorem cond2_iff (t : Fin cfg0.N) : k0_cond2 (grid0.coords t) = 1#1 ↔ t.val % 3 = 1 := by
  have ht := lt_N t; have e := coord2 t; simp only [k0_cond2, e]; word_cmp
theorem cond3_iff (t : Fin cfg0.N) : k0_cond3 (grid0.coords t) = 1#1 ↔ t.val % 3 = 2 := by
  have ht := lt_N t; have e := coord2 t; simp only [k0_cond3, e]; word_cmp

/-! ## The buffers at a point -/

abbrev st0 (t : Fin cfg0.N) : Memref sig .tc .vmem S1x1024x2048 .bf16 := win0_0.stage (cfg0.slots t 0)
abbrev st1 (t : Fin cfg0.N) : Memref sig .tc .vmem S1x1024x2048 .bf16 := win0_1.stage (cfg0.slots t 1)
abbrev st2 (t : Fin cfg0.N) : Memref sig .tc .vmem S1x16x2048 .bf16 := win0_2.stage (cfg0.slots t 2)
abbrev st3 (t : Fin cfg0.N) : Memref sig .tc .vmem S1x1024x1024 .bf16 := win0_3.stage (cfg0.slots t 3)
abbrev st4 (t : Fin cfg0.N) : Memref sig .tc .vmem S1x4x1024x256 .bf16 := win0_4.stage (cfg0.slots t 4)
abbrev st5 (t : Fin cfg0.N) : Memref sig .tc .vmem S1x1024x1024 .bf16 := win0_5.stage (cfg0.slots t 5)
abbrev st6 (t : Fin cfg0.N) : Memref sig .tc .vmem S1x16x1024 .f32 := win0_6.stage (cfg0.slots t 6)

theorem hst0 (t : Fin cfg0.N) : (st0 t).IsWhole := hstage0_0 ((cfg0.slots t 0).cast nbuf0_0)
theorem hst1 (t : Fin cfg0.N) : (st1 t).IsWhole := hstage0_1 ((cfg0.slots t 1).cast nbuf0_1)
theorem hst2 (t : Fin cfg0.N) : (st2 t).IsWhole := hstage0_2 ((cfg0.slots t 2).cast nbuf0_2)
theorem hst3 (t : Fin cfg0.N) : (st3 t).IsWhole := hstage0_3 ((cfg0.slots t 3).cast nbuf0_3)
theorem hst4 (t : Fin cfg0.N) : (st4 t).IsWhole := hstage0_4 ((cfg0.slots t 4).cast nbuf0_4)
theorem hst5 (t : Fin cfg0.N) : (st5 t).IsWhole := hstage0_5 ((cfg0.slots t 5).cast nbuf0_5)
theorem hst6 (t : Fin cfg0.N) : (st6 t).IsWhole := hstage0_6 ((cfg0.slots t 6).cast nbuf0_6)

/-- A covered buffer holds the pieces' contents, whatever it held before. -/
theorem owns_of_holds (c : Dev nD) {S : Shape} {e : EltTy} (a : Memref sig .tc .vmem S e) (L : List (View.Piece (Elt F) S e))
    (h : ∀ y, ∃ p ∈ L, y ∈ p.1.set) : holds (F := F) c a L ⊢ owns (c : Thread nD τ) a fullShare (View.canon L) := by
  unfold holds owns
  iintro ⟨%f, H⟩
  iexists _; isplitr; swap; · iexact H
  ipureintro; exact View.read_writes_eq_canon _ _ _ h

/-! ## The runs at a point -/

def atQ (c : Dev nD) (t : Fin cfg0.N) (h : t.val % 3 = 0) :=
  runQ (F := F) c (grid0.coords t) (st0 t) (hst0 t) (st1 t) (hst1 t) (st2 t) (hst2 t) (st3 t) (hst3 t) (st4 t) (hst4 t) (st5 t) (hst5 t)
    (st6 t) (hst6 t) ((cond1_iff t).2 h) (fun h' => by have := (cond2_iff t).1 h'; omega)
    (fun h' => by have := (cond3_iff t).1 h'; omega) (iblk m c 0 t) (iblk m c 1 t) (iblk m c 2 t)

def atV (c : Dev nD) (t : Fin cfg0.N) (h : t.val % 3 = 1) :=
  runV (F := F) c (grid0.coords t) (st0 t) (hst0 t) (st1 t) (hst1 t) (st2 t) (hst2 t) (st3 t) (hst3 t) (st4 t) (hst4 t) (st5 t) (hst5 t)
    (st6 t) (hst6 t) (fun h' => by have := (cond1_iff t).1 h'; omega) ((cond2_iff t).2 h)
    (fun h' => by have := (cond3_iff t).1 h'; omega) (iblk m c 0 t) (iblk m c 1 t)

def atI (c : Dev nD) (t : Fin cfg0.N) (h : t.val % 3 = 2) :=
  runI (F := F) c (grid0.coords t) (st0 t) (hst0 t) (st1 t) (hst1 t) (st2 t) (hst2 t) (st3 t) (hst3 t) (st4 t) (hst4 t) (st5 t) (hst5 t)
    (st6 t) (hst6 t) (fun h' => by have := (cond1_iff t).1 h'; omega) (fun h' => by have := (cond2_iff t).1 h'; omega)
    ((cond3_iff t).2 h) (iblk m c 0 t) (iblk m c 1 t)

theorem coverQ (c : Dev nD) (t : Fin cfg0.N) (h : t.val % 3 = 0) : ∀ y, ∃ p ∈ (atQ m c t h).1, y ∈ p.1.set :=
  View.cover_of_tiledL (atQ m c t h).1 ![1, 256, 1024] (by sl_kernel_rfl)
theorem coverW (c : Dev nD) (t : Fin cfg0.N) (h : t.val % 3 = 0) : ∀ y, ∃ p ∈ (atQ m c t h).2.1, y ∈ p.1.set :=
  View.cover_of_tiledL (atQ m c t h).2.1 ![1, 16, 1024] (by sl_kernel_rfl)
theorem coverV (c : Dev nD) (t : Fin cfg0.N) (h : t.val % 3 = 1) : ∀ y, ∃ p ∈ (atV m c t h).1, y ∈ p.1.set :=
  View.cover_of_tiledL (atV m c t h).1 ![1, 1, 256, 256] (by sl_kernel_rfl)
theorem coverI (c : Dev nD) (t : Fin cfg0.N) (h : t.val % 3 = 2) : ∀ y, ∃ p ∈ (atI m c t h).1, y ∈ p.1.set :=
  View.cover_of_tiledL (atI m c t h).1 ![1, 256, 1024] (by sl_kernel_rfl)

/-! ## The token block of a point, and the points that write its results -/

def row (t : Fin cfg0.N) : Fin 16 := ⟨t.val / 3, by have := lt_N t; omega⟩
/-- Point `j` of token block `q`. -/
def pt (q : Fin 16) (j : ℕ) (hj : j < 3) : Fin cfg0.N := ⟨3 * q.val + j, by have : cfg0.N = 48 := N_0; have := q.isLt; omega⟩
theorem pt_mod (q : Fin 16) (j : ℕ) (hj : j < 3) : (pt q j hj).val % 3 = j := by show (3 * q.val + j) % 3 = j; omega

/-- What token block `q` leaves in each result. -/
def qOf (c : Dev nD) (q : Fin 16) : Vec F S1x1024x1024 .bf16 := View.canon (atQ m c (pt q 0 (by decide)) (pt_mod q 0 (by decide))).1
def wOf (c : Dev nD) (q : Fin 16) : Vec F S1x16x1024 .f32 := View.canon (atQ m c (pt q 0 (by decide)) (pt_mod q 0 (by decide))).2.1
def vOf (c : Dev nD) (q : Fin 16) : Vec F S1x4x1024x256 .bf16 := View.canon (atV m c (pt q 1 (by decide)) (pt_mod q 1 (by decide))).1
def iOf (c : Dev nD) (q : Fin 16) : Vec F S1x1024x1024 .bf16 := View.canon (atI m c (pt q 2 (by decide)) (pt_mod q 2 (by decide))).1

theorem pt_row (t : Fin cfg0.N) (j : ℕ) (hj : j < 3) (h : t.val % 3 = j) : pt (row t) j hj = t :=
  Fin.ext (show 3 * (t.val / 3) + j = t.val by omega)

theorem at_point {p : Fin cfg0.N → Prop} {α : Type} (f : (t : Fin cfg0.N) → p t → α) {t t' : Fin cfg0.N} (e : t = t') (h : p t) (h' : p t') :
    f t h = f t' h' := by
  subst e; rfl

theorem qOf_at (c : Dev nD) (t : Fin cfg0.N) (h : t.val % 3 = 0) : qOf m c (row t) = View.canon (atQ m c t h).1 :=
  at_point (fun t h => View.canon (atQ m c t h).1) (pt_row t 0 (by decide) h) _ h
theorem wOf_at (c : Dev nD) (t : Fin cfg0.N) (h : t.val % 3 = 0) : wOf m c (row t) = View.canon (atQ m c t h).2.1 :=
  at_point (fun t h => View.canon (atQ m c t h).2.1) (pt_row t 0 (by decide) h) _ h
theorem vOf_at (c : Dev nD) (t : Fin cfg0.N) (h : t.val % 3 = 1) : vOf m c (row t) = View.canon (atV m c t h).1 :=
  at_point (fun t h => View.canon (atV m c t h).1) (pt_row t 1 (by decide) h) _ h
theorem iOf_at (c : Dev nD) (t : Fin cfg0.N) (h : t.val % 3 = 2) : iOf m c (row t) = View.canon (atI m c t h).1 :=
  at_point (fun t h => View.canon (atI m c t h).1) (pt_row t 2 (by decide) h) _ h

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => qOf m c (row t)
    | ⟨4, _⟩ => vOf m c (row t)
    | ⟨5, _⟩ => iOf m c (row t)
    | ⟨6, _⟩ => wOf m c (row t)
    | ⟨_ + 7, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := rfl

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = qOf m c (row t) := by dsimp only [dats]
theorem after4 (c : Dev nD) (t : Fin cfg0.N) : (dats m 0 c).after 4 t = vOf m c (row t) := by dsimp only [dats]
theorem after5 (c : Dev nD) (t : Fin cfg0.N) : (dats m 0 c).after 5 t = iOf m c (row t) := by dsimp only [dats]
theorem after6 (c : Dev nD) (t : Fin cfg0.N) : (dats m 0 c).after 6 t = wOf m c (row t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-! ## What a point that doesn't write a result leaves in its buffer -/

theorem idle3 : ∀ t : Fin cfg0.N, t.val % 3 ≠ 0 → cfg0.idle 3 (cfg0.grid.coords t) = true := by decide +kernel
theorem idle4 : ∀ t : Fin cfg0.N, t.val % 3 ≠ 1 → cfg0.idle 4 (cfg0.grid.coords t) = true := by decide +kernel
theorem idle5 : ∀ t : Fin cfg0.N, t.val % 3 ≠ 2 → cfg0.idle 5 (cfg0.grid.coords t) = true := by decide +kernel
theorem idle6 : ∀ t : Fin cfg0.N, t.val % 3 ≠ 0 → cfg0.idle 6 (cfg0.grid.coords t) = true := by decide +kernel
theorem live3 : ∀ t : Fin cfg0.N, t.val % 3 = 0 → cfg0.idle 3 (cfg0.grid.coords t) = false := by decide +kernel
theorem live4 : ∀ t : Fin cfg0.N, t.val % 3 = 1 → cfg0.idle 4 (cfg0.grid.coords t) = false := by decide +kernel
theorem live5 : ∀ t : Fin cfg0.N, t.val % 3 = 2 → cfg0.idle 5 (cfg0.grid.coords t) = false := by decide +kernel
theorem live6 : ∀ t : Fin cfg0.N, t.val % 3 = 0 → cfg0.idle 6 (cfg0.grid.coords t) = false := by decide +kernel
theorem kept5 : ∀ t : Fin cfg0.N, t.val % 3 ≠ 2 → (cfg0.win 5).flush t = false := by decide +kernel

/-- An output written at the points `≡ j` and written back at the points `≡ 2`, its contents those of the token block: a point
    that doesn't write it leaves it as it must be left. -/
theorem pass (c : Dev nD) (w : Fin cfg0.W) (j : ℕ) (hj : j < 2) (hw : (cfg0.win w).isOut = true)
    (hclip : ∀ (i : cfg0.grid.Coords) a, (cfg0.win w).clip i a = none)
    (hi : ∀ t : Fin cfg0.N, t.val % 3 ≠ j → cfg0.idle w (cfg0.grid.coords t) = true)
    (hl : ∀ t : Fin cfg0.N, t.val % 3 = j → cfg0.idle w (cfg0.grid.coords t) = false)
    (hf : ∀ t : Fin cfg0.N, (cfg0.win w).flush t = true ↔ t.val % 3 = 2)
    (ha : ∀ t t' : Fin cfg0.N, row t = row t' → (dats m 0 c).after w t = (dats m 0 c).after w t')
    (t : Fin cfg0.N) (h : t.val % 3 ≠ j) :
    iprop(∃ d, owns (c : Thread nD τ) ((cfg0.win w).stage (cfg0.slots t w)) fullShare ((dats m 0 c).before w t d))
      ⊢ (dats m 0 c).leavesExact w t := by
  have hfr : ∀ n, n ≤ cfg0.N → cfg0.fresh w n = decide (n % 3 ≤ j) := cfg0.fresh_tab w _ rfl fun t => by
    by_cases h6 : t.val % 3 = 2
    · rw [(hf t).2 h6, Bool.true_or, decide_eq_true]; omega
    · have : (cfg0.win w).flush t = false := by rw [Bool.eq_false_iff]; exact fun e => h6 ((hf t).1 e)
      rw [this, Bool.false_or]
      by_cases hh : t.val % 3 = j
      · rw [hl t hh, Bool.false_and, decide_eq_false]; omega
      · rw [hi t hh, Bool.true_and]; exact decide_eq_decide.2 (by omega)
  by_cases h6 : t.val % 3 = 2
  · have hb : ∀ d, (dats m 0 c).before w t d = (dats m 0 c).after w t := fun d => by
      rw [(dats m 0 c).before_out_traj w hw hclip (fun t h0 _ hn => ha _ _ (by
        rw [hfr t.val (Nat.le_of_lt t.isLt)] at hn
        have := of_decide_eq_false hn
        exact Fin.ext (show t.val / 3 = (t.val - 1) / 3 by omega))) t.val t rfl d, hfr t.val (Nat.le_of_lt t.isLt),
        decide_eq_false (by omega)]
      exact ha _ _ (Fin.ext (show (t.val - 1) / 3 = t.val / 3 by omega))
    unfold Dat.leavesExact
    rw [hi t h, (hf t).2 h6]
    simp only [hb]
    iintro ⟨%d, H⟩
    iexact H
  · rw [Dat.leavesExact_idle (dats m 0 c) w t (hi t h) (by rw [Bool.eq_false_iff]; exact fun e => h6 ((hf t).1 e))]

theorem pass3 (c : Dev nD) (t : Fin cfg0.N) (h : t.val % 3 ≠ 0) :
    iprop(∃ d, owns (c : Thread nD τ) (st3 t) fullShare ((dats m 0 c).before 3 t d)) ⊢ (dats m 0 c).leavesExact 3 t :=
  pass m c 3 0 (by decide) rfl (fun _ _ => rfl) idle3 live3 flush0_3 (fun t t' e => by rw [after3, after3, e]) t h
theorem pass4 (c : Dev nD) (t : Fin cfg0.N) (h : t.val % 3 ≠ 1) :
    iprop(∃ d, owns (c : Thread nD τ) (st4 t) fullShare ((dats m 0 c).before 4 t d)) ⊢ (dats m 0 c).leavesExact 4 t :=
  pass m c 4 1 (by decide) rfl (fun _ _ => rfl) idle4 live4 flush0_4 (fun t t' e => by rw [after4, after4, e]) t h
theorem pass5 (c : Dev nD) (t : Fin cfg0.N) (h : t.val % 3 ≠ 2) :
    iprop(∃ d, owns (c : Thread nD τ) (st5 t) fullShare ((dats m 0 c).before 5 t d)) ⊢ (dats m 0 c).leavesExact 5 t := by
  rw [Dat.leavesExact_idle (dats m 0 c) 5 t (idle5 t h) (kept5 t h)]
theorem pass6 (c : Dev nD) (t : Fin cfg0.N) (h : t.val % 3 ≠ 0) :
    iprop(∃ d, owns (c : Thread nD τ) (st6 t) fullShare ((dats m 0 c).before 6 t d)) ⊢ (dats m 0 c).leavesExact 6 t :=
  pass m c 6 0 (by decide) rfl (fun _ _ => rfl) idle6 live6 flush0_6 (fun t t' e => by rw [after6, after6, e]) t h

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t)

/-- A window the point writes (or only reads) is left at its contents after the point. -/
theorem leaves_live (c : Dev nD) (w : Fin cfg0.W) (t : Fin cfg0.N) (h : cfg0.idle w (cfg0.grid.coords t) = false) :
    (dats m 0 c).leavesExact w t
      = owns (c : Thread nD τ) ((cfg0.win w).stage (cfg0.slots t w)) fullShare ((dats m 0 c).after w t) := by
  unfold Dat.leavesExact; rw [h]

theorem body_q (c : Dev nD) (t : Fin cfg0.N) (h : t.val % 3 = 0) :
    bodyPre m c t ⊢ wp frame (wpE (defs₀ (F := F)) Variants.none c none) Set.univ (bodyAt0 t) (fun _ => bodyPost m c t) := by
  unfold bodyPre bodyPost bodyAt0
  simp only [before0, before1, before2]
  rw [leaves_live m c 0 t rfl, leaves_live m c 1 t rfl, leaves_live m c 2 t rfl, leaves_live m c 3 t (live3 t h),
    leaves_live m c 6 t (live6 t h), after0, after1, after2, after3, after6, qOf_at m c t h, wOf_at m c t h]
  rw [show (dats m 0 c).owesAt () t.succ = (dats m 0 c).owesAt () t.castSucc from rfl]
  rw [show (dats m 0 c).Φ t.succ = (dats m 0 c).Φ t.castSucc from rfl]
  iintro ⟨HS, Ho, ⟨%d0, H0⟩, ⟨%d1, H1⟩, ⟨%d2, H2⟩, ⟨%d3, H3⟩, H4, H5, ⟨%d6, H6⟩⟩
  iapply ((atQ m c t h).2.2 Set.univ _)
  isplitl [H0]; · iexact H0
  isplitl [H1]; · iexact H1
  isplitl [H2]; · iexact H2
  isplitl [H3]; · iexists _; iexact H3
  isplitl [H6]; · iexists _; iexact H6
  iintro ⟨H0, H1, H2, H3, H6⟩
  isplitl [HS]; · iexact HS
  isplitl [Ho]; · iexact Ho
  isplitl [H0]; · iexact H0
  isplitl [H1]; · iexact H1
  isplitl [H2]; · iexact H2
  isplitl [H3]; · iapply (owns_of_holds c _ _ (coverQ m c t h)); iexact H3
  isplitl [H4]; · iapply (pass4 m c t (by omega)); iexact H4
  isplitl [H5]; · iapply (pass5 m c t (by omega)); iexact H5
  iapply (owns_of_holds c _ _ (coverW m c t h)); iexact H6

theorem body_v (c : Dev nD) (t : Fin cfg0.N) (h : t.val % 3 = 1) :
    bodyPre m c t ⊢ wp frame (wpE (defs₀ (F := F)) Variants.none c none) Set.univ (bodyAt0 t) (fun _ => bodyPost m c t) := by
  unfold bodyPre bodyPost bodyAt0
  simp only [before0, before1, before2]
  rw [leaves_live m c 0 t rfl, leaves_live m c 1 t rfl, leaves_live m c 2 t rfl, leaves_live m c 4 t (live4 t h),
    after0, after1, after2, after4, vOf_at m c t h]
  rw [show (dats m 0 c).owesAt () t.succ = (dats m 0 c).owesAt () t.castSucc from rfl]
  rw [show (dats m 0 c).Φ t.succ = (dats m 0 c).Φ t.castSucc from rfl]
  iintro ⟨HS, Ho, ⟨%d0, H0⟩, ⟨%d1, H1⟩, ⟨%d2, H2⟩, H3, ⟨%d4, H4⟩, H5, H6⟩
  iapply ((atV m c t h).2 Set.univ _)
  isplitl [H0]; · iexact H0
  isplitl [H1]; · iexact H1
  isplitl [H4]; · iexists _; iexact H4
  iintro ⟨H0, H1, H4⟩
  isplitl [HS]; · iexact HS
  isplitl [Ho]; · iexact Ho
  isplitl [H0]; · iexact H0
  isplitl [H1]; · iexact H1
  isplitl [H2]; · iexact H2
  isplitl [H3]; · iapply (pass3 m c t (by omega)); iexact H3
  isplitl [H4]; · iapply (owns_of_holds c _ _ (coverV m c t h)); iexact H4
  isplitl [H5]; · iapply (pass5 m c t (by omega)); iexact H5
  iapply (pass6 m c t (by omega)); iexact H6

theorem body_i (c : Dev nD) (t : Fin cfg0.N) (h : t.val % 3 = 2) :
    bodyPre m c t ⊢ wp frame (wpE (defs₀ (F := F)) Variants.none c none) Set.univ (bodyAt0 t) (fun _ => bodyPost m c t) := by
  unfold bodyPre bodyPost bodyAt0
  simp only [before0, before1, before2]
  rw [leaves_live m c 0 t rfl, leaves_live m c 1 t rfl, leaves_live m c 2 t rfl, leaves_live m c 5 t (live5 t h),
    after0, after1, after2, after5, iOf_at m c t h]
  rw [show (dats m 0 c).owesAt () t.succ = (dats m 0 c).owesAt () t.castSucc from rfl]
  rw [show (dats m 0 c).Φ t.succ = (dats m 0 c).Φ t.castSucc from rfl]
  iintro ⟨HS, Ho, ⟨%d0, H0⟩, ⟨%d1, H1⟩, ⟨%d2, H2⟩, H3, H4, ⟨%d5, H5⟩, H6⟩
  iapply ((atI m c t h).2 Set.univ _)
  isplitl [H0]; · iexact H0
  isplitl [H1]; · iexact H1
  isplitl [H5]; · iexists _; iexact H5
  iintro ⟨H0, H1, H5⟩
  isplitl [HS]; · iexact HS
  isplitl [Ho]; · iexact Ho
  isplitl [H0]; · iexact H0
  isplitl [H1]; · iexact H1
  isplitl [H2]; · iexact H2
  isplitl [H3]; · iapply (pass3 m c t (by omega)); iexact H3
  isplitl [H4]; · iapply (pass4 m c t (by omega)); iexact H4
  isplitl [H5]; · iapply (owns_of_holds c _ _ (coverI m c t h)); iexact H5
  iapply (pass6 m c t (by omega)); iexact H6

theorem body_sound (c : Dev nD) (t : Fin cfg0.N) :
    bodyPre m c t ⊢ wp frame (wpE (defs₀ (F := F)) Variants.none c none) Set.univ (bodyAt0 t) (fun _ => bodyPost m c t) := by
  rcases (by omega : t.val % 3 = 0 ∨ t.val % 3 = 1 ∨ t.val % 3 = 2) with h | h | h
  · exact body_q m c t h
  · exact body_v m c t h
  · exact body_i m c t h

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (body_sound m c t) rfl .rfl fun _ => .rfl

/-! ## The run and the frame -/

set_option backward.isDefEq.respectTransparency.types false in
theorem run_all : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_all m ρ)))
    ((θ_run defs _ _).mono (fun _ h => h.2) (run_all m ρ))

end Cert.ProjTIdeal.Body

end
-- ==== Proof.ProjTCases.lean ====
/-
  What the transposed projection kernel's body writes, as whole blocks: the chunks of 256 features are one array.
-/
module

public import proofs.«01_k».proof.Proof.ProjTFrame
public import Idealize.ShloMosaic.Lib.Pipeline.Value
public import Idealize.ShloMosaic.Lib.Pipeline.ValueKit
public import Idealize.ShloMosaic.Lib.Tactic

@[expose] public section

noncomputable section

namespace Cert.ProjTIdeal.Cases

open Cert.ProjTIdeal Cert.ProjTIdeal.Gen Cert.ProjTIdeal.Payload Cert.ProjTIdeal.Body Cert.Maths
open Idealize.ShloMosaic Idealize.ShloMosaic.TcCoe Idealize.SL.Sem

theorem hz3 : (![0, 0, 0] : Fin 3 → Nat) = fun _ => 0 := funext fun a => by fin_cases a <;> rfl

/-- A token's row of the block times a row of the transposed weights' block. -/
def prod (h w : Vec Ideal S1x1024x2048 .bf16) (r e : Fin 1024) : EReal :=
  ∑ k : Fin 2048, h (ix3 0 r k) * w (ix3 0 e k)

/-- The place of a token among the block's, from its block of 256 and its place there. -/
def place (g : Fin 4) (r : Fin 256) : Fin 1024 := ⟨256 * g.val + r.val, by omega⟩

/-- The blocks the body leaves. -/
def qArr (h w : Vec Ideal S1x1024x2048 .bf16) : Vec Ideal S1x1024x1024 .bf16 :=
  fun y => prod h w (y 2) (y 1) * Ideal.ofBits .f32 0x3E0293EE#32
def vArr (h w : Vec Ideal S1x1024x2048 .bf16) : Vec Ideal S1x4x1024x256 .bf16 :=
  fun y => prod h w (place (y 1) (y 3)) (y 2)
def iArr (h w : Vec Ideal S1x1024x2048 .bf16) : Vec Ideal S1x1024x1024 .bf16 :=
  fun y => prod h w (y 2) (y 1)

section Tiles
variable (h w : Vec Ideal S1x1024x2048 .bf16) (o : ℕ)
  (iw : ∀ a, (![0, o, 0] : Fin 3 → ℕ) a + (![1, 256, 2048] : Fin 3 → ℕ) a ≤ S1x1024x2048.size a)

/-- The products of a chunk are those of its features. -/
theorem prod_at (q : Fin 256) (r r' e : Fin 1024) (he : e.val = o + q.val) (hr : r'.val = r.val) :
    k0_pay12 (F := Ideal) (View.ld w (Rect.unit ![0, o, 0] ![1, 256, 2048] iw)) h (ix2 q r) = prod h w r' e := by
  obtain rfl : r' = r := Fin.ext hr
  rw [product_apply]
  unfold prod
  refine Finset.sum_congr rfl fun k _ => (mul_comm _ _).trans (congrArg₂ (fun a b : EReal => a * b) rfl ?_)
  exact View.ld_unit_apply_of w _ _ _ _ _ fun a => by
    match a with
    | ⟨0, _⟩ => rfl
    | ⟨1, _⟩ => exact he
    | ⟨2, _⟩ => exact (Nat.zero_add _).symm

section Chunks
variable (x : S1x256x1024.Idx) (y : S1x1024x1024.Idx) (h1 : (y 1).val = o + (x 1).val) (h2 : (y 2).val = (x 2).val)
include h1 h2

/-- An index of a chunk, its leading coordinate being zero. -/
theorem chunk_idx : x = ix3 (0 : Fin 1) (x 1 : Fin 256) (x 2 : Fin 1024) :=
  (ValueIdx.eq_ix3 x).trans (congrArg (fun z : Fin 1 => ix3 z (x 1 : Fin 256) (x 2 : Fin 1024)) (Subsingleton.elim (α := Fin 1) _ _))

theorem q_tile : k0_pay1 (F := Ideal) (k0_pay12 (View.ld w (Rect.unit ![0, o, 0] ![1, 256, 2048] iw)) h) x = qArr h w y := by
  rw [chunk_idx o x y h1 h2]
  refine (scaled_of _ _ _).trans (congrArg (fun z : EReal => z * Ideal.ofBits .f32 0x3E0293EE#32) ?_)
  exact prod_at h w o iw _ _ _ _ h1 h2

theorem i_tile : k0_pay9 (F := Ideal) (k0_pay12 (View.ld w (Rect.unit ![0, o, 0] ![1, 256, 2048] iw)) h) x = iArr h w y := by
  rw [chunk_idx o x y h1 h2]
  refine (kept_of _ _ _).trans ?_
  exact prod_at h w o iw _ _ _ _ h1 h2

end Chunks

section Blocks
variable (x : S1x1x256x256.Idx) (y : S1x4x1024x256.Idx) (g : ℕ) (h1 : (y 1).val = g + (x 1).val)
  (h2 : (y 2).val = o + (x 2).val) (h3 : (y 3).val = (x 3).val)
include h1 h2 h3

theorem block_idx : x = ix4 (0 : Fin 1) (0 : Fin 1) (x 2 : Fin 256) (x 3 : Fin 256) :=
  (ValueIdx.eq_ix4 x).trans (congrArg₂ (fun z z' : Fin 1 => ix4 z z' (x 2 : Fin 256) (x 3 : Fin 256))
    (Subsingleton.elim (α := Fin 1) _ _) (Subsingleton.elim (α := Fin 1) _ _))

/-- The token of an entry of token block `g`. -/
theorem place_val : (place (y 1) (y 3)).val = 256 * g + (x 3).val := by
  have h : (x 1).val < 1 := (x 1).isLt
  show 256 * (y 1).val + (y 3).val = _
  omega

theorem v0_tile (hg : g = 0) : k0_pay25 (F := Ideal) (k0_pay12 (View.ld w (Rect.unit ![0, o, 0] ![1, 256, 2048] iw)) h) x
    = vArr h w y := by
  have hp := place_val o x y g h1 h2 h3
  subst hg
  rw [block_idx o x y 0 h1 h2 h3]
  refine (v0_of _ _ _).trans ?_
  exact prod_at h w o iw _ _ _ _ h2 (hp.trans (by show 256 * 0 + (x 3).val = (x 3).val; omega))
theorem v1_tile (hg : g = 1) : k0_pay26 (F := Ideal) (k0_pay12 (View.ld w (Rect.unit ![0, o, 0] ![1, 256, 2048] iw)) h) x
    = vArr h w y := by
  have hp := place_val o x y g h1 h2 h3
  subst hg
  rw [block_idx o x y 1 h1 h2 h3]
  refine (v1_of _ _ _).trans ?_
  exact prod_at h w o iw _ _ _ _ h2 hp
theorem v2_tile (hg : g = 2) : k0_pay27 (F := Ideal) (k0_pay12 (View.ld w (Rect.unit ![0, o, 0] ![1, 256, 2048] iw)) h) x
    = vArr h w y := by
  have hp := place_val o x y g h1 h2 h3
  subst hg
  rw [block_idx o x y 2 h1 h2 h3]
  refine (v2_of _ _ _).trans ?_
  exact prod_at h w o iw _ _ _ _ h2 hp
theorem v3_tile (hg : g = 3) : k0_pay33 (F := Ideal) (k0_pay12 (View.ld w (Rect.unit ![0, o, 0] ![1, 256, 2048] iw)) h) x
    = vArr h w y := by
  have hp := place_val o x y g h1 h2 h3
  subst hg
  rw [block_idx o x y 3 h1 h2 h3]
  refine (v3_of _ _ _).trans ?_
  exact prod_at h w o iw _ _ _ _ h2 hp

end Blocks

end Tiles

variable (c : Dev nD) (i : grid0.Coords)
  (arg3 : Memref sig .tc .vmem S1x1024x2048 .bf16) (harg3 : arg3.IsWhole)
  (arg4 : Memref sig .tc .vmem S1x1024x2048 .bf16) (harg4 : arg4.IsWhole)
  (arg5 : Memref sig .tc .vmem S1x16x2048 .bf16) (harg5 : arg5.IsWhole)
  (arg6 : Memref sig .tc .vmem S1x1024x1024 .bf16) (harg6 : arg6.IsWhole)
  (arg7 : Memref sig .tc .vmem S1x4x1024x256 .bf16) (harg7 : arg7.IsWhole)
  (arg8 : Memref sig .tc .vmem S1x1024x1024 .bf16) (harg8 : arg8.IsWhole)
  (arg9 : Memref sig .tc .vmem S1x16x1024 .f32) (harg9 : arg9.IsWhole)
  (x0 x1 : Vec Ideal S1x1024x2048 .bf16) (x2 : Vec Ideal S1x16x2048 .bf16)

theorem q_eq (h1 : k0_cond1 i = 1#1) (h2 : ¬k0_cond2 i = 1#1) (h3 : ¬k0_cond3 i = 1#1) :
    View.canon (runQ (F := Ideal) c i arg3 harg3 arg4 harg4 arg5 harg5 arg6 harg6 arg7 harg7 arg8 harg8 arg9 harg9
      h1 h2 h3 x0 x1 x2).1 = qArr x0 x1 := by
  unfold runQ
  dsimp only
  sl_unfold_words
  simp only [View.readAt_eq_ld, harg3.read_unread, harg4.read_unread, View.ld_unit_zero (S := S1x1024x2048) hz3]
  funext y
  canon_tiles x h
  all_goals exact q_tile _ _ _ _ _ _ (by omega) (by omega)

theorem w_eq (h1 : k0_cond1 i = 1#1) (h2 : ¬k0_cond2 i = 1#1) (h3 : ¬k0_cond3 i = 1#1) :
    View.canon (runQ (F := Ideal) c i arg3 harg3 arg4 harg4 arg5 harg5 arg6 harg6 arg7 harg7 arg8 harg8 arg9 harg9
      h1 h2 h3 x0 x1 x2).2.1 = k0_pay11 x2 x0 := by
  unfold runQ
  dsimp only
  sl_unfold_words
  rw [View.canon_unit_zero hz3]
  simp only [View.readAt_eq_ld, harg3.read_unread, harg5.read_unread, View.ld_unit_zero (S := S1x1024x2048) hz3,
    View.ld_unit_zero (S := S1x16x2048) hz3]

theorem i_eq (h1 : ¬k0_cond1 i = 1#1) (h2 : ¬k0_cond2 i = 1#1) (h3 : k0_cond3 i = 1#1) :
    View.canon (runI (F := Ideal) c i arg3 harg3 arg4 harg4 arg5 harg5 arg6 harg6 arg7 harg7 arg8 harg8 arg9 harg9
      h1 h2 h3 x0 x1).1 = iArr x0 x1 := by
  unfold runI
  dsimp only
  sl_unfold_words
  simp only [View.readAt_eq_ld, harg3.read_unread, harg4.read_unread, View.ld_unit_zero (S := S1x1024x2048) hz3]
  funext y
  canon_tiles x h
  all_goals exact i_tile _ _ _ _ _ _ (by omega) (by omega)

theorem v_eq (h1 : ¬k0_cond1 i = 1#1) (h2 : k0_cond2 i = 1#1) (h3 : ¬k0_cond3 i = 1#1) :
    View.canon (runV (F := Ideal) c i arg3 harg3 arg4 harg4 arg5 harg5 arg6 harg6 arg7 harg7 arg8 harg8 arg9 harg9
      h1 h2 h3 x0 x1).1 = vArr x0 x1 := by
  unfold runV
  dsimp only
  sl_unfold_words
  simp only [View.readAt_eq_ld, harg3.read_unread, harg4.read_unread, View.ld_unit_zero (S := S1x1024x2048) hz3]
  funext y
  canon_tiles x h
  case piece0 | piece4 | piece8 | piece12 =>
    exact v3_tile _ _ _ _ _ _ 3 (by omega) (by omega) (by omega) rfl
  case piece1 | piece5 | piece9 | piece13 =>
    exact v2_tile _ _ _ _ _ _ 2 (by omega) (by omega) (by omega) rfl
  case piece2 | piece6 | piece10 | piece14 =>
    exact v1_tile _ _ _ _ _ _ 1 (by omega) (by omega) (by omega) rfl
  case piece3 | piece7 | piece11 | piece15 =>
    exact v0_tile _ _ _ _ _ _ 0 (by omega) (by omega) (by omega) rfl

end Cert.ProjTIdeal.Cases

end
-- ==== Proof.ProjTBlocks.lean ====
/-
  The transposed projection kernel's input blocks, read at one place of the launched arrays.
-/
module

public import proofs.«01_k».proof.Proof.ProjTCases
public import Idealize.ShloMosaic.Lib.Claim
public import Idealize.ShloMosaic.Lib.StableHlo.RunRead

@[expose] public section

noncomputable section

namespace Cert.ProjTIdeal.Blocks

open Cert.ProjTIdeal Cert.ProjTIdeal.Gen Cert.Maths Idealize.ShloMosaic Idealize.ShloMosaic.TcCoe Idealize.SL.Sem

variable (m : (ℓ : Loc nD τ sig) → Buf (Elt Ideal) ℓ) (c : Dev nD)

/-- A launched array. -/
abbrev arg (r : Ref sig .tc) : Buf (Elt Ideal) ((c : Thread nD τ).loc r) := m ((c : Thread nD τ).loc r)

theorem index0 : ∀ t : Fin cfg0.N, win0_0.index t = ![t.val / 12, t.val / 3 % 4, 0] := by decide +kernel
theorem index1 : ∀ t : Fin cfg0.N, win0_1.index t = ![0, t.val % 3, 0] := by decide +kernel
theorem index2 : ∀ t : Fin cfg0.N, win0_2.index t = ![0, 0, 0] := by decide +kernel
theorem index3 : ∀ t : Fin cfg0.N, win0_3.index t = ![t.val / 12, 0, t.val / 3 % 4] := by decide +kernel
theorem index4 : ∀ t : Fin cfg0.N, win0_4.index t = ![t.val / 12, t.val / 3 % 4, 0, 0] := by decide +kernel
theorem index5 : ∀ t : Fin cfg0.N, win0_5.index t = ![t.val / 12, 0, t.val / 3 % 4] := by decide +kernel
theorem index6 : ∀ t : Fin cfg0.N, win0_6.index t = ![t.val / 12, 0, t.val / 3 % 4] := by decide +kernel

/-- The batch of point `t`'s tokens, and the place in it of the block's token `r`. -/
def batch (t : Fin cfg0.N) : Fin 4 := ⟨t.val / 12, by have h : t.val < 48 := Nat.lt_of_lt_of_eq t.isLt N_0; omega⟩
def spot (t : Fin cfg0.N) (r : Fin 1024) : Fin 4096 := ⟨1024 * (t.val / 3 % 4) + r.val, by omega⟩

/-- The device's contents before the three blocks of columns are gathered. -/
abbrev before6 : Valuation τ sig (Elt Ideal) := StableHlo.upto hostOps0 (fun b => m (c, b)) 6

theorem before6_v1 (k : Fin 2048) (e : Fin 1024) :
    (before6 m c main_v1 : Vec Ideal S2x2048x1024 .bf16) (ix3 (0 : Fin 2) k e)
      = arg m c main_arg1 (ix3 (0 : Fin 2) k (⟨2048 + e.val, by omega⟩ : Fin 6224)) := by
  unfold before6 StableHlo.upto
  simp only [hostOps0, List.take_succ_cons, List.take_zero]
  entry_read
  pointwise
theorem before6_v3 (k : Fin 2048) (e : Fin 1024) :
    (before6 m c main_v3 : Vec Ideal S2x2048x1024 .bf16) (ix3 (0 : Fin 2) k e)
      = arg m c main_arg1 (ix3 (0 : Fin 2) k (⟨4096 + e.val, by omega⟩ : Fin 6224)) := by
  unfold before6 StableHlo.upto
  simp only [hostOps0, List.take_succ_cons, List.take_zero]
  entry_read
  pointwise
theorem before6_v5 (k : Fin 2048) (e : Fin 1024) :
    (before6 m c main_v5 : Vec Ideal S2x2048x1024 .bf16) (ix3 (0 : Fin 2) k e)
      = arg m c main_arg1 (ix3 (0 : Fin 2) k (⟨5120 + e.val, by omega⟩ : Fin 6224)) := by
  unfold before6 StableHlo.upto
  simp only [hostOps0, List.take_succ_cons, List.take_zero]
  entry_read
  pointwise

/-- Three blocks of columns side by side. -/
abbrev gathered (x0 x1 x2 : Vec Ideal S2x2048x1024 .bf16) : Vec Ideal S2x2048x3072 .bf16 :=
  concatenate S2x2048x3072 2 [⟨S2x2048x1024, x0⟩, ⟨S2x2048x1024, x1⟩, ⟨S2x2048x1024, x2⟩]
    concatenates_S2x2048x1024_S2x2048x1024_S2x2048x1024_S2x2048x3072_d2

/-- Read in each block; -/
theorem gathered_apply (x0 x1 x2 : Vec Ideal S2x2048x1024 .bf16) (k : Fin 2048) (e : Fin 1024) (n : ℕ) (hn : n < 3) :
    gathered x0 x1 x2 (ix3 (0 : Fin 2) k (⟨1024 * n + e.val, by omega⟩ : Fin 3072))
      = (![x0, x1, x2] ⟨n, hn⟩ : Vec Ideal S2x2048x1024 .bf16) (ix3 (0 : Fin 2) k e) :=
  Cert.ProjIdeal.Blocks.columns x0 x1 x2 k e n hn

/-- the launched weights are these, transposed. -/
theorem V7_eq : (V m c main_v7 : Vec Ideal S2x3072x2048 .bf16)
    = transpose S2x3072x2048 [0, 2, 1] (gathered (before6 m c main_v1) (before6 m c main_v3) (before6 m c main_v5))
        transposes_S2x2048x3072_S2x3072x2048_0_2_1 := by
  refine (StableHlo.after_last_write (i := 7) [main_v8, main_v9, main_v10, main_v11] rfl rfl (by decide)
    (fun b => m (c, b))).trans ((StableHlo.unary_result ..).trans ?_)
  refine congrArg (fun z => transpose S2x3072x2048 [0, 2, 1] z transposes_S2x2048x3072_S2x3072x2048_0_2_1) ?_
  exact (StableHlo.after_last_write (ops := hostOps0.take 7) (i := 6) [] rfl rfl (by decide) (fun b => m (c, b))).trans
    (StableHlo.nary_result ..)

theorem V7_apply (e : Fin 1024) (k : Fin 2048) (n : ℕ) (hn : n < 3) :
    (V m c main_v7 : Vec Ideal S2x3072x2048 .bf16) (ix3 (0 : Fin 2) (⟨1024 * n + e.val, by omega⟩ : Fin 3072) k)
      = arg m c main_arg1 (ix3 (0 : Fin 2) k (⟨1024 * (2 + n + (n + 1) / 2) + e.val, by omega⟩ : Fin 6224)) := by
  rw [V7_eq]
  refine Eq.trans ?_ ((gathered_apply (before6 m c main_v1) (before6 m c main_v3) (before6 m c main_v5) k e n hn).trans ?_)
  · pointwise
  · match n, hn with
    | 0, _ => exact before6_v1 m c k e
    | 1, _ => exact before6_v3 m c k e
    | 2, _ => exact before6_v5 m c k e

theorem V10_apply (e : Fin 16) (k : Fin 2048) : (V m c main_v10 : Vec Ideal S2x16x2048 .bf16) (ix3 (0 : Fin 2) e k)
    = arg m c main_arg1 (ix3 (0 : Fin 2) k (⟨6208 + e.val, by omega⟩ : Fin 6224)) := by
  entry_read
  pointwise

theorem V11_apply (b : Fin 4) (s : Fin 4096) (k : Fin 2048) : (V m c main_v11 : Vec Ideal S4x4096x2048 .bf16) (ix3 b s k)
    = arg m c main_arg0 (ix2 (token b s) k) := by
  entry_read
  pointwise
  refine congrArg (fun z => arg m c main_arg0 (ix2 z k)) (Fin.ext ?_)
  show b.val * 4096 + s.val = 4096 * b.val + s.val
  omega

theorem blk0_apply (t : Fin cfg0.N) (r : Fin 1024) (k : Fin 2048) : (iblk m c 0 t : Vec Ideal S1x1024x2048 .bf16) (ix3 0 r k)
    = arg m c main_arg0 (ix2 (token (batch t) (spot t r)) k) := by
  rw [← V11_apply]
  blk_simp [iblk]
  refine congrArg (V m c main_v11) (funext fun a => Fin.ext ?_)
  match a with
  | ⟨0, _⟩ => blk_simp [index0]; show _ = t.val / 12; rfl
  | ⟨1, _⟩ => blk_simp [index0]; show _ = 1024 * (t.val / 3 % 4) + r.val; omega
  | ⟨2, _⟩ => blk_simp [index0]

/-- Point `j` of a token block takes the `j`-th block of columns: those of the queries, of `v`, and of the index queries. -/
theorem blk1_apply (t : Fin cfg0.N) (n : ℕ) (hn : n < 3) (ht : t.val % 3 = n) (e : Fin 1024) (k : Fin 2048) :
    (iblk m c 1 t : Vec Ideal S1x1024x2048 .bf16) (ix3 0 e k)
      = arg m c main_arg1 (ix3 (0 : Fin 2) k (⟨1024 * (2 + n + (n + 1) / 2) + e.val, by omega⟩ : Fin 6224)) := by
  rw [← V7_apply m c e k n hn]
  blk_simp [iblk]
  refine congrArg (V m c main_v7) (funext fun a => Fin.ext ?_)
  match a with
  | ⟨0, _⟩ => blk_simp [index1]; rfl
  | ⟨1, _⟩ => blk_simp [index1, ht]; show _ = 1024 * n + e.val; omega
  | ⟨2, _⟩ => blk_simp [index1]

theorem blk2_apply (t : Fin cfg0.N) (e : Fin 16) (k : Fin 2048) : (iblk m c 2 t : Vec Ideal S1x16x2048 .bf16) (ix3 0 e k)
    = arg m c main_arg1 (ix3 (0 : Fin 2) k (⟨6208 + e.val, by omega⟩ : Fin 6224)) := by
  rw [← V10_apply]
  blk_simp [iblk]
  refine congrArg (V m c main_v10) (funext fun a => Fin.ext ?_)
  match a with
  | ⟨0, _⟩ => blk_simp [index2]; rfl
  | ⟨1, _⟩ => blk_simp [index2]
  | ⟨2, _⟩ => blk_simp [index2]

end Cert.ProjTIdeal.Blocks

end
-- ==== Proof.ProjTFold.lean ====
/-
  The transposed projection kernel's four result arrays after the run: each is the reference's formula, entry by entry.
-/
module

public import proofs.«01_k».proof.Proof.ProjTBlocks

@[expose] public section

noncomputable section

namespace Cert.ProjTIdeal.Fold

open Cert.ProjTIdeal Cert.ProjTIdeal.Gen Cert.ProjTIdeal.Body Cert.ProjTIdeal.Cases Cert.ProjTIdeal.Blocks Cert.ProjTIdeal.Payload Cert.Maths
open Idealize.ShloMosaic Idealize.ShloMosaic.TcCoe Idealize.SL.Sem

variable (m : (ℓ : Loc nD τ sig) → Buf (Elt Ideal) ℓ) (c : Dev nD)

/-- The tokens of a point are those of every point of its token block. -/
theorem batch_pt (t : Fin cfg0.N) (j : ℕ) (hj : j < 3) : batch (pt (row t) j hj) = batch t :=
  Fin.ext (by show (3 * (t.val / 3) + j) / 12 = t.val / 12; omega)
theorem spot_pt (t : Fin cfg0.N) (j : ℕ) (hj : j < 3) (r : Fin 1024) : spot (pt (row t) j hj) r = spot t r :=
  Fin.ext (by show 1024 * ((3 * (t.val / 3) + j) / 3 % 4) + r.val = 1024 * (t.val / 3 % 4) + r.val; omega)

/-- The projections of the launched arrays. -/
abbrev P (R : Fin 16384) (e : Fin 6224) : EReal := proj (arg m c main_arg0) (arg m c main_arg1) R e

/-- The products at point `n` of a token block: the token's row times a column of the `n`-th gathered block. -/
theorem prod_pt (t : Fin cfg0.N) (n : ℕ) (hn : n < 3) (r e : Fin 1024) :
    prod (iblk m c 0 (pt (row t) n hn)) (iblk m c 1 (pt (row t) n hn)) r e
      = P m c (token (batch t) (spot t r)) (⟨1024 * (2 + n + (n + 1) / 2) + e.val, by omega⟩ : Fin 6224) := by
  unfold P prod
  rw [proj_def]
  refine Finset.sum_congr rfl fun k _ => congrArg₂ (fun a b : EReal => a * b) ?_ ?_
  · exact (blk0_apply m c _ r k).trans (by rw [batch_pt, spot_pt])
  · exact blk1_apply m c _ n hn (pt_mod _ n hn) e k

theorem q_apply (t : Fin cfg0.N) (e r : Fin 1024) : qOf m c (row t) (ix3 (0 : Fin 1) e r)
    = qtResult (arg m c main_arg0) (arg m c main_arg1) (batch t) e (spot t r) := by
  have h : qOf m c (row t) = qArr (iblk m c 0 (pt (row t) 0 (by decide))) (iblk m c 1 (pt (row t) 0 (by decide))) := by
    unfold qOf atQ
    exact q_eq ..
  rw [h]
  exact congrArg (fun z : EReal => z * Ideal.ofBits .f32 0x3E0293EE#32) (prod_pt m c t 0 (by decide) r e)

theorem v_apply (t : Fin cfg0.N) (g : Fin 4) (e : Fin 1024) (r : Fin 256) : vOf m c (row t) (ix4 (0 : Fin 1) g e r)
    = vtResult (arg m c main_arg0) (arg m c main_arg1) (batch t) (⟨4 * (t.val / 3 % 4) + g.val, by omega⟩ : Fin 16) e r := by
  have h : vOf m c (row t) = vArr (iblk m c 0 (pt (row t) 1 (by decide))) (iblk m c 1 (pt (row t) 1 (by decide))) := by
    unfold vOf atV
    exact v_eq ..
  rw [h]
  refine (prod_pt m c t 1 (by decide) (place g r) e).trans ?_
  refine congrArg (fun s => P m c (token (batch t) s) (⟨4096 + e.val, by omega⟩ : Fin 6224)) (Fin.ext ?_)
  show 1024 * (t.val / 3 % 4) + (256 * g.val + r.val) = 256 * (4 * (t.val / 3 % 4) + g.val) + r.val
  omega

theorem i_apply (t : Fin cfg0.N) (e r : Fin 1024) : iOf m c (row t) (ix3 (0 : Fin 1) e r)
    = qitResult (arg m c main_arg0) (arg m c main_arg1) (batch t) e (spot t r) := by
  have h : iOf m c (row t) = iArr (iblk m c 0 (pt (row t) 2 (by decide))) (iblk m c 1 (pt (row t) 2 (by decide))) := by
    unfold iOf atI
    exact i_eq ..
  rw [h]
  exact prod_pt m c t 2 (by decide) r e

theorem w_apply (t : Fin cfg0.N) (e : Fin 16) (r : Fin 1024) : wOf m c (row t) (ix3 (0 : Fin 1) e r)
    = witResult (arg m c main_arg0) (arg m c main_arg1) (batch t) e (spot t r) := by
  have h : wOf m c (row t) = k0_pay11 (iblk m c 2 (pt (row t) 0 (by decide))) (iblk m c 0 (pt (row t) 0 (by decide))) := by
    unfold wOf atQ
    exact w_eq ..
  rw [h]
  refine (Payload.w_apply _ r _ e).trans ?_
  unfold witResult
  rw [proj_def]
  refine Finset.sum_congr rfl fun k _ => (mul_comm _ _).trans (congrArg₂ (fun a b : EReal => a * b) ?_ ?_)
  · exact (blk0_apply m c _ r k).trans (by rw [batch_pt, spot_pt])
  · exact blk2_apply m c _ e k

/-! ## The arrays -/

/-- The result arrays. -/
def Q : Vec Ideal S4x1024x4096 .bf16 := fun y => qtResult (arg m c main_arg0) (arg m c main_arg1) (y 0) (y 1) (y 2)
def W : Vec Ideal S4x16x1024x256 .bf16 := fun y => vtResult (arg m c main_arg0) (arg m c main_arg1) (y 0) (y 1) (y 2) (y 3)
def I : Vec Ideal S4x1024x4096 .bf16 := fun y => qitResult (arg m c main_arg0) (arg m c main_arg1) (y 0) (y 1) (y 2)
def X : Vec Ideal S4x16x4096 .f32 := fun y => witResult (arg m c main_arg0) (arg m c main_arg1) (y 0) (y 1) (y 2)

/-- Where a block's entry lies in its array. -/
theorem emb3 (t : Fin cfg0.N) (e r : Fin 1024) :
    ((cfg0.win 3).blk t).view.emb (ix3 (0 : Fin 1) e r) = ix3 (batch t) e (spot t r) := by
  funext a
  apply Fin.ext
  match a with
  | ⟨0, _⟩ => blk_simp [index3]; rfl
  | ⟨1, _⟩ => blk_simp [index3]
  | ⟨2, _⟩ => blk_simp [index3]; show _ = 1024 * (t.val / 3 % 4) + r.val; omega
theorem emb4 (t : Fin cfg0.N) (g : Fin 4) (e : Fin 1024) (r : Fin 256) : ((cfg0.win 4).blk t).view.emb (ix4 (0 : Fin 1) g e r)
    = ix4 (batch t) (⟨4 * (t.val / 3 % 4) + g.val, by omega⟩ : Fin 16) e r := by
  funext a
  apply Fin.ext
  match a with
  | ⟨0, _⟩ => blk_simp [index4]; rfl
  | ⟨1, _⟩ => blk_simp [index4]; show _ = 4 * (t.val / 3 % 4) + g.val; omega
  | ⟨2, _⟩ => blk_simp [index4]
  | ⟨3, _⟩ => blk_simp [index4]
theorem emb5 (t : Fin cfg0.N) (e r : Fin 1024) :
    ((cfg0.win 5).blk t).view.emb (ix3 (0 : Fin 1) e r) = ix3 (batch t) e (spot t r) := by
  funext a
  apply Fin.ext
  match a with
  | ⟨0, _⟩ => blk_simp [index5]; rfl
  | ⟨1, _⟩ => blk_simp [index5]
  | ⟨2, _⟩ => blk_simp [index5]; show _ = 1024 * (t.val / 3 % 4) + r.val; omega
theorem emb6 (t : Fin cfg0.N) (e : Fin 16) (r : Fin 1024) :
    ((cfg0.win 6).blk t).view.emb (ix3 (0 : Fin 1) e r) = ix3 (batch t) e (spot t r) := by
  funext a
  apply Fin.ext
  match a with
  | ⟨0, _⟩ => blk_simp [index6]; rfl
  | ⟨1, _⟩ => blk_simp [index6]
  | ⟨2, _⟩ => blk_simp [index6]; show _ = 1024 * (t.val / 3 % 4) + r.val; omega

/-- An index whose leading coordinate has one value. -/
theorem lead3 {a b : ℕ} (x : (⟨3, ![1, a, b]⟩ : Shape).Idx) : ∃ (e : Fin a) (r : Fin b), x = ix3 (0 : Fin 1) e r :=
  ⟨x 1, x 2, (ValueIdx.eq_ix3 x).trans
    (congrArg (fun z : Fin 1 => ix3 z (x 1 : Fin a) (x 2 : Fin b)) (Subsingleton.elim (α := Fin 1) _ _))⟩
theorem lead4 {a b d : ℕ} (x : (⟨4, ![1, a, b, d]⟩ : Shape).Idx) :
    ∃ (g : Fin a) (e : Fin b) (r : Fin d), x = ix4 (0 : Fin 1) g e r :=
  ⟨x 1, x 2, x 3, (ValueIdx.eq_ix4 x).trans
    (congrArg (fun z : Fin 1 => ix4 z (x 1 : Fin a) (x 2 : Fin b) (x 3 : Fin d)) (Subsingleton.elim (α := Fin 1) _ _))⟩

/-- The last point of the `g`-th token block of batch `b`, which writes the block back. -/
def last (b g : Fin 4) : Fin cfg0.N := pt ⟨4 * b.val + g.val, by omega⟩ 2 (by decide)
theorem last_mod (b g : Fin 4) : (last b g).val % 3 = 2 := pt_mod _ 2 (by decide)
theorem batch_last (b g : Fin 4) : batch (last b g) = b :=
  Fin.ext (by show (3 * (4 * b.val + g.val) + 2) / 12 = b.val; omega)
theorem block_last (b g : Fin 4) : (last b g).val / 3 % 4 = g.val := by
  show (3 * (4 * b.val + g.val) + 2) / 3 % 4 = g.val; omega

/-- The token block of a token. -/
def part (s : Fin 4096) : Fin 4 := ⟨s.val / 1024, by omega⟩
theorem spot_last (b : Fin 4) (s : Fin 4096) : spot (last b (part s)) (⟨s.val % 1024, Nat.mod_lt _ (by decide)⟩ : Fin 1024) = s :=
  Fin.ext (by
    have h := block_last b (part s)
    show 1024 * ((last b (part s)).val / 3 % 4) + s.val % 1024 = s.val
    rw [h]
    show 1024 * (s.val / 1024) + s.val % 1024 = s.val
    omega)

theorem array3 : (dats m 0 c).arrAt 3 cfg0.N = Q m c := by
  refine Pipeline.Dat.arrAt_eq_of_cover (dats m 0 c) 3 (Q m c) (fun t _ => ?_) (fun i => ?_)
  · show (cfg0.win 3).cut (grid0.coords t) ((dats m 0 c).after 3 t) = _
    rw [after3]
    funext x
    obtain ⟨e, r, rfl⟩ : ∃ (e r : Fin 1024), x = ix3 (0 : Fin 1) e r := lead3 x
    refine (q_apply m c t e r).trans ?_
    show _ = Q m c (((cfg0.win 3).blk t).view.emb (ix3 (0 : Fin 1) e r))
    rw [emb3]
    rfl
  · obtain ⟨b, e, s, rfl⟩ : ∃ (b : Fin 4) (e : Fin 1024) (s : Fin 4096), i = ix3 b e s := ⟨_, _, _, ValueIdx.eq_ix3 i⟩
    refine ⟨last b (part s), (flush0_3 _).2 (last_mod b _), ?_⟩
    have h := ((cfg0.win 3).blk (last b (part s))).view.emb_mem_set
      (ix3 (0 : Fin 1) e (⟨s.val % 1024, Nat.mod_lt _ (by decide)⟩ : Fin 1024))
    rwa [emb3, batch_last, spot_last] at h

theorem array5 : (dats m 0 c).arrAt 5 cfg0.N = I m c := by
  refine Pipeline.Dat.arrAt_eq_of_cover (dats m 0 c) 5 (I m c) (fun t _ => ?_) (fun i => ?_)
  · show (cfg0.win 5).cut (grid0.coords t) ((dats m 0 c).after 5 t) = _
    rw [after5]
    funext x
    obtain ⟨e, r, rfl⟩ : ∃ (e r : Fin 1024), x = ix3 (0 : Fin 1) e r := lead3 x
    refine (i_apply m c t e r).trans ?_
    show _ = I m c (((cfg0.win 5).blk t).view.emb (ix3 (0 : Fin 1) e r))
    rw [emb5]
    rfl
  · obtain ⟨b, e, s, rfl⟩ : ∃ (b : Fin 4) (e : Fin 1024) (s : Fin 4096), i = ix3 b e s := ⟨_, _, _, ValueIdx.eq_ix3 i⟩
    refine ⟨last b (part s), (flush0_5 _).2 (last_mod b _), ?_⟩
    have h := ((cfg0.win 5).blk (last b (part s))).view.emb_mem_set
      (ix3 (0 : Fin 1) e (⟨s.val % 1024, Nat.mod_lt _ (by decide)⟩ : Fin 1024))
    rwa [emb5, batch_last, spot_last] at h

theorem array6 : (dats m 0 c).arrAt 6 cfg0.N = X m c := by
  refine Pipeline.Dat.arrAt_eq_of_cover (dats m 0 c) 6 (X m c) (fun t _ => ?_) (fun i => ?_)
  · show (cfg0.win 6).cut (grid0.coords t) ((dats m 0 c).after 6 t) = _
    rw [after6]
    funext x
    obtain ⟨e, r, rfl⟩ : ∃ (e : Fin 16) (r : Fin 1024), x = ix3 (0 : Fin 1) e r := lead3 x
    refine (w_apply m c t e r).trans ?_
    show _ = X m c (((cfg0.win 6).blk t).view.emb (ix3 (0 : Fin 1) e r))
    rw [emb6]
    rfl
  · obtain ⟨b, e, s, rfl⟩ : ∃ (b : Fin 4) (e : Fin 16) (s : Fin 4096), i = ix3 b e s := ⟨_, _, _, ValueIdx.eq_ix3 i⟩
    refine ⟨last b (part s), (flush0_6 _).2 (last_mod b _), ?_⟩
    have h := ((cfg0.win 6).blk (last b (part s))).view.emb_mem_set
      (ix3 (0 : Fin 1) e (⟨s.val % 1024, Nat.mod_lt _ (by decide)⟩ : Fin 1024))
    rwa [emb6, batch_last, spot_last] at h

theorem array4 : (dats m 0 c).arrAt 4 cfg0.N = W m c := by
  refine Pipeline.Dat.arrAt_eq_of_cover (dats m 0 c) 4 (W m c) (fun t _ => ?_) (fun i => ?_)
  · show (cfg0.win 4).cut (grid0.coords t) ((dats m 0 c).after 4 t) = _
    rw [after4]
    funext x
    obtain ⟨g, e, r, rfl⟩ : ∃ (g : Fin 4) (e : Fin 1024) (r : Fin 256), x = ix4 (0 : Fin 1) g e r := lead4 x
    refine (v_apply m c t g e r).trans ?_
    show _ = W m c (((cfg0.win 4).blk t).view.emb (ix4 (0 : Fin 1) g e r))
    rw [emb4]
    rfl
  · obtain ⟨b, g, e, r, rfl⟩ : ∃ (b : Fin 4) (g : Fin 16) (e : Fin 1024) (r : Fin 256), i = ix4 b g e r :=
      ⟨_, _, _, _, ValueIdx.eq_ix4 i⟩
    have hg := block_last b (⟨g.val / 4, by omega⟩ : Fin 4)
    refine ⟨last b (⟨g.val / 4, by omega⟩ : Fin 4), (flush0_4 _).2 (last_mod b _), ?_⟩
    have h := ((cfg0.win 4).blk (last b (⟨g.val / 4, by omega⟩ : Fin 4))).view.emb_mem_set
      (ix4 (0 : Fin 1) (⟨g.val % 4, Nat.mod_lt _ (by decide)⟩ : Fin 4) e r)
    rw [emb4, batch_last] at h
    have he : (⟨4 * ((last b (⟨g.val / 4, by omega⟩ : Fin 4)).val / 3 % 4) + g.val % 4, by omega⟩ : Fin 16) = g := Fin.ext (by
      show 4 * ((last b (⟨g.val / 4, by omega⟩ : Fin 4)).val / 3 % 4) + g.val % 4 = g.val
      rw [hg]
      show 4 * (g.val / 4) + g.val % 4 = g.val
      omega)
    rwa [he] at h

end Cert.ProjTIdeal.Fold

end
-- ==== Proof.ProjTRef.lean ====
/-
  The transposed projections' reference, read entry by entry.
-/
module

public import proofs.«01_k».proof.Proof.ProjTFold
public import proofs.«01_k».proof.Proof.Gen.ProjTRefIdeal.Read

@[expose] public section

noncomputable section

namespace Cert.ProjTRefIdeal.Entry

open Cert.ProjTRefIdeal Cert.ProjTRefIdeal.Gen Cert.ProjTRefIdeal.Read Cert.Maths Cert.MergeRefIdeal.Entry
open Idealize.ShloMosaic Idealize.ShloMosaic.TcCoe Idealize.SL.Sem

variable (x0 : Vec Ideal S16384x2048 .bf16) (x1 : Vec Ideal S2x2048x6224 .f32)

theorem weight (k : Fin 2048) (e : Fin 6224) : val_main_v3 (F := Ideal) x1 (ix2 k e) = x1 (ix3 (0 : Fin 2) k e) := by
  rw [val_main_v3_apply, val_main_v2_apply]
  refine congrArg x1 (funext fun a => Fin.ext ?_)
  match a with
  | ⟨0, _⟩ => rfl
  | ⟨1, _⟩ => show (k.val * 6224 + e.val) / 6224 % 2048 = k.val; omega
  | ⟨2, _⟩ => show (k.val * 6224 + e.val) % 6224 = e.val; omega

/-- The activations by batch and place. -/
theorem activation (b : Fin 4) (s : Fin 4096) (k : Fin 2048) :
    val_main_v1 (F := Ideal) x0 (ix3 b s k) = x0 (ix2 (token b s) k) := by
  rw [val_main_v1_apply, val_main_v0_apply]
  refine (congrArg x0 (funext fun a => Fin.ext ?_) : x0 _ = x0 _)
  match a with
  | ⟨0, _⟩ => show ((b.val * 4096 + s.val) * 2048 + k.val) / 2048 = 4096 * b.val + s.val; omega
  | ⟨1, _⟩ => show ((b.val * 4096 + s.val) * 2048 + k.val) % 2048 = k.val; omega

/-- The product. -/
theorem product (b : Fin 4) (s : Fin 4096) (e : Fin 6224) :
    val_main_v4 (F := Ideal) x0 x1 (ix3 b s e) = proj x0 x1 (token b s) e := by
  rw [val_main_v4_apply, proj_def]
  refine Finset.sum_congr rfl fun k _ => congrArg₂ (fun a b : EReal => a * b) ?_ ?_
  · exact (at3 _ b s k rfl rfl rfl).trans (activation x0 b s k)
  · exact (at2 _ k e rfl rfl).trans (weight x1 k e)

theorem part_q (b : Fin 4) (s : Fin 4096) (e : Fin 1024) :
    val_main_v7 (F := Ideal) x0 x1 (ix3 b s e) = proj x0 x1 (token b s) (⟨2048 + e.val, by omega⟩ : Fin 6224) := by
  rw [val_main_v7_apply]
  exact (at3 _ b s (⟨2048 + e.val, by omega⟩ : Fin 6224) rfl rfl rfl).trans (product x0 x1 b s _)
theorem part_v (b : Fin 4) (s : Fin 4096) (e : Fin 1024) :
    val_main_v9 (F := Ideal) x0 x1 (ix3 b s e) = proj x0 x1 (token b s) (⟨4096 + e.val, by omega⟩ : Fin 6224) := by
  rw [val_main_v9_apply]
  exact (at3 _ b s (⟨4096 + e.val, by omega⟩ : Fin 6224) rfl rfl rfl).trans (product x0 x1 b s _)
theorem part_i (b : Fin 4) (s : Fin 4096) (e : Fin 1024) :
    val_main_v10 (F := Ideal) x0 x1 (ix3 b s e) = proj x0 x1 (token b s) (⟨5120 + e.val, by omega⟩ : Fin 6224) := by
  rw [val_main_v10_apply]
  exact (at3 _ b s (⟨5120 + e.val, by omega⟩ : Fin 6224) rfl rfl rfl).trans (product x0 x1 b s _)
theorem part_w (b : Fin 4) (s : Fin 4096) (e : Fin 16) :
    val_main_v12 (F := Ideal) x0 x1 (ix3 b s e) = proj x0 x1 (token b s) (⟨6208 + e.val, by omega⟩ : Fin 6224) := by
  rw [val_main_v12_apply]
  exact (at3 _ b s (⟨6208 + e.val, by omega⟩ : Fin 6224) rfl rfl rfl).trans (product x0 x1 b s _)

/-- The scaled queries. -/
theorem result_q (b : Fin 4) (e : Fin 1024) (s : Fin 4096) :
    val_main_v17 (F := Ideal) x0 x1 (ix3 b e s) = qtResult x0 x1 b e s := by
  rw [val_main_v17_apply, val_main_v16_apply]
  refine (at3 (val_main_v14 (F := Ideal) x0 x1) b s e rfl rfl rfl).trans ?_
  rw [val_main_v14_apply, val_main_v13_apply, val_main_cst_apply, part_q]
  rfl

/-- `v`, by blocks of 256 tokens. -/
theorem result_v (b : Fin 4) (g : Fin 16) (e : Fin 1024) (r : Fin 256) :
    val_main_v19 (F := Ideal) x0 x1 (ix4 b g e r) = vtResult x0 x1 b g e r := by
  rw [val_main_v19_apply, val_main_v18_apply]
  refine (at4 (val_main_v15 (F := Ideal) x0 x1) b g r e rfl rfl rfl rfl).trans ?_
  rw [val_main_v15_apply]
  refine (at3 (val_main_v9 (F := Ideal) x0 x1) b (⟨256 * g.val + r.val, by omega⟩ : Fin 4096) e (Fin.ext ?_) (Fin.ext ?_)
    (Fin.ext ?_)).trans (part_v x0 x1 b _ e)
  · show (((b.val * 16 + g.val) * 256 + r.val) * 1024 + e.val) / 4194304 = b.val; omega
  · show (((b.val * 16 + g.val) * 256 + r.val) * 1024 + e.val) / 1024 % 4096 = 256 * g.val + r.val; omega
  · show (((b.val * 16 + g.val) * 256 + r.val) * 1024 + e.val) % 1024 = e.val; omega

/-- The index queries. -/
theorem result_i (b : Fin 4) (e : Fin 1024) (s : Fin 4096) :
    val_main_v21 (F := Ideal) x0 x1 (ix3 b e s) = qitResult x0 x1 b e s := by
  rw [val_main_v21_apply, val_main_v20_apply]
  exact (at3 (val_main_v10 (F := Ideal) x0 x1) b s e rfl rfl rfl).trans (part_i x0 x1 b s e)

/-- The index weights. -/
theorem result_w (b : Fin 4) (e : Fin 16) (s : Fin 4096) :
    val_main_v22 (F := Ideal) x0 x1 (ix3 b e s) = witResult x0 x1 b e s := by
  rw [val_main_v22_apply]
  exact (at3 (val_main_v12 (F := Ideal) x0 x1) b s e rfl rfl rfl).trans (part_w x0 x1 b s e)

end Cert.ProjTRefIdeal.Entry

end
-- ==== Proof.ProjTClaim.lean ====
/-
  The transposed projection claims: the kernel's frame at both readings, the reference's run, and the four equal results.
-/
module

public import proofs.«01_k».proof.Defs
public import proofs.«01_k».proof.Proof.ProjTRef
public import proofs.«01_k».proof.Proof.Gen.ProjT
public import Idealize.ShloMosaic.Adequacy
public import Idealize.ShloMosaic.Init
public import Idealize.ShloMosaic.Lib.Quiescent

@[expose] public section

noncomputable section

namespace Cert.Proof

open Idealize.ShloMosaic Idealize.SL.Sem

/-! ## The frames

As with the projections, the frame is proved for the idealized program at any reading and carried over to the program it was
made from. -/

set_option maxRecDepth 100000 in
theorem proj_t_bodies : Cert.ProjT.defs₀ (F := Bits) = Cert.ProjTIdeal.defs₀ (F := Bits) := by
  refine congrArg Defs.onTc ?_
  funext l a
  obtain ⟨l, hl⟩ := l
  cases l with
  | zero => obtain ⟨t, s⟩ := a; rfl
  | succ n => exact absurd hl (by omega)

set_option maxRecDepth 100000 in
theorem proj_t_defs : Cert.ProjT.defs (F := Bits) = Cert.ProjTIdeal.defs (F := Bits) := by
  exact congrArg (Pipeline.defs (Cert.ProjTIdeal.pcfgs (F := Bits))) proj_t_bodies

set_option maxRecDepth 100000 in
theorem proj_t_rests : quiescent_ProjT := fun m ρ _ => by
  have h := Cert.ProjTIdeal.Body.frame (F := Bits) m ρ
  rw [← proj_t_defs] at h
  exact h

theorem proj_t_ideal_rests : quiescent_ProjTIdeal := fun m ρ _ => Cert.ProjTIdeal.Body.frame m ρ

theorem proj_t_reference_rests : quiescent_ProjTRefIdeal := fun m ρ _ =>
  (θ_run Cert.ProjTRefIdeal.defs _ _).mono
    (fun r h => ⟨fun c => (h c).2.2.2.2, sem_eq_zero_of_no_sems (by decide) r.2⟩)
    (Cert.ProjTRefIdeal.Value.run (F := Ideal) m ρ)

/-! ## The results -/

/-- The kernel's run leaves the four formulas in the result arrays. -/
theorem proj_t_kernel_run (m : (ℓ : Loc Cert.ProjTIdeal.nD Cert.ProjTIdeal.τ Cert.ProjTIdeal.sig) → Buf (Elt Ideal) ℓ)
    (ρ : Dev Cert.ProjTIdeal.nD → PrngReg) :
    θ_run (Cert.ProjTIdeal.defs (F := Ideal)) (onTc (τ := Cert.ProjTIdeal.τ) (Cert.ProjTIdeal.main (F := Ideal)))
      ⟨m, fun _ => 0, ρ⟩ (fun r => (∀ c : Dev Cert.ProjTIdeal.nD,
        r.2.mem ((c.tc : Thread Cert.ProjTIdeal.nD Cert.ProjTIdeal.τ).loc Cert.ProjTIdeal.main_v12_0) = Cert.ProjTIdeal.Fold.Q m c
        ∧ r.2.mem ((c.tc : Thread Cert.ProjTIdeal.nD Cert.ProjTIdeal.τ).loc Cert.ProjTIdeal.main_v12_1) = Cert.ProjTIdeal.Fold.W m c
        ∧ r.2.mem ((c.tc : Thread Cert.ProjTIdeal.nD Cert.ProjTIdeal.τ).loc Cert.ProjTIdeal.main_v12_2) = Cert.ProjTIdeal.Fold.I m c
        ∧ r.2.mem ((c.tc : Thread Cert.ProjTIdeal.nD Cert.ProjTIdeal.τ).loc Cert.ProjTIdeal.main_v12_3) = Cert.ProjTIdeal.Fold.X m c)) :=
  (θ_run Cert.ProjTIdeal.defs _ _).mono (fun _ h c =>
    ⟨((h.1 c).1 3).trans (Cert.ProjTIdeal.Fold.array3 m c), ((h.1 c).1 4).trans (Cert.ProjTIdeal.Fold.array4 m c),
      ((h.1 c).1 5).trans (Cert.ProjTIdeal.Fold.array5 m c), ((h.1 c).1 6).trans (Cert.ProjTIdeal.Fold.array6 m c)⟩)
    (Cert.ProjTIdeal.Body.run_all (F := Ideal) m ρ)

theorem proj_t_values : algebraic_ProjTIdeal_ProjTRefIdeal := by
  intro m ρ m' ρ' _ hagree
  refine ⟨fun c => Cert.ProjTIdeal.Fold.Q m c, fun c => Cert.ProjTIdeal.Fold.W m c, fun c => Cert.ProjTIdeal.Fold.I m c,
    fun c => Cert.ProjTIdeal.Fold.X m c, ?_, ?_⟩
  · refine (θ_run Cert.ProjTIdeal.defs _ _).mono (fun _ h c => ?_)
      (θ_run_and (proj_t_kernel_run m ρ) (Cert.ProjTIdeal.Body.frame (F := Ideal) m ρ))
    obtain ⟨hq, hv, hi, hw⟩ := h.1 c
    exact ⟨hq, hv, hi, hw, h.2.1 c⟩
  · refine (θ_run Cert.ProjTRefIdeal.defs _ _).mono (fun _ h c => ?_)
      (Cert.ProjTRefIdeal.Value.run (F := Ideal) m' ρ')
    obtain ⟨a0, a1⟩ := hagree c
    obtain ⟨hq, hv, hi, hw, hargs⟩ := h c
    refine ⟨hq.trans ?_, hv.trans ?_, hi.trans ?_, hw.trans ?_, hargs⟩
    · rw [Cert.ProjTRefIdeal.Read.val_main_v17_eq, a0, a1]
      funext i
      obtain ⟨b, e, s, rfl⟩ : ∃ (b : Fin 4) (e : Fin 1024) (s : Fin 4096), i = ix3 b e s := ⟨_, _, _, ValueIdx.eq_ix3 i⟩
      exact Cert.ProjTRefIdeal.Entry.result_q _ _ b e s
    · rw [Cert.ProjTRefIdeal.Read.val_main_v19_eq, a0, a1]
      funext i
      obtain ⟨b, g, e, r, rfl⟩ : ∃ (b : Fin 4) (g : Fin 16) (e : Fin 1024) (r : Fin 256), i = ix4 b g e r :=
        ⟨_, _, _, _, ValueIdx.eq_ix4 i⟩
      exact Cert.ProjTRefIdeal.Entry.result_v _ _ b g e r
    · rw [Cert.ProjTRefIdeal.Read.val_main_v21_eq, a0, a1]
      funext i
      obtain ⟨b, e, s, rfl⟩ : ∃ (b : Fin 4) (e : Fin 1024) (s : Fin 4096), i = ix3 b e s := ⟨_, _, _, ValueIdx.eq_ix3 i⟩
      exact Cert.ProjTRefIdeal.Entry.result_i _ _ b e s
    · rw [Cert.ProjTRefIdeal.Read.val_main_v22_eq, a0, a1]
      funext i
      obtain ⟨b, e, s, rfl⟩ : ∃ (b : Fin 4) (e : Fin 16) (s : Fin 4096), i = ix3 b e s := ⟨_, _, _, ValueIdx.eq_ix3 i⟩
      exact Cert.ProjTRefIdeal.Entry.result_w _ _ b e s

end Cert.Proof

end
-- ==== Proof.FfnNextPayloads.lean ====
/-
  What the stores of the feed-forward kernel with the following norm are worth, read at one place: the normed input row, one
  block of 512 hidden features' contribution, the closing residual half-step, and the norm of its rows.
-/
module

public import proofs.«01_k».proof.Proof.Gen.FfnNextIdeal.Skeleton
public import proofs.«01_k».proof.Proof.ProjTClaim
public import Idealize.ShloMosaic.Lib.Pointwise

@[expose] public section

noncomputable section

namespace Cert.FfnNextIdeal.Payload

open Cert.FfnNextIdeal Cert.FfnNextIdeal.Gen Cert.Maths Idealize.ShloMosaic

/-- The stored normed input: row `r` of the block through the root-mean-square norm. -/
theorem normed_apply (x : Vec Ideal S512x2048 .f32) (g : Vec Ideal S1x2048 .f32) (r : Fin 512) (k : Fin 2048) :
    k0_pay4 (F := Ideal) x g (ix2 r k) = rms (fun j => x (ix2 r j)) (fun j => g (ix2 0 j)) k := by
  unfold_payloads
  pointwise [rms_def, invRms_def]

/-- The accumulator's reset. -/
theorem reset_apply (i : S512x2048.Idx) : k0_pay5 (F := Ideal) i = 0 := by
  unfold_payloads
  pointwise

/-- The closing half-step: the block's input row plus half the normed accumulated row. -/
theorem close_apply (x a : Vec Ideal S512x2048 .f32) (g : Vec Ideal S1x2048 .f32) (r : Fin 512) (k : Fin 2048) :
    k0_pay2 (F := Ideal) x a g (ix2 r k)
      = x (ix2 r k) + half * rms (fun j => a (ix2 r j)) (fun j => g (ix2 0 j)) k := by
  unfold_payloads
  pointwise [rms_def, invRms_def, half_def]
  ac_rfl

/-- The emitted norm: row `r` of the closed half-step, normed by the following gain. -/
theorem emitted_apply (x a : Vec Ideal S512x2048 .f32) (g gn : Vec Ideal S1x2048 .f32) (r : Fin 512) (k : Fin 2048) :
    k0_pay3 (F := Ideal) x a g gn (ix2 r k) = rms (fun j => k0_pay2 x a g (ix2 r j)) (fun j => gn (ix2 0 j)) k := by
  unfold k0_pay3
  generalize k0_pay2 (F := Ideal) x a g = y
  pointwise [rms_def, invRms_def]

/-- One block of 512 hidden features added to the accumulator: the first 256 columns of the two input-weight blocks come
    in one pair of loads, the last 256 in another, and the joined hidden row meets the output-weight block. -/
theorem step_apply (h : Vec Ideal S512x2048 .bf16) (a0 b0 a1 b1 : Vec Ideal S1x2048x256 .bf16)
    (A B : Vec Ideal S1x2048x512 .bf16) (acc : Vec Ideal S512x2048 .f32) (w : Vec Ideal S1x512x2048 .bf16)
    (ha0 : ∀ k (f : Fin 256), a0 (ix3 0 k f) = A (ix3 0 k (f.castAdd 256)))
    (hb0 : ∀ k (f : Fin 256), b0 (ix3 0 k f) = B (ix3 0 k (f.castAdd 256)))
    (ha1 : ∀ k (f : Fin 256), a1 (ix3 0 k f) = A (ix3 0 k (f.natAdd 256)))
    (hb1 : ∀ k (f : Fin 256), b1 (ix3 0 k f) = B (ix3 0 k (f.natAdd 256))) (r : Fin 512) (c : Fin 2048) :
    k0_pay1 (k0_pay6 (F := Ideal) h a0 b0 a1 b1 acc w) (ix2 r c)
      = acc (ix2 r c) + ∑ f : Fin 512,
          swiglu (∑ k, h (ix2 r k) * A (ix3 0 k f)) (∑ k, h (ix2 r k) * B (ix3 0 k f)) * w (ix3 0 f c) := by
  rw [show (∑ f : Fin 512, swiglu (∑ k, h (ix2 r k) * A (ix3 0 k f)) (∑ k, h (ix2 r k) * B (ix3 0 k f)) * w (ix3 0 f c)) = _
    from Fin.sum_univ_add (a := 256) (b := 256) fun f : Fin (256 + 256) =>
      swiglu (∑ k, h (ix2 r k) * A (ix3 0 k f)) (∑ k, h (ix2 r k) * B (ix3 0 k f)) * w (ix3 0 f c)]
  unfold_payloads
  pointwise [dot_S512x2048_S2048x256_S512x256_1_0_0_1_n_n, dot_S512x512_S512x2048_S512x2048_1_0_0_1_n_n]
  simp only [ha0, hb0, ha1, hb1]
  rfl

end Cert.FfnNextIdeal.Payload

end
-- ==== Proof.FfnNextCases.lean ====
/-
  The three cases of the feed-forward kernel with the following norm: what the body leaves in its two scratch buffers and in
  its two output blocks, as the named payloads of the blocks it was handed.
-/
module

public import proofs.«01_k».proof.Proof.Gen.FfnNextIdeal.Frame
public import proofs.«01_k».proof.Proof.FfnNextPayloads
public import Idealize.ShloMosaic.Lib.Pipeline.Value
public import Idealize.ShloMosaic.Lib.Tactic

@[expose] public section

noncomputable section

namespace Cert.FfnNextIdeal.Cases

open Cert.FfnIdeal.Cases (hz2 hz3)
open Cert.FfnNextIdeal Cert.FfnNextIdeal.Gen Idealize.ShloMosaic Idealize.ShloMosaic.TcCoe Idealize.SL.Sem

variable {F : FTy → Type} [FloatOps F]

/-- The first 256 columns of a weight block. -/
abbrev lo (x : Vec F S1x2048x512 .bf16) : Vec F S1x2048x256 .bf16 :=
  View.ld x (Rect.unit ![0, 0, 0] ![1, 2048, 256] inb_S1x2048x512_S1x2048x256_0_0_0)
/-- The last 256 columns of a weight block. -/
abbrev hi (x : Vec F S1x2048x512 .bf16) : Vec F S1x2048x256 .bf16 :=
  View.ld x (Rect.unit ![0, 0, 256] ![1, 2048, 256] inb_S1x2048x512_S1x2048x256_0_0_256)
/-- One block of hidden features added to the accumulator. -/
def step (h : Vec F S512x2048 .bf16) (x4 x5 : Vec F S1x2048x512 .bf16) (x6 : Vec F S1x512x2048 .bf16)
    (acc : Vec F S512x2048 .f32) : Vec F S512x2048 .f32 :=
  k0_pay1 (k0_pay6 h (lo x4) (lo x5) (hi x4) (hi x5) acc x6)

variable (c : Dev nD) (i : grid0.Coords) (a2 : Memref sig .tc .vmem S512x2048 .f32) (h2 : a2.IsWhole)
  (a3 : Memref sig .tc .vmem S1x2048 .f32) (h3 : a3.IsWhole) (a4 : Memref sig .tc .vmem S1x2048 .f32) (h4 : a4.IsWhole)
  (a5 : Memref sig .tc .vmem S1x2048 .f32) (h5 : a5.IsWhole)
  (a6 : Memref sig .tc .vmem S1x2048x512 .bf16) (h6 : a6.IsWhole) (a7 : Memref sig .tc .vmem S1x2048x512 .bf16) (h7 : a7.IsWhole)
  (a8 : Memref sig .tc .vmem S1x512x2048 .bf16) (h8 : a8.IsWhole) (a9 : Memref sig .tc .vmem S512x2048 .f32) (h9 : a9.IsWhole)
  (a10 : Memref sig .tc .vmem S512x2048 .bf16) (h10 : a10.IsWhole)
  (a11 : Memref sig .tc .vmem S512x2048 .bf16) (h11 : a11.IsWhole) (a12 : Memref sig .tc .vmem S512x2048 .f32) (h12 : a12.IsWhole)
  (x0 : Vec F S512x2048 .f32) (x1 x2 x3 : Vec F S1x2048 .f32) (x4 x5 : Vec F S1x2048x512 .bf16) (x6 : Vec F S1x512x2048 .bf16)
  (xs0 : Vec F S512x2048 .bf16) (xs1 : Vec F S512x2048 .f32)

/-- The first point of a row block stores the normed input rows. -/
theorem first_normed (hc0 : cond0_0 i) (hc1 : ¬cond0_1 i) :
    sout0_A_0 c i a2 h2 a3 h3 a4 h4 a5 h5 a6 h6 a7 h7 a8 h8 a9 h9 a10 h10 a11 h11 a12 h12 hc0 hc1 x0 x1 x2 x3 x4 x5 x6 = k0_pay4 x0 x1 := by
  unfold sout0_A_0
  rw [View.read_writes_eq_canon _ _ _ (scover0_A_0 c i a2 h2 a3 h3 a4 h4 a5 h5 a6 h6 a7 h7 a8 h8 a9 h9 a10 h10 a11 h11 a12 h12 hc0 hc1 x0 x1 x2 x3 x4 x5 x6)]
  unfold kernelRun0_A
  dsimp only
  sl_unfold_words
  rw [View.canon_unit_zero hz2]
  simp only [View.readAt_eq_ld, h2.read_unread, h3.read_unread, View.ld_unit_zero (S := S512x2048) hz2,
    View.ld_unit_zero (S := S1x2048) hz2]

/-- It adds its block of features to zero. -/
theorem first_acc (hc0 : cond0_0 i) (hc1 : ¬cond0_1 i) :
    sout0_A_1 c i a2 h2 a3 h3 a4 h4 a5 h5 a6 h6 a7 h7 a8 h8 a9 h9 a10 h10 a11 h11 a12 h12 hc0 hc1 x0 x1 x2 x3 x4 x5 x6
      = step (k0_pay4 x0 x1) x4 x5 x6 (k0_pay5 (F := F)) := by
  unfold sout0_A_1
  rw [View.read_writes_eq_canon _ _ _ (scover0_A_1 c i a2 h2 a3 h3 a4 h4 a5 h5 a6 h6 a7 h7 a8 h8 a9 h9 a10 h10 a11 h11 a12 h12 hc0 hc1 x0 x1 x2 x3 x4 x5 x6)]
  unfold kernelRun0_A
  dsimp only
  sl_unfold_words
  rw [View.canon_cons_unit_zero (S := S512x2048) hz2]
  simp only [View.readCov_unit_zero (S := S512x2048) _ hz2, View.readAt_eq_ld, h2.read_unread, h3.read_unread, h6.read_unread,
    h7.read_unread, h8.read_unread, View.ld_unit_zero (S := S512x2048) hz2, View.ld_unit_zero (S := S1x2048) hz2,
    View.ld_unit_zero (S := S1x512x2048) hz3]
  rfl

/-- A middle point adds its block of features to the accumulator. -/
theorem mid_acc (hc0 : ¬cond0_0 i) (hc1 : ¬cond0_1 i) :
    sout0_B_1 c i a2 h2 a3 h3 a4 h4 a5 h5 a6 h6 a7 h7 a8 h8 a9 h9 a10 h10 a11 h11 a12 h12 hc0 hc1 x0 x1 x2 x3 x4 x5 x6 xs0 xs1
      = step xs0 x4 x5 x6 xs1 := by
  unfold sout0_B_1
  rw [View.read_writes_eq_canon _ _ _ (scover0_B_1 c i a2 h2 a3 h3 a4 h4 a5 h5 a6 h6 a7 h7 a8 h8 a9 h9 a10 h10 a11 h11 a12 h12 hc0 hc1 x0 x1 x2 x3 x4 x5 x6 xs0 xs1)]
  unfold kernelRun0_B
  dsimp only
  sl_unfold_words
  rw [View.canon_unit_zero hz2]
  simp only [View.readAt_eq_ld, h6.read_unread, h7.read_unread, h8.read_unread, h11.read_unread, h12.read_unread,
    View.ld_unit_zero (S := S512x2048) hz2, View.ld_unit_zero (S := S1x512x2048) hz3]
  rfl

/-- So does the last point of a row block. -/
theorem last_acc (hc0 : ¬cond0_0 i) (hc1 : cond0_1 i) :
    sout0_C_1 c i a2 h2 a3 h3 a4 h4 a5 h5 a6 h6 a7 h7 a8 h8 a9 h9 a10 h10 a11 h11 a12 h12 hc0 hc1 x0 x1 x2 x3 x4 x5 x6 xs0 xs1
      = step xs0 x4 x5 x6 xs1 := by
  unfold sout0_C_1
  rw [View.read_writes_eq_canon _ _ _ (scover0_C_1 c i a2 h2 a3 h3 a4 h4 a5 h5 a6 h6 a7 h7 a8 h8 a9 h9 a10 h10 a11 h11 a12 h12 hc0 hc1 x0 x1 x2 x3 x4 x5 x6 xs0 xs1)]
  unfold kernelRun0_C
  dsimp only
  sl_unfold_words
  rw [View.canon_unit_zero hz2]
  simp only [View.readAt_eq_ld, h6.read_unread, h7.read_unread, h8.read_unread, h11.read_unread, h12.read_unread,
    View.ld_unit_zero (S := S512x2048) hz2, View.ld_unit_zero (S := S1x512x2048) hz3]
  rfl

/-- The last point writes the half-step off the finished accumulator. -/
theorem last_out (hc0 : ¬cond0_0 i) (hc1 : cond0_1 i) :
    out0_C_7 c i a2 h2 a3 h3 a4 h4 a5 h5 a6 h6 a7 h7 a8 h8 a9 h9 a10 h10 a11 h11 a12 h12 hc0 hc1 x0 x1 x2 x3 x4 x5 x6 xs0 xs1
      = k0_pay2 x0 (step xs0 x4 x5 x6 xs1) x2 := by
  unfold out0_C_7
  rw [View.read_writes_eq_canon _ _ _ (cover0_C_7 c i a2 h2 a3 h3 a4 h4 a5 h5 a6 h6 a7 h7 a8 h8 a9 h9 a10 h10 a11 h11 a12 h12 hc0 hc1 x0 x1 x2 x3 x4 x5 x6 xs0 xs1)]
  unfold kernelRun0_C
  dsimp only
  sl_unfold_words
  rw [View.canon_unit_zero hz2]
  simp only [View.readCov_unit_zero (S := S512x2048) _ hz2, View.readAt_eq_ld, h2.read_unread, h4.read_unread, h6.read_unread,
    h7.read_unread, h8.read_unread, h11.read_unread, h12.read_unread, View.ld_unit_zero (S := S512x2048) hz2,
    View.ld_unit_zero (S := S1x2048) hz2, View.ld_unit_zero (S := S1x512x2048) hz3]
  rfl

/-- And the norm of the half-step. -/
theorem last_next (hc0 : ¬cond0_0 i) (hc1 : cond0_1 i) :
    out0_C_8 c i a2 h2 a3 h3 a4 h4 a5 h5 a6 h6 a7 h7 a8 h8 a9 h9 a10 h10 a11 h11 a12 h12 hc0 hc1 x0 x1 x2 x3 x4 x5 x6 xs0 xs1
      = k0_pay3 x0 (step xs0 x4 x5 x6 xs1) x2 x3 := by
  unfold out0_C_8
  rw [View.read_writes_eq_canon _ _ _ (cover0_C_8 c i a2 h2 a3 h3 a4 h4 a5 h5 a6 h6 a7 h7 a8 h8 a9 h9 a10 h10 a11 h11 a12 h12 hc0 hc1 x0 x1 x2 x3 x4 x5 x6 xs0 xs1)]
  unfold kernelRun0_C
  dsimp only
  sl_unfold_words
  rw [View.canon_unit_zero hz2]
  simp only [View.readCov_unit_zero (S := S512x2048) _ hz2, View.readAt_eq_ld, h2.read_unread, h4.read_unread, h5.read_unread, h6.read_unread,
    h7.read_unread, h8.read_unread, h11.read_unread, h12.read_unread, View.ld_unit_zero (S := S512x2048) hz2,
    View.ld_unit_zero (S := S1x2048) hz2, View.ld_unit_zero (S := S1x512x2048) hz3]
  rfl

end Cert.FfnNextIdeal.Cases

end
-- ==== Proof.FfnNextBlocks.lean ====
/-
  The input blocks of the feed-forward kernel with the following norm, read at one place of the launched arrays.
-/
module

public import proofs.«01_k».proof.Proof.FfnNextCases
public import Idealize.ShloMosaic.Lib.Claim
public import Idealize.ShloMosaic.Lib.Pipeline.ValueKit

@[expose] public section

noncomputable section

namespace Cert.FfnNextIdeal.Blocks

open Cert.FfnNextIdeal Cert.FfnNextIdeal.Gen Idealize.ShloMosaic Idealize.ShloMosaic.TcCoe Idealize.SL.Sem

variable (m : (ℓ : Loc nD τ sig) → Buf (Elt Ideal) ℓ) (c : Dev nD)

/-! ## The launched arrays' rows and columns -/

/-- Token `R`'s row of the residual stream. -/
def xrow (R : Fin 16384) (k : Fin 2048) : EReal :=
  m ((c : Thread nD τ).loc main_arg0) (ix3 (⟨R.val / 4096, by omega⟩ : Fin 4) (⟨R.val % 4096, by omega⟩ : Fin 4096) k)
/-- The first layer's scale before the feed-forward. -/
def gpre (k : Fin 2048) : EReal := m ((c : Thread nD τ).loc main_arg1) (ix2 (0 : Fin 2) k)
/-- The first layer's scale after it. -/
def gpost (k : Fin 2048) : EReal := m ((c : Thread nD τ).loc main_arg2) (ix2 (0 : Fin 2) k)
/-- The first layer's scale of the norm that follows. -/
def gnext (k : Fin 2048) : EReal := m ((c : Thread nD τ).loc main_arg5) (ix2 (0 : Fin 2) k)
/-- The gate columns of the first layer's input weights: the first 5632. -/
def wa (k : Fin 2048) (f : Fin 5632) : EReal :=
  m ((c : Thread nD τ).loc main_arg3) (ix3 (0 : Fin 2) k (⟨f.val, by omega⟩ : Fin 11264))
/-- The value columns: the last 5632. -/
def wb (k : Fin 2048) (f : Fin 5632) : EReal :=
  m ((c : Thread nD τ).loc main_arg3) (ix3 (0 : Fin 2) k (⟨5632 + f.val, by omega⟩ : Fin 11264))
/-- The first layer's output weights. -/
def wo (f : Fin 5632) (k : Fin 2048) : EReal := m ((c : Thread nD τ).loc main_arg4) (ix3 (0 : Fin 2) f k)

/-! ## What the region finds in its arrays -/

theorem V0_apply (R : Fin 16384) (k : Fin 2048) :
    (V m c main_v0 : Vec Ideal S16384x2048 .f32) (ix2 R k) = xrow m c R k := by
  entry_read
  exact shapeCast_apply _ shapeCasts_S4x4096x2048_S16384x2048 _ _ (by
    rw [Shape.rowMajor_val_three, Shape.rowMajor_val_two]
    show (R.val / 4096 * 4096 + R.val % 4096) * 2048 + k.val = R.val * 2048 + k.val
    omega)

theorem V9_apply (k : Fin 2048) : (V m c main_v9 : Vec Ideal S1x2048 .f32) (ix2 0 k) = gpre m c k := by
  entry_read
  pointwise
  rfl

theorem V10_apply (k : Fin 2048) : (V m c main_v10 : Vec Ideal S1x2048 .f32) (ix2 0 k) = gpost m c k := by
  entry_read
  pointwise
  rfl

theorem V11_apply (k : Fin 2048) : (V m c main_v11 : Vec Ideal S1x2048 .f32) (ix2 0 k) = gnext m c k := by
  entry_read
  pointwise
  rfl

/-! ## The windows' blocks -/

theorem index0 : ∀ t : Fin cfg0.N, win0_0.index t = ![t.val / 11, 0] := by decide +kernel
theorem index1 : ∀ t : Fin cfg0.N, win0_1.index t = ![0, 0] := by decide +kernel
theorem index2 : ∀ t : Fin cfg0.N, win0_2.index t = ![0, 0] := by decide +kernel
theorem index3 : ∀ t : Fin cfg0.N, win0_3.index t = ![0, 0] := by decide +kernel
theorem index4 : ∀ t : Fin cfg0.N, win0_4.index t = ![0, 0, t.val % 11] := by decide +kernel
theorem index5 : ∀ t : Fin cfg0.N, win0_5.index t = ![0, 0, t.val % 11 + 11] := by decide +kernel
theorem index6 : ∀ t : Fin cfg0.N, win0_6.index t = ![0, t.val % 11, 0] := by decide +kernel

/-- The token that row `r` of point `t`'s block is. -/
def tok (t : Fin cfg0.N) (r : Fin 512) : Fin 16384 :=
  ⟨512 * (t.val / 11) + r.val, by have h : t.val < 352 := Nat.lt_of_lt_of_eq t.isLt N_0; omega⟩
/-- The feature that column `f` of point `t`'s weight blocks is. -/
def feat (t : Fin cfg0.N) (f : Fin 512) : Fin 5632 := ⟨512 * (t.val % 11) + f.val, by omega⟩

theorem blk0_apply (t : Fin cfg0.N) (r : Fin 512) (k : Fin 2048) :
    (iblk m c 0 t : Vec Ideal S512x2048 .f32) (ix2 r k) = xrow m c (tok t r) k := by
  rw [← V0_apply]
  blk_simp [iblk]
  refine congrArg (V m c main_v0) (funext fun a => Fin.ext ?_)
  match a with
  | ⟨0, _⟩ => blk_simp [index0]; show _ = 512 * (t.val / 11) + r.val; omega
  | ⟨1, _⟩ => blk_simp [index0]

theorem blk1_apply (t : Fin cfg0.N) (k : Fin 2048) : (iblk m c 1 t : Vec Ideal S1x2048 .f32) (ix2 0 k) = gpre m c k := by
  rw [← V9_apply]
  blk_simp [iblk]
  refine congrArg (V m c main_v9) (funext fun a => Fin.ext ?_)
  match a with
  | ⟨0, _⟩ => blk_simp [index1]
  | ⟨1, _⟩ => blk_simp [index1]

theorem blk2_apply (t : Fin cfg0.N) (k : Fin 2048) : (iblk m c 2 t : Vec Ideal S1x2048 .f32) (ix2 0 k) = gpost m c k := by
  rw [← V10_apply]
  blk_simp [iblk]
  refine congrArg (V m c main_v10) (funext fun a => Fin.ext ?_)
  match a with
  | ⟨0, _⟩ => blk_simp [index2]
  | ⟨1, _⟩ => blk_simp [index2]

theorem blk3_apply (t : Fin cfg0.N) (k : Fin 2048) : (iblk m c 3 t : Vec Ideal S1x2048 .f32) (ix2 0 k) = gnext m c k := by
  rw [← V11_apply]
  blk_simp [iblk]
  refine congrArg (V m c main_v11) (funext fun a => Fin.ext ?_)
  match a with
  | ⟨0, _⟩ => blk_simp [index3]
  | ⟨1, _⟩ => blk_simp [index3]

theorem blk4_apply (t : Fin cfg0.N) (k : Fin 2048) (f : Fin 512) :
    (iblk m c 4 t : Vec Ideal S1x2048x512 .bf16) (ix3 0 k f) = wa m c k (feat t f) := by
  blk_simp [iblk]
  entry_read
  refine congrArg (m ((c : Thread nD τ).loc main_arg3)) (funext fun a => Fin.ext ?_)
  match a with
  | ⟨0, _⟩ => blk_simp [index4]; rfl
  | ⟨1, _⟩ => blk_simp [index4]
  | ⟨2, _⟩ => blk_simp [index4]; show _ = 512 * (t.val % 11) + f.val; omega

theorem blk5_apply (t : Fin cfg0.N) (k : Fin 2048) (f : Fin 512) :
    (iblk m c 5 t : Vec Ideal S1x2048x512 .bf16) (ix3 0 k f) = wb m c k (feat t f) := by
  blk_simp [iblk]
  entry_read
  refine congrArg (m ((c : Thread nD τ).loc main_arg3)) (funext fun a => Fin.ext ?_)
  match a with
  | ⟨0, _⟩ => blk_simp [index5]; rfl
  | ⟨1, _⟩ => blk_simp [index5]
  | ⟨2, _⟩ => blk_simp [index5]; show _ = 5632 + (512 * (t.val % 11) + f.val); omega

theorem blk6_apply (t : Fin cfg0.N) (f : Fin 512) (k : Fin 2048) :
    (iblk m c 6 t : Vec Ideal S1x512x2048 .bf16) (ix3 0 f k) = wo m c (feat t f) k := by
  blk_simp [iblk]
  entry_read
  refine congrArg (m ((c : Thread nD τ).loc main_arg4)) (funext fun a => Fin.ext ?_)
  match a with
  | ⟨0, _⟩ => blk_simp [index6]; rfl
  | ⟨1, _⟩ => blk_simp [index6]; show _ = 512 * (t.val % 11) + f.val; omega
  | ⟨2, _⟩ => blk_simp [index6]

end Cert.FfnNextIdeal.Blocks

end
-- ==== Proof.FfnNextFold.lean ====
/-
  What the feed-forward kernel with the following norm leaves: after each grid point the scratches hold the normed rows and the sum over the
  feature blocks done so far; after the last point of a row block the outputs hold half a step of the residual
  stream and its norm.
-/
module

public import proofs.«01_k».proof.Proof.FfnNextBlocks
public import proofs.«01_k».proof.Proof.Gen.FfnNextIdeal.Value

@[expose] public section

noncomputable section

namespace Cert.FfnNextIdeal.Fold

open Cert.FfnNextIdeal Cert.FfnNextIdeal.Gen Cert.FfnNextIdeal.Blocks Cert.FfnNextIdeal.Cases Cert.FfnNextIdeal.Payload Cert.Maths
open Idealize.ShloMosaic Idealize.ShloMosaic.TcCoe Idealize.SL.Sem

variable (m : (ℓ : Loc nD τ sig) → Buf (Elt Ideal) ℓ) (c : Dev nD)

theorem lo_apply (x : Vec Ideal S1x2048x512 .bf16) (k : Fin 2048) (f : Fin 256) :
    lo x (ix3 0 k f) = x (ix3 0 k (f.castAdd 256)) :=
  congrArg x (funext fun a => Fin.ext (by
    match a with
    | ⟨0, _⟩ => rfl
    | ⟨1, _⟩ => show 0 + 1 * k.val = k.val; omega
    | ⟨2, _⟩ => show 0 + 1 * f.val = f.val; omega))

theorem hi_apply (x : Vec Ideal S1x2048x512 .bf16) (k : Fin 2048) (f : Fin 256) :
    hi x (ix3 0 k f) = x (ix3 0 k (f.natAdd 256)) :=
  congrArg x (funext fun a => Fin.ext (by
    match a with
    | ⟨0, _⟩ => rfl
    | ⟨1, _⟩ => show 0 + 1 * k.val = k.val; omega
    | ⟨2, _⟩ => show 256 + 1 * f.val = 256 + f.val; omega))

/-- Token `R`'s normed row. -/
def nrow (R : Fin 16384) : Fin 2048 → EReal := rms (xrow m c R) (gpre m c)
/-- Feature `F`'s share of entry `k` of token `R`'s feed-forward row. -/
def part (R : Fin 16384) (k : Fin 2048) (F : ℕ) : EReal := term (nrow m c R) (wa m c) (wb m c) (wo m c) k F

/-- Point `t` adds the shares of its 512 features. -/
theorem step_at (t : Fin cfg0.N) (h : Vec Ideal S512x2048 .bf16) (acc : Vec Ideal S512x2048 .f32)
    (hh : ∀ (r : Fin 512) (k : Fin 2048), h (ix2 r k) = nrow m c (tok t r) k) (r : Fin 512) (k : Fin 2048) :
    step h (iblk m c 4 t) (iblk m c 5 t) (iblk m c 6 t) acc (ix2 r k)
      = acc (ix2 r k) + ∑ f : Fin 512, part m c (tok t r) k (512 * (t.val % 11) + f.val) := by
  refine (step_apply h (lo (iblk m c 4 t)) (lo (iblk m c 5 t)) (hi (iblk m c 4 t)) (hi (iblk m c 5 t)) (iblk m c 4 t)
    (iblk m c 5 t) acc (iblk m c 6 t) (lo_apply _) (lo_apply _) (hi_apply _) (hi_apply _) r k).trans ?_
  refine congrArg (_ + ·) (Finset.sum_congr rfl fun f _ => ?_)
  refine Eq.trans ?_ (term_fin (nrow m c (tok t r)) (wa m c) (wb m c) (wo m c) k (feat t f)).symm
  rw [blk6_apply]
  unfold Maths.hidden
  simp only [hh, blk4_apply, blk5_apply]

/-- After point `n`, whose feature block is `n % 11`: the normed rows, and the shares of the feature blocks up to it. -/
def Holds (n : ℕ) (hn : n < cfg0.N) : Prop :=
  (∀ (r : Fin 512) (k : Fin 2048), (outsAt0 m c n hn).2.2.1 (ix2 r k) = nrow m c (tok ⟨n, hn⟩ r) k)
  ∧ ∀ (r : Fin 512) (k : Fin 2048), (outsAt0 m c n hn).2.2.2 (ix2 r k)
      = ∑ j ∈ Finset.range (n % 11 + 1), ∑ f : Fin 512, part m c (tok ⟨n, hn⟩ r) k (512 * j + f.val)

/-- The first point of a row block. -/
theorem holds_first (t : Fin cfg0.N) (h0 : t.val % 11 = 0) : Holds m c t.val t.isLt := by
  have h1 : ¬t.val % 11 = 10 := by omega
  have hn : ∀ (r : Fin 512) (k : Fin 2048),
      k0_pay4 (F := Ideal) (iblk m c 0 t) (iblk m c 1 t) (ix2 r k) = nrow m c (tok t r) k := fun r k => by
    rw [normed_apply]
    simp only [blk0_apply, blk1_apply]
    rfl
  refine ⟨fun r k => ?_, fun r k => ?_⟩
  · rw [outsAt0_A m c t h0 h1]
    dsimp only
    rw [first_normed]
    exact hn r k
  · rw [outsAt0_A m c t h0 h1]
    dsimp only
    rw [first_acc, step_at m c t _ _ hn, reset_apply, zero_add, h0, zero_add, Finset.sum_range_one]

/-- What the point before left is about the same rows. -/
theorem before (n : ℕ) (hn : n < cfg0.N) (h0 : ¬n % 11 = 0) (hb : n - 1 < cfg0.N) (H : Holds m c (n - 1) hb) :
    (∀ (r : Fin 512) (k : Fin 2048), (outsAt0 m c (n - 1) hb).2.2.1 (ix2 r k) = nrow m c (tok ⟨n, hn⟩ r) k)
    ∧ ∀ (r : Fin 512) (k : Fin 2048), (outsAt0 m c (n - 1) hb).2.2.2 (ix2 r k)
      = ∑ j ∈ Finset.range (n % 11), ∑ f : Fin 512, part m c (tok ⟨n, hn⟩ r) k (512 * j + f.val) := by
  have e : ∀ r, tok ⟨n - 1, hb⟩ r = tok ⟨n, hn⟩ r := fun r => Fin.ext (by
    show 512 * ((n - 1) / 11) + r.val = 512 * (n / 11) + r.val
    omega)
  have e2 : (n - 1) % 11 + 1 = n % 11 := by omega
  refine ⟨fun r k => ?_, fun r k => ?_⟩
  · rw [H.1, e]
  · rw [H.2, e, e2]

/-- A later point that adds to the accumulator. -/
theorem add_part (t : Fin cfg0.N) (h0 : ¬t.val % 11 = 0) (hb : t.val - 1 < cfg0.N) (H : Holds m c (t.val - 1) hb)
    (r : Fin 512) (k : Fin 2048) :
    step (outsAt0 m c (t.val - 1) hb).2.2.1 (iblk m c 4 t) (iblk m c 5 t) (iblk m c 6 t) (outsAt0 m c (t.val - 1) hb).2.2.2 (ix2 r k)
      = ∑ j ∈ Finset.range (t.val % 11 + 1), ∑ f : Fin 512, part m c (tok t r) k (512 * j + f.val) := by
  obtain ⟨e1, e2⟩ := before m c t.val t.isLt h0 hb H
  rw [step_at m c t _ _ e1, e2, ← Finset.sum_range_succ]

theorem holds_later (t : Fin cfg0.N) (h0 : ¬t.val % 11 = 0) (hb : t.val - 1 < cfg0.N) (H : Holds m c (t.val - 1) hb) :
    Holds m c t.val t.isLt := by
  have e1 := (before m c t.val t.isLt h0 hb H).1
  by_cases h1 : t.val % 11 = 10
  · refine ⟨fun r k => ?_, fun r k => ?_⟩
    · rw [outsAt0_C m c t h0 h1]
      exact e1 r k
    · rw [outsAt0_C m c t h0 h1]
      dsimp only
      rw [last_acc]
      exact add_part m c t h0 hb H r k
  · refine ⟨fun r k => ?_, fun r k => ?_⟩
    · rw [outsAt0_B m c t h0 h1]
      exact e1 r k
    · rw [outsAt0_B m c t h0 h1]
      dsimp only
      rw [mid_acc]
      exact add_part m c t h0 hb H r k

theorem holds : ∀ (n : ℕ) (hn : n < cfg0.N), Holds m c n hn := by
  intro n
  induction n with
  | zero => exact fun hn => holds_first m c ⟨0, hn⟩ (Nat.zero_mod 11)
  | succ n ih =>
    intro hn
    by_cases h0 : (n + 1) % 11 = 0
    · exact holds_first m c ⟨n + 1, hn⟩ h0
    · exact holds_later m c ⟨n + 1, hn⟩ h0 (by show n < cfg0.N; omega) (ih (by omega))

/-- Token `R`'s row after the half-step, of the launched arrays. -/
def result (R : Fin 16384) (k : Fin 2048) : EReal :=
  ffnStep (xrow m c R) (gpre m c) (gpost m c) (wa m c) (wb m c) (wo m c) k

/-- The norm of that row. -/
def emitted (R : Fin 16384) (k : Fin 2048) : EReal := rms (result m c R) (gnext m c) k

/-- The accumulator the last point of a row block leaves is the feed-forward row. -/
theorem acc_last (t : Fin cfg0.N) (h1 : t.val % 11 = 10) (h0 : ¬t.val % 11 = 0) (hb : t.val - 1 < cfg0.N) (r : Fin 512)
    (k : Fin 2048) :
    step (outsAt0 m c (t.val - 1) hb).2.2.1 (iblk m c 4 t) (iblk m c 5 t) (iblk m c 6 t)
      (outsAt0 m c (t.val - 1) hb).2.2.2 (ix2 r k) = ffnRow (nrow m c (tok t r)) (wa m c) (wb m c) (wo m c) k := by
  rw [add_part m c t h0 hb (holds m c _ hb), h1]
  exact (ffnRow_blocks _ _ _ _ k).symm

/-- The half-step closed over that accumulator. -/
theorem close_last (t : Fin cfg0.N) (h1 : t.val % 11 = 10) (h0 : ¬t.val % 11 = 0) (hb : t.val - 1 < cfg0.N) (r : Fin 512)
    (k : Fin 2048) :
    k0_pay2 (F := Ideal) (iblk m c 0 t) (step (outsAt0 m c (t.val - 1) hb).2.2.1 (iblk m c 4 t) (iblk m c 5 t) (iblk m c 6 t)
      (outsAt0 m c (t.val - 1) hb).2.2.2) (iblk m c 2 t) (ix2 r k) = result m c (tok t r) k := by
  rw [close_apply]
  simp only [acc_last m c t h1 h0 hb, blk0_apply, blk2_apply]
  rfl

/-- The last point of a row block writes the half-step of its rows, -/
theorem out_last (t : Fin cfg0.N) (h1 : t.val % 11 = 10) (r : Fin 512) (k : Fin 2048) :
    (outsAt0 m c t.val t.isLt).1 (ix2 r k) = result m c (tok t r) k := by
  have h0 : ¬t.val % 11 = 0 := by omega
  have hb : t.val - 1 < cfg0.N := by have := t.isLt; omega
  rw [outsAt0_C m c t h0 h1]
  dsimp only
  rw [last_out]
  exact close_last m c t h1 h0 hb r k

/-- and its norm. -/
theorem next_last (t : Fin cfg0.N) (h1 : t.val % 11 = 10) (r : Fin 512) (k : Fin 2048) :
    (outsAt0 m c t.val t.isLt).2.1 (ix2 r k) = emitted m c (tok t r) k := by
  have h0 : ¬t.val % 11 = 0 := by omega
  have hb : t.val - 1 < cfg0.N := by have := t.isLt; omega
  rw [outsAt0_C m c t h0 h1]
  dsimp only
  rw [last_next, emitted_apply]
  simp only [close_last m c t h1 h0 hb, blk3_apply]
  rfl

/-- The point that writes token `R`'s block, and its place there. -/
theorem place (R : Fin 16384) (k : Fin 2048) :
    Value.pt7Of (ix2 R k) = 11 * (R.val / 512) + 10 ∧ Value.pt7Of (ix2 R k) < cfg0.N
      ∧ Value.loc7Of (ix2 R k) = ix2 (⟨R.val % 512, Nat.mod_lt _ (by decide)⟩ : Fin 512) k := by
  have hp : Value.pt7Of (ix2 R k) = 11 * (R.val / 512) + 10 := by
    show 11 * (1 * (R.val / 512 - 0) + 1 * (k.val / 2048 - 0)) + 10 = _
    omega
  refine ⟨hp, Nat.lt_of_lt_of_eq (by rw [hp]; omega) N_0.symm, funext fun a => Fin.ext ?_⟩
  match a with
  | ⟨0, _⟩ => rfl
  | ⟨1, _⟩ => show k.val % 2048 = k.val; omega

/-- The row of the block that token `R` is. -/
theorem tok_place (R : Fin 16384) (p : ℕ) (h : p < cfg0.N) (hp : p = 11 * (R.val / 512) + 10) :
    tok ⟨p, h⟩ ⟨R.val % 512, Nat.mod_lt _ (by decide)⟩ = R := Fin.ext (by
  show 512 * (p / 11) + R.val % 512 = R.val
  omega)

/-- The first array after the run, entry by entry. -/
theorem array_apply (R : Fin 16384) (k : Fin 2048) :
    (Value.G7 m c : Vec Ideal S16384x2048 .f32) (ix2 R k) = result m c R k := by
  obtain ⟨hp, hN, hl⟩ := place R k
  unfold Value.G7
  rw [dif_pos hN, hl, ← Value.outsAt0_sweep m c (Value.pt7Of (ix2 R k)) hN]
  exact (out_last m c ⟨Value.pt7Of (ix2 R k), hN⟩ (by show Value.pt7Of (ix2 R k) % 11 = 10; rw [hp]; omega)
    ⟨R.val % 512, Nat.mod_lt _ (by decide)⟩ k).trans (congrArg (fun R => result m c R k) (tok_place R _ hN hp))

/-- The second array, entry by entry: its blocks lie as the first's do. -/
theorem next_apply (R : Fin 16384) (k : Fin 2048) :
    (Value.G8 m c : Vec Ideal S16384x2048 .bf16) (ix2 R k) = emitted m c R k := by
  obtain ⟨hp, hN, hl⟩ : Value.pt8Of (ix2 R k) = 11 * (R.val / 512) + 10 ∧ Value.pt8Of (ix2 R k) < cfg0.N
      ∧ Value.loc8Of (ix2 R k) = ix2 (⟨R.val % 512, Nat.mod_lt _ (by decide)⟩ : Fin 512) k := place R k
  unfold Value.G8
  rw [dif_pos hN, hl, ← Value.outsAt0_sweep m c (Value.pt8Of (ix2 R k)) hN]
  exact (next_last m c ⟨Value.pt8Of (ix2 R k), hN⟩ (by show Value.pt8Of (ix2 R k) % 11 = 10; rw [hp]; omega)
    ⟨R.val % 512, Nat.mod_lt _ (by decide)⟩ k).trans (congrArg (fun R => emitted m c R k) (tok_place R _ hN hp))

end Cert.FfnNextIdeal.Fold

end
-- ==== Proof.FfnNextRef.lean ====
/-
  The reference of the feed-forward with the following norm, read entry by entry: half a step of the residual stream for
  every token, and its norm.
-/
module

public import proofs.«01_k».proof.Proof.FfnNextFold
public import proofs.«01_k».proof.Proof.Gen.FfnNextRefIdeal.Read
public import Idealize.ShloMosaic.Lib.Pointwise

@[expose] public section

noncomputable section

namespace Cert.FfnNextRefIdeal.Entry

open Cert.FfnRefIdeal.Entry (rms_ops)
open Cert.FfnNextRefIdeal Cert.FfnNextRefIdeal.Gen Cert.FfnNextRefIdeal.Read Cert.Maths
open Idealize.ShloMosaic Idealize.ShloMosaic.TcCoe Idealize.SL.Sem

variable (x0 : Vec Ideal S4x4096x2048 .f32) (x1 x2 : Vec Ideal S2x2048 .f32) (x3 : Vec Ideal S2x2048x11264 .f32)
  (x4 : Vec Ideal S2x5632x2048 .f32) (x5 : Vec Ideal S2x2048 .f32)

/-- Token `R`'s row. -/
def xrow (R : Fin 16384) (k : Fin 2048) : EReal :=
  x0 (ix3 (⟨R.val / 4096, by omega⟩ : Fin 4) (⟨R.val % 4096, by omega⟩ : Fin 4096) k)
def wa (k : Fin 2048) (f : Fin 5632) : EReal := x3 (ix3 (0 : Fin 2) k (⟨f.val, by omega⟩ : Fin 11264))
def wb (k : Fin 2048) (f : Fin 5632) : EReal := x3 (ix3 (0 : Fin 2) k (⟨5632 + f.val, by omega⟩ : Fin 11264))
def wo (f : Fin 5632) (k : Fin 2048) : EReal := x4 (ix3 (0 : Fin 2) f k)

theorem input (R : Fin 16384) (k : Fin 2048) : val_main_v0 (F := Ideal) x0 (ix2 R k) = xrow x0 R k := by
  rw [val_main_v0_apply]
  refine congrArg x0 (funext fun a => Fin.ext ?_)
  match a with
  | ⟨0, _⟩ => show (R.val * 2048 + k.val) / 8388608 = R.val / 4096; omega
  | ⟨1, _⟩ => show (R.val * 2048 + k.val) / 2048 % 4096 = R.val % 4096; omega
  | ⟨2, _⟩ => show (R.val * 2048 + k.val) % 2048 = k.val; omega

theorem scale (k : Fin 2048) (R : Fin 16384) : val_main_v14 (F := Ideal) x1 (ix2 R k) = x1 (ix2 (0 : Fin 2) k) := by
  rw [val_main_v14_apply, val_main_v13_apply, val_main_v2_apply, val_main_v1_apply]
  refine congrArg x1 (funext fun a => Fin.ext ?_)
  match a with
  | ⟨0, _⟩ => rfl
  | ⟨1, _⟩ => show k.val % 2048 = k.val; omega

theorem normed (R : Fin 16384) (k : Fin 2048) :
    val_main_v15 (F := Ideal) x0 x1 (ix2 R k) = rms (xrow x0 R) (fun k => x1 (ix2 (0 : Fin 2) k)) k := by
  rw [val_main_v15_apply, val_main_v12_apply, val_main_v11_apply, val_main_v10_apply, val_main_v9_apply, val_main_v8_apply,
    val_main_cst_1_apply, val_main_v7_apply, val_main_v6_apply, val_main_cst_0_apply, val_main_v5_apply, val_main_v4_apply,
    val_main_cst_apply, scale, ← rms_ops, ← input]
  simp only [val_main_v3_apply, ← input]
  rfl

theorem weight_in (k : Fin 2048) (F : Fin 11264) : val_main_v17 (F := Ideal) x3 (ix2 k F) = x3 (ix3 (0 : Fin 2) k F) := by
  rw [val_main_v17_apply, val_main_v16_apply]
  refine congrArg x3 (funext fun a => Fin.ext ?_)
  match a with
  | ⟨0, _⟩ => rfl
  | ⟨1, _⟩ => show (k.val * 11264 + F.val) / 11264 % 2048 = k.val; omega
  | ⟨2, _⟩ => show (k.val * 11264 + F.val) % 11264 = F.val; omega

theorem weight_out (f : Fin 5632) (k : Fin 2048) : val_main_v19 (F := Ideal) x4 (ix2 f k) = wo x4 f k := by
  rw [val_main_v19_apply, val_main_v18_apply]
  refine congrArg x4 (funext fun a => Fin.ext ?_)
  match a with
  | ⟨0, _⟩ => rfl
  | ⟨1, _⟩ => show (f.val * 2048 + k.val) / 2048 % 5632 = f.val; omega
  | ⟨2, _⟩ => show (f.val * 2048 + k.val) % 2048 = k.val; omega

/-- The normed row times a column of the input weights. -/
theorem up (R : Fin 16384) (F : Fin 11264) : val_main_v20 (F := Ideal) x0 x1 x3 (ix2 R F)
    = ∑ k, rms (xrow x0 R) (fun k => x1 (ix2 (0 : Fin 2) k)) k * x3 (ix3 (0 : Fin 2) k F) := by
  rw [val_main_v20_apply]
  exact Finset.sum_congr rfl fun k _ => congrArg₂ (· * ·) ((at2 _ R k rfl rfl).trans (normed x0 x1 R k))
    ((at2 _ k F rfl rfl).trans (weight_in x3 k F))

theorem up_gate (R : Fin 16384) (f : Fin 5632) : val_main_v21 (F := Ideal) x0 x1 x3 (ix2 R f)
    = ∑ k, rms (xrow x0 R) (fun k => x1 (ix2 (0 : Fin 2) k)) k * wa x3 k f := by
  rw [val_main_v21_apply]
  exact (at2 _ R ⟨f.val, by omega⟩ rfl rfl).trans (up x0 x1 x3 R _)

theorem up_value (R : Fin 16384) (f : Fin 5632) : val_main_v22 (F := Ideal) x0 x1 x3 (ix2 R f)
    = ∑ k, rms (xrow x0 R) (fun k => x1 (ix2 (0 : Fin 2) k)) k * wb x3 k f := by
  rw [val_main_v22_apply]
  exact (at2 _ R ⟨5632 + f.val, by omega⟩ rfl rfl).trans (up x0 x1 x3 R _)

theorem hidden_at (R : Fin 16384) (f : Fin 5632) : val_main_v24 (F := Ideal) x0 x1 x3 (ix2 R f)
    = Maths.hidden (rms (xrow x0 R) (fun k => x1 (ix2 (0 : Fin 2) k))) (wa x3) (wb x3) f := by
  rw [val_main_v24_apply, val_main_v23_apply, val_main_call0_v5_apply, val_main_call0_v4_apply, val_main_call0_cst_0_apply,
    val_main_call0_v3_apply, val_main_call0_v2_apply, val_main_call0_cst_apply, val_main_call0_v1_apply,
    val_main_call0_v0_apply, up_gate, up_value]
  simp only [Ideal.mulf_def, Ideal.addf_def, Ideal.hostDivf_def, Ideal.hostUnary_exp_def, Ideal.hostNegf_def, Ideal.negf_def,
    Ideal.ofBits_def, one_f32]
  rw [Maths.hidden_def, swiglu_def]

theorem down (R : Fin 16384) (k : Fin 2048) : val_main_v25 (F := Ideal) x0 x1 x3 x4 (ix2 R k)
    = ffnRow (rms (xrow x0 R) (fun k => x1 (ix2 (0 : Fin 2) k))) (wa x3) (wb x3) (wo x4) k := by
  rw [val_main_v25_apply]
  exact Finset.sum_congr rfl fun f _ => congrArg₂ (· * ·) ((at2 _ R f rfl rfl).trans (hidden_at x0 x1 x3 R f))
    ((at2 _ f k rfl rfl).trans (weight_out x4 f k))

theorem scale_out (k : Fin 2048) (R : Fin 16384) : val_main_v39 (F := Ideal) x2 (ix2 R k) = x2 (ix2 (0 : Fin 2) k) := by
  rw [val_main_v39_apply, val_main_v38_apply, val_main_v27_apply, val_main_v26_apply]
  refine congrArg x2 (funext fun a => Fin.ext ?_)
  match a with
  | ⟨0, _⟩ => rfl
  | ⟨1, _⟩ => show k.val % 2048 = k.val; omega

theorem normed_out (R : Fin 16384) (k : Fin 2048) : val_main_v40 (F := Ideal) x0 x1 x2 x3 x4 (ix2 R k)
    = rms (ffnRow (rms (xrow x0 R) (fun k => x1 (ix2 (0 : Fin 2) k))) (wa x3) (wb x3) (wo x4)) (fun k => x2 (ix2 (0 : Fin 2) k)) k := by
  rw [val_main_v40_apply, val_main_v37_apply, val_main_v36_apply, val_main_v35_apply, val_main_v34_apply, val_main_v33_apply,
    val_main_cst_4_apply, val_main_v32_apply, val_main_v31_apply, val_main_cst_3_apply, val_main_v30_apply, val_main_v29_apply,
    val_main_cst_2_apply, scale_out, down, ← rms_ops]
  have e : ∀ j, val_main_v28 (F := Ideal) x0 x1 x3 x4 (idx_main_v29 (idx_main_v30 (idx_main_v36 (ix2 R k))) j) = FloatOps.mulf (F := Ideal) (φ := .f32)
      (ffnRow (rms (xrow x0 R) (fun k => x1 (ix2 (0 : Fin 2) k))) (wa x3) (wb x3) (wo x4) j)
      (ffnRow (rms (xrow x0 R) (fun k => x1 (ix2 (0 : Fin 2) k))) (wa x3) (wb x3) (wo x4) j) := fun j => by
    rw [val_main_v28_apply, (at2 (val_main_v25 (F := Ideal) x0 x1 x3 x4) R j rfl rfl).trans (down x0 x1 x3 x4 R j)]
  simp only [e]

/-- The reference's first result, entry by entry. -/
theorem result (R : Fin 16384) (k : Fin 2048) : val_main_v43 (F := Ideal) x0 x1 x2 x3 x4 (ix2 R k)
    = ffnStep (xrow x0 R) (fun k => x1 (ix2 (0 : Fin 2) k)) (fun k => x2 (ix2 (0 : Fin 2) k)) (wa x3) (wb x3) (wo x4) k := by
  rw [val_main_v43_apply, val_main_v42_apply, val_main_v41_apply, val_main_cst_5_apply, normed_out, input]
  rfl

theorem scale_next (k : Fin 2048) (R : Fin 16384) : val_main_v57 (F := Ideal) x5 (ix2 R k) = x5 (ix2 (0 : Fin 2) k) := by
  rw [val_main_v57_apply, val_main_v56_apply, val_main_v45_apply, val_main_v44_apply]
  refine congrArg x5 (funext fun a => Fin.ext ?_)
  match a with
  | ⟨0, _⟩ => rfl
  | ⟨1, _⟩ => show k.val % 2048 = k.val; omega

/-- Its second result: the norm of the first. -/
theorem emitted (R : Fin 16384) (k : Fin 2048) : val_main_v59 (F := Ideal) x0 x1 x2 x3 x4 x5 (ix2 R k)
    = rms (ffnStep (xrow x0 R) (fun k => x1 (ix2 (0 : Fin 2) k)) (fun k => x2 (ix2 (0 : Fin 2) k)) (wa x3) (wb x3) (wo x4))
        (fun k => x5 (ix2 (0 : Fin 2) k)) k := by
  rw [val_main_v59_apply, val_main_v58_apply, val_main_v55_apply, val_main_v54_apply, val_main_v53_apply, val_main_v52_apply,
    val_main_v51_apply, val_main_cst_8_apply, val_main_v50_apply, val_main_v49_apply, val_main_cst_7_apply, val_main_v48_apply,
    val_main_v47_apply, val_main_cst_6_apply, scale_next, result, ← rms_ops]
  have e : ∀ j, val_main_v46 (F := Ideal) x0 x1 x2 x3 x4 (idx_main_v47 (idx_main_v48 (idx_main_v54 (ix2 R k))) j)
      = FloatOps.mulf (F := Ideal) (φ := .f32)
        (ffnStep (xrow x0 R) (fun k => x1 (ix2 (0 : Fin 2) k)) (fun k => x2 (ix2 (0 : Fin 2) k)) (wa x3) (wb x3) (wo x4) j)
        (ffnStep (xrow x0 R) (fun k => x1 (ix2 (0 : Fin 2) k)) (fun k => x2 (ix2 (0 : Fin 2) k)) (wa x3) (wb x3) (wo x4) j) :=
    fun j => by
      rw [val_main_v46_apply, (at2 (val_main_v43 (F := Ideal) x0 x1 x2 x3 x4) R j rfl rfl).trans (result x0 x1 x2 x3 x4 R j)]
  simp only [e]
  rfl

end Cert.FfnNextRefIdeal.Entry

end
-- ==== Proof.FfnNextClaim.lean ====
/-
  The claims of the feed-forward with the following norm: the reference runs to its terms with every counter at zero, and the
  kernel's two arrays equal them.
-/
module

public import proofs.«01_k».proof.Defs
public import proofs.«01_k».proof.Proof.FfnNextRef
public import Idealize.ShloMosaic.Adequacy
public import Idealize.ShloMosaic.Init
public import Idealize.ShloMosaic.Lib.Quiescent

@[expose] public section

noncomputable section

namespace Cert.Proof

open Idealize.ShloMosaic Idealize.SL.Sem

theorem ffn_next_reference_rests : quiescent_FfnNextRefIdeal := fun m ρ _ =>
  (θ_run Cert.FfnNextRefIdeal.defs _ _).mono
    (fun r h => ⟨fun c => (h c).2.2, sem_eq_zero_of_no_sems (by decide) r.2⟩)
    (Cert.FfnNextRefIdeal.Value.run (F := Ideal) m ρ)

theorem ffn_next_values : algebraic_FfnNextIdeal_FfnNextRefIdeal := by
  intro m ρ m' ρ' _ hagree
  refine ⟨_, _, Cert.FfnNextIdeal.Value.run (F := Ideal) m ρ, ?_⟩
  refine (θ_run Cert.FfnNextRefIdeal.defs _ _).mono (fun _ h c => ⟨(h c).1.trans ?_, (h c).2.1.trans ?_, (h c).2.2⟩)
    (Cert.FfnNextRefIdeal.Value.run (F := Ideal) m' ρ')
  · obtain ⟨a0, a1, a2, a3, a4, a5⟩ := hagree c
    rw [Cert.FfnNextRefIdeal.Read.val_main_v43_eq, a0, a1, a2, a3, a4]
    funext i
    obtain ⟨R, k, rfl⟩ : ∃ (R : Fin 16384) (k : Fin 2048), i = ix2 R k := ⟨_, _, ValueIdx.eq_ix2 i⟩
    exact (Cert.FfnNextRefIdeal.Entry.result _ _ _ _ _ R k).trans (Cert.FfnNextIdeal.Fold.array_apply m c R k).symm
  · obtain ⟨a0, a1, a2, a3, a4, a5⟩ := hagree c
    rw [Cert.FfnNextRefIdeal.Read.val_main_v59_eq, a0, a1, a2, a3, a4, a5]
    funext i
    obtain ⟨R, k, rfl⟩ : ∃ (R : Fin 16384) (k : Fin 2048), i = ix2 R k := ⟨_, _, ValueIdx.eq_ix2 i⟩
    exact (Cert.FfnNextRefIdeal.Entry.emitted _ _ _ _ _ _ R k).trans (Cert.FfnNextIdeal.Fold.next_apply m c R k).symm

end Cert.Proof

end
-- ==== Proof.lean ====
/-
  The proof of `Cert.Claim`.  The frames are the generated ones, and those of the
  projections are proved here; the idealized programs rewrite nothing, so `preserves` is
  trivial; the value claims are proved in the modules imported here.
-/
module

public import proofs.«01_k».proof.Defs
public import proofs.«01_k».proof.Proof.FfnClaim
public import proofs.«01_k».proof.Proof.MergeClaim
public import proofs.«01_k».proof.Proof.FfnNextClaim
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeRefIdeal.Read
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.ProjRefIdeal.Run
public import proofs.«01_k».proof.Proof.Gen.ProjRefIdeal.Read
public import proofs.«01_k».proof.Proof.Gen.ProjT
public import proofs.«01_k».proof.Proof.Gen.ProjT.Skeleton
public import proofs.«01_k».proof.Proof.Gen.ProjT.Launch
public import proofs.«01_k».proof.Proof.Gen.ProjT.Points
public import proofs.«01_k».proof.Proof.Gen.ProjT.Frame
public import proofs.«01_k».proof.Proof.Gen.ProjTIdeal
public import proofs.«01_k».proof.Proof.Gen.ProjTIdeal.Skeleton
public import proofs.«01_k».proof.Proof.Gen.ProjTIdeal.Launch
public import proofs.«01_k».proof.Proof.Gen.ProjTIdeal.Points
public import proofs.«01_k».proof.Proof.Gen.ProjTIdeal.Frame
public import proofs.«01_k».proof.Proof.Gen.ProjTRefIdeal
public import proofs.«01_k».proof.Proof.Gen.ProjTRefIdeal.Run
public import proofs.«01_k».proof.Proof.Gen.ProjTRefIdeal.Read
public import proofs.«01_k».proof.Proof.Gen.FfnNext
public import proofs.«01_k».proof.Proof.Gen.FfnNext.Frame
public import proofs.«01_k».proof.Proof.Gen.FfnNextIdeal
public import proofs.«01_k».proof.Proof.Gen.FfnNextIdeal.Frame
public import proofs.«01_k».proof.Proof.Gen.FfnNextIdeal.Value
public import proofs.«01_k».proof.Proof.Gen.FfnNextRefIdeal
public import proofs.«01_k».proof.Proof.Gen.FfnNextRefIdeal.Run
public import proofs.«01_k».proof.Proof.Gen.FfnNextRefIdeal.Read
public import Idealize.ShloMosaic.Adequacy
public import Idealize.ShloMosaic.Init

@[expose] public section

noncomputable section

namespace Cert.Proof

open Idealize.ShloMosaic Idealize.SL.Sem

theorem claim : Cert.Claim :=
  ⟨Cert.Ffn.Gen.facts, Cert.FfnIdeal.Gen.facts, Cert.FfnRefIdeal.Gen.facts,
    Cert.Merge.Gen.facts, Cert.MergeIdeal.Gen.facts, Cert.MergeRefIdeal.Gen.facts,
    Cert.Proj.Gen.facts, Cert.ProjIdeal.Gen.facts, Cert.ProjRefIdeal.Gen.facts,
    Cert.ProjT.Gen.facts, Cert.ProjTIdeal.Gen.facts, Cert.ProjTRefIdeal.Gen.facts,
    Cert.FfnNext.Gen.facts, Cert.FfnNextIdeal.Gen.facts, Cert.FfnNextRefIdeal.Gen.facts,
    fun m ρ _ => Cert.Ffn.Gen.frame m ρ, fun m ρ _ => Cert.FfnIdeal.Gen.frame m ρ, ffn_reference_rests,
    fun m ρ _ => Cert.Merge.Gen.frame m ρ, fun m ρ _ => Cert.MergeIdeal.Gen.frame m ρ, merge_reference_rests,
    proj_rests, proj_ideal_rests, proj_reference_rests,
    proj_t_rests, proj_t_ideal_rests, proj_t_reference_rests,
    fun m ρ _ => Cert.FfnNext.Gen.frame m ρ, fun m ρ _ => Cert.FfnNextIdeal.Gen.frame m ρ, ffn_next_reference_rests,
    trivial, ffn_values, trivial, merge_values, trivial, proj_values, trivial, proj_t_values,
    trivial, ffn_next_values⟩

end Cert.Proof

end
